-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .f32) (main_arg1 : FVec F S8x1024x16x128 .f32) (main_arg2 : FVec F S8x1024x16x128 .f32) : IVec S8x8x16x128 1 × IVec S8x1024x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x1024x16x128 .f32 := Host.absf main_arg1
  let main_cst_0 : FVec F S_ .f32 := constant S_ .f32 0x7F800000#32
  let main_v4 : FVec F S8x1024x16x128 .f32 := broadcastInDim S8x1024x16x128 ![] bcast_S_S8x1024x16x128 main_cst_0
  let main_v5 : IVec S8x1024x16x128 1 := cmpf .olt main_v3 main_v4
  (main_v2, main_v5)
-- ==== Pre_finite_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  bcast_S_S8x2048x16x128 : S_.BroadcastsInDim S8x2048x16x128 (![] : Fin 0 → Fin S8x2048x16x128.rank)

variable [Facts]

def fn {F : FTy → Type} [FloatOps F] (main_arg0 : FVec F S8x8x16x128 .f32) (main_arg1 : FVec F S8x2048x16x128 .f32) (main_arg2 : FVec F S8x2048x16x128 .f32) : IVec S8x8x16x128 1 × IVec S8x2048x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x2048x16x128 .f32 := Host.absf main_arg1
  let main_cst_0 : FVec F S_ .f32 := constant S_ .f32 0x7F800000#32
  let main_v4 : FVec F S8x2048x16x128 .f32 := broadcastInDim S8x2048x16x128 ![] bcast_S_S8x2048x16x128 main_cst_0
  let main_v5 : IVec S8x2048x16x128 1 := cmpf .olt main_v3 main_v4
  (main_v2, main_v5)
-- ==== Kernel.lean ====
abbrev S8x8x16x128 : Shape := ⟨4, ![8, 8, 16, 128]⟩
abbrev S8x1024x16x128 : Shape := ⟨4, ![8, 1024, 16, 128]⟩
abbrev S2x16x8x128 : Shape := ⟨4, ![2, 16, 8, 128]⟩
abbrev S2x16 : Shape := ⟨2, ![2, 16]⟩
abbrev S2x16x1024x128 : Shape := ⟨4, ![2, 16, 1024, 128]⟩
abbrev S4x8x2048 : Shape := ⟨3, ![4, 8, 2048]⟩
abbrev S4x8x16 : Shape := ⟨3, ![4, 8, 16]⟩
abbrev S4 : Shape := ⟨1, ![4]⟩
abbrev S2x4 : Shape := ⟨2, ![2, 4]⟩
abbrev S1x1 : Shape := ⟨2, ![1, 1]⟩
abbrev S_ : Shape := ⟨0, ![]⟩
abbrev S1x1x8x128 : Shape := ⟨4, ![1, 1, 8, 128]⟩
abbrev S8x128 : Shape := ⟨2, ![8, 128]⟩
abbrev S1x8x1x128 : Shape := ⟨4, ![1, 8, 1, 128]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S8x1024 : Shape := ⟨2, ![8, 1024]⟩
abbrev S8 : Shape := ⟨1, ![8]⟩
abbrev S1x8x1 : Shape := ⟨3, ![1, 8, 1]⟩
abbrev S1x8x128 : Shape := ⟨3, ![1, 8, 128]⟩
abbrev S1 : Shape := ⟨1, ![1]⟩
abbrev S1x8x2048 : Shape := ⟨3, ![1, 8, 2048]⟩
abbrev S8x2048 : Shape := ⟨2, ![8, 2048]⟩
abbrev S1x8x16 : Shape := ⟨3, ![1, 8, 16]⟩
abbrev S8x16 : Shape := ⟨2, ![8, 16]⟩
abbrev S8x1 : Shape := ⟨2, ![8, 1]⟩
abbrev S8x16x128 : Shape := ⟨3, ![8, 16, 128]⟩
abbrev S1x8x16x128 : Shape := ⟨4, ![1, 8, 16, 128]⟩

abbrev nBuf : Space → Nat
  | .hbm => 4
  | .vmem => 10
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S2x16x8x128, .f32⟩
  | .local _ .vmem, ⟨1, _⟩ => ⟨S2x16x1024x128, .f32⟩
  | .local _ .vmem, ⟨2, _⟩ => ⟨S2x16x1024x128, .f32⟩
  | .local _ .vmem, ⟨3, _⟩ => ⟨S4x8x2048, .bf16⟩
  | .local _ .vmem, ⟨4, _⟩ => ⟨S4x8x16, .f32⟩
  | .local _ .vmem, ⟨5, _⟩ => ⟨S4x8x2048, .bf16⟩
  | .local _ .vmem, ⟨6, _⟩ => ⟨S4x8x16, .f32⟩
  | .local _ .vmem, ⟨7, _⟩ => ⟨S4x8x2048, .bf16⟩
  | .local _ .vmem, ⟨8, _⟩ => ⟨S4x8x2048, .bf16⟩
  | .local _ .vmem, ⟨9, _⟩ => ⟨S8x8x16x128, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch6 : Ref sig .tc := ⟨.vmem, 3, rfl⟩
abbrev cc0_scratch7 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch10 : Ref sig .tc := ⟨.vmem, 7, rfl⟩
abbrev cc0_scratch11 : Ref sig .tc := ⟨.vmem, 8, rfl⟩
abbrev cc0_scratch12 : Ref sig .tc := ⟨.vmem, 9, rfl⟩
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_5 : BitVec 32 := 0#32
  let v13 : BitVec 1 := Scalar.cmpi .ne v12 c0_i32_5
  v13

def k0_off1 : Fin 2 → Nat :=
  let c0_i32_597 : BitVec 32 := 0#32
  let c2_i32_598 : BitVec 32 := 2#32
  let v729 : BitVec 32 := Scalar.remsi c0_i32_597 c2_i32_598
  let c0_i32_603 : BitVec 32 := 0#32
  ![v729.toNat, 0]
def k0_off2 : Fin 4 → Nat :=
  let c0_i32_597 : BitVec 32 := 0#32
  let c2_i32_598 : BitVec 32 := 2#32
  let v729 : BitVec 32 := Scalar.remsi c0_i32_597 c2_i32_598
  let c0_i32_602 : BitVec 32 := 0#32
  let c0_i32_604 : BitVec 32 := 0#32
  let c0_i32_605 : BitVec 32 := 0#32
  ![v729.toNat, 0, 0, 0]
def k0_off3 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_606 : BitVec 32 := 0#32
  let c0_i32_601 : BitVec 32 := 0#32
  let c0_i32_607 : BitVec 32 := 0#32
  ![v731.toNat, 0, 0, 0]
def k0_off4 : Fin 4 → Nat :=
  let c0_i32_597 : BitVec 32 := 0#32
  let c2_i32_598 : BitVec 32 := 2#32
  let v729 : BitVec 32 := Scalar.remsi c0_i32_597 c2_i32_598
  let c0_i32_609 : BitVec 32 := 0#32
  let c0_i32_611 : BitVec 32 := 0#32
  let c0_i32_612 : BitVec 32 := 0#32
  ![v729.toNat, 0, 0, 0]
def k0_off5 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_613 : BitVec 32 := 0#32
  let c0_i32_608 : BitVec 32 := 0#32
  let c0_i32_614 : BitVec 32 := 0#32
  ![v731.toNat, 0, 0, 0]
def k0_off6 : Fin 2 → Nat :=
  let c0_i32_597 : BitVec 32 := 0#32
  let c2_i32_598 : BitVec 32 := 2#32
  let v729 : BitVec 32 := Scalar.remsi c0_i32_597 c2_i32_598
  let c1_i32_624 : BitVec 32 := 1#32
  ![v729.toNat, 1]
def k0_off7 : Fin 4 → Nat :=
  let c0_i32_597 : BitVec 32 := 0#32
  let c2_i32_598 : BitVec 32 := 2#32
  let v729 : BitVec 32 := Scalar.remsi c0_i32_597 c2_i32_598
  let c1_i32_623 : BitVec 32 := 1#32
  let c0_i32_625 : BitVec 32 := 0#32
  let c0_i32_626 : BitVec 32 := 0#32
  ![v729.toNat, 1, 0, 0]
def k0_off8 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_627 : BitVec 32 := 0#32
  let c1_i32_622 : BitVec 32 := 1#32
  let c0_i32_628 : BitVec 32 := 0#32
  ![v731.toNat, 0, 1, 0]
def k0_off9 : Fin 4 → Nat :=
  let c0_i32_597 : BitVec 32 := 0#32
  let c2_i32_598 : BitVec 32 := 2#32
  let v729 : BitVec 32 := Scalar.remsi c0_i32_597 c2_i32_598
  let c1_i32_630 : BitVec 32 := 1#32
  let c0_i32_632 : BitVec 32 := 0#32
  let c0_i32_633 : BitVec 32 := 0#32
  ![v729.toNat, 1, 0, 0]
def k0_off10 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_634 : BitVec 32 := 0#32
  let c1_i32_629 : BitVec 32 := 1#32
  let c0_i32_635 : BitVec 32 := 0#32
  ![v731.toNat, 0, 1, 0]
def k0_off11 : Fin 2 → Nat :=
  let c0_i32_597 : BitVec 32 := 0#32
  let c2_i32_598 : BitVec 32 := 2#32
  let v729 : BitVec 32 := Scalar.remsi c0_i32_597 c2_i32_598
  let c2_i32_645 : BitVec 32 := 2#32
  ![v729.toNat, 2]
def k0_off12 : Fin 4 → Nat :=
  let c0_i32_597 : BitVec 32 := 0#32
  let c2_i32_598 : BitVec 32 := 2#32
  let v729 : BitVec 32 := Scalar.remsi c0_i32_597 c2_i32_598
  let c2_i32_644 : BitVec 32 := 2#32
  let c0_i32_646 : BitVec 32 := 0#32
  let c0_i32_647 : BitVec 32 := 0#32
  ![v729.toNat, 2, 0, 0]
def k0_off13 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_648 : BitVec 32 := 0#32
  let c2_i32_643 : BitVec 32 := 2#32
  let c0_i32_649 : BitVec 32 := 0#32
  ![v731.toNat, 0, 2, 0]
def k0_off14 : Fin 4 → Nat :=
  let c0_i32_597 : BitVec 32 := 0#32
  let c2_i32_598 : BitVec 32 := 2#32
  let v729 : BitVec 32 := Scalar.remsi c0_i32_597 c2_i32_598
  let c2_i32_651 : BitVec 32 := 2#32
  let c0_i32_653 : BitVec 32 := 0#32
  let c0_i32_654 : BitVec 32 := 0#32
  ![v729.toNat, 2, 0, 0]
def k0_off15 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_655 : BitVec 32 := 0#32
  let c2_i32_650 : BitVec 32 := 2#32
  let c0_i32_656 : BitVec 32 := 0#32
  ![v731.toNat, 0, 2, 0]
def k0_off16 : Fin 2 → Nat :=
  let c0_i32_597 : BitVec 32 := 0#32
  let c2_i32_598 : BitVec 32 := 2#32
  let v729 : BitVec 32 := Scalar.remsi c0_i32_597 c2_i32_598
  let c3_i32_666 : BitVec 32 := 3#32
  ![v729.toNat, 3]
def k0_off17 : Fin 4 → Nat :=
  let c0_i32_597 : BitVec 32 := 0#32
  let c2_i32_598 : BitVec 32 := 2#32
  let v729 : BitVec 32 := Scalar.remsi c0_i32_597 c2_i32_598
  let c3_i32_665 : BitVec 32 := 3#32
  let c0_i32_667 : BitVec 32 := 0#32
  let c0_i32_668 : BitVec 32 := 0#32
  ![v729.toNat, 3, 0, 0]
def k0_off18 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_669 : BitVec 32 := 0#32
  let c3_i32_664 : BitVec 32 := 3#32
  let c0_i32_670 : BitVec 32 := 0#32
  ![v731.toNat, 0, 3, 0]
def k0_off19 : Fin 4 → Nat :=
  let c0_i32_597 : BitVec 32 := 0#32
  let c2_i32_598 : BitVec 32 := 2#32
  let v729 : BitVec 32 := Scalar.remsi c0_i32_597 c2_i32_598
  let c3_i32_672 : BitVec 32 := 3#32
  let c0_i32_674 : BitVec 32 := 0#32
  let c0_i32_675 : BitVec 32 := 0#32
  ![v729.toNat, 3, 0, 0]
def k0_off20 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_676 : BitVec 32 := 0#32
  let c3_i32_671 : BitVec 32 := 3#32
  let c0_i32_677 : BitVec 32 := 0#32
  ![v731.toNat, 0, 3, 0]
def k0_off21 : Fin 2 → Nat :=
  let c0_i32_597 : BitVec 32 := 0#32
  let c2_i32_598 : BitVec 32 := 2#32
  let v729 : BitVec 32 := Scalar.remsi c0_i32_597 c2_i32_598
  let c4_i32_687 : BitVec 32 := 4#32
  ![v729.toNat, 4]
def k0_off22 : Fin 4 → Nat :=
  let c0_i32_597 : BitVec 32 := 0#32
  let c2_i32_598 : BitVec 32 := 2#32
  let v729 : BitVec 32 := Scalar.remsi c0_i32_597 c2_i32_598
  let c4_i32_686 : BitVec 32 := 4#32
  let c0_i32_688 : BitVec 32 := 0#32
  let c0_i32_689 : BitVec 32 := 0#32
  ![v729.toNat, 4, 0, 0]
def k0_off23 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_690 : BitVec 32 := 0#32
  let c4_i32_685 : BitVec 32 := 4#32
  let c0_i32_691 : BitVec 32 := 0#32
  ![v731.toNat, 0, 4, 0]
def k0_off24 : Fin 4 → Nat :=
  let c0_i32_597 : BitVec 32 := 0#32
  let c2_i32_598 : BitVec 32 := 2#32
  let v729 : BitVec 32 := Scalar.remsi c0_i32_597 c2_i32_598
  let c4_i32_693 : BitVec 32 := 4#32
  let c0_i32_695 : BitVec 32 := 0#32
  let c0_i32_696 : BitVec 32 := 0#32
  ![v729.toNat, 4, 0, 0]
def k0_off25 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_697 : BitVec 32 := 0#32
  let c4_i32_692 : BitVec 32 := 4#32
  let c0_i32_698 : BitVec 32 := 0#32
  ![v731.toNat, 0, 4, 0]
def k0_off26 : Fin 2 → Nat :=
  let c0_i32_597 : BitVec 32 := 0#32
  let c2_i32_598 : BitVec 32 := 2#32
  let v729 : BitVec 32 := Scalar.remsi c0_i32_597 c2_i32_598
  let c5_i32_708 : BitVec 32 := 5#32
  ![v729.toNat, 5]
def k0_off27 : Fin 4 → Nat :=
  let c0_i32_597 : BitVec 32 := 0#32
  let c2_i32_598 : BitVec 32 := 2#32
  let v729 : BitVec 32 := Scalar.remsi c0_i32_597 c2_i32_598
  let c5_i32_707 : BitVec 32 := 5#32
  let c0_i32_709 : BitVec 32 := 0#32
  let c0_i32_710 : BitVec 32 := 0#32
  ![v729.toNat, 5, 0, 0]
def k0_off28 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_711 : BitVec 32 := 0#32
  let c5_i32_706 : BitVec 32 := 5#32
  let c0_i32_712 : BitVec 32 := 0#32
  ![v731.toNat, 0, 5, 0]
def k0_off29 : Fin 4 → Nat :=
  let c0_i32_597 : BitVec 32 := 0#32
  let c2_i32_598 : BitVec 32 := 2#32
  let v729 : BitVec 32 := Scalar.remsi c0_i32_597 c2_i32_598
  let c5_i32_714 : BitVec 32 := 5#32
  let c0_i32_716 : BitVec 32 := 0#32
  let c0_i32_717 : BitVec 32 := 0#32
  ![v729.toNat, 5, 0, 0]
def k0_off30 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_718 : BitVec 32 := 0#32
  let c5_i32_713 : BitVec 32 := 5#32
  let c0_i32_719 : BitVec 32 := 0#32
  ![v731.toNat, 0, 5, 0]
def k0_off31 : Fin 2 → Nat :=
  let c0_i32_597 : BitVec 32 := 0#32
  let c2_i32_598 : BitVec 32 := 2#32
  let v729 : BitVec 32 := Scalar.remsi c0_i32_597 c2_i32_598
  let c6_i32_729 : BitVec 32 := 6#32
  ![v729.toNat, 6]
def k0_off32 : Fin 4 → Nat :=
  let c0_i32_597 : BitVec 32 := 0#32
  let c2_i32_598 : BitVec 32 := 2#32
  let v729 : BitVec 32 := Scalar.remsi c0_i32_597 c2_i32_598
  let c6_i32_728 : BitVec 32 := 6#32
  let c0_i32_730 : BitVec 32 := 0#32
  let c0_i32_731 : BitVec 32 := 0#32
  ![v729.toNat, 6, 0, 0]
def k0_off33 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_732 : BitVec 32 := 0#32
  let c6_i32_727 : BitVec 32 := 6#32
  let c0_i32_733 : BitVec 32 := 0#32
  ![v731.toNat, 0, 6, 0]
def k0_off34 : Fin 4 → Nat :=
  let c0_i32_597 : BitVec 32 := 0#32
  let c2_i32_598 : BitVec 32 := 2#32
  let v729 : BitVec 32 := Scalar.remsi c0_i32_597 c2_i32_598
  let c6_i32_735 : BitVec 32 := 6#32
  let c0_i32_737 : BitVec 32 := 0#32
  let c0_i32_738 : BitVec 32 := 0#32
  ![v729.toNat, 6, 0, 0]
def k0_off35 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_739 : BitVec 32 := 0#32
  let c6_i32_734 : BitVec 32 := 6#32
  let c0_i32_740 : BitVec 32 := 0#32
  ![v731.toNat, 0, 6, 0]
def k0_off36 : Fin 2 → Nat :=
  let c0_i32_597 : BitVec 32 := 0#32
  let c2_i32_598 : BitVec 32 := 2#32
  let v729 : BitVec 32 := Scalar.remsi c0_i32_597 c2_i32_598
  let c7_i32_750 : BitVec 32 := 7#32
  ![v729.toNat, 7]
def k0_off37 : Fin 4 → Nat :=
  let c0_i32_597 : BitVec 32 := 0#32
  let c2_i32_598 : BitVec 32 := 2#32
  let v729 : BitVec 32 := Scalar.remsi c0_i32_597 c2_i32_598
  let c7_i32_749 : BitVec 32 := 7#32
  let c0_i32_751 : BitVec 32 := 0#32
  let c0_i32_752 : BitVec 32 := 0#32
  ![v729.toNat, 7, 0, 0]
def k0_off38 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_753 : BitVec 32 := 0#32
  let c7_i32_748 : BitVec 32 := 7#32
  let c0_i32_754 : BitVec 32 := 0#32
  ![v731.toNat, 0, 7, 0]
def k0_off39 : Fin 4 → Nat :=
  let c0_i32_597 : BitVec 32 := 0#32
  let c2_i32_598 : BitVec 32 := 2#32
  let v729 : BitVec 32 := Scalar.remsi c0_i32_597 c2_i32_598
  let c7_i32_756 : BitVec 32 := 7#32
  let c0_i32_758 : BitVec 32 := 0#32
  let c0_i32_759 : BitVec 32 := 0#32
  ![v729.toNat, 7, 0, 0]
def k0_off40 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_760 : BitVec 32 := 0#32
  let c7_i32_755 : BitVec 32 := 7#32
  let c0_i32_761 : BitVec 32 := 0#32
  ![v731.toNat, 0, 7, 0]
def k0_off41 : Fin 2 → Nat :=
  let c0_i32_597 : BitVec 32 := 0#32
  let c2_i32_598 : BitVec 32 := 2#32
  let v729 : BitVec 32 := Scalar.remsi c0_i32_597 c2_i32_598
  let c8_i32_771 : BitVec 32 := 8#32
  ![v729.toNat, 8]
def k0_off42 : Fin 4 → Nat :=
  let c0_i32_597 : BitVec 32 := 0#32
  let c2_i32_598 : BitVec 32 := 2#32
  let v729 : BitVec 32 := Scalar.remsi c0_i32_597 c2_i32_598
  let c8_i32_770 : BitVec 32 := 8#32
  let c0_i32_772 : BitVec 32 := 0#32
  let c0_i32_773 : BitVec 32 := 0#32
  ![v729.toNat, 8, 0, 0]
def k0_off43 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_774 : BitVec 32 := 0#32
  let c8_i32_769 : BitVec 32 := 8#32
  let c0_i32_775 : BitVec 32 := 0#32
  ![v731.toNat, 0, 8, 0]
def k0_off44 : Fin 4 → Nat :=
  let c0_i32_597 : BitVec 32 := 0#32
  let c2_i32_598 : BitVec 32 := 2#32
  let v729 : BitVec 32 := Scalar.remsi c0_i32_597 c2_i32_598
  let c8_i32_777 : BitVec 32 := 8#32
  let c0_i32_779 : BitVec 32 := 0#32
  let c0_i32_780 : BitVec 32 := 0#32
  ![v729.toNat, 8, 0, 0]
def k0_off45 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_781 : BitVec 32 := 0#32
  let c8_i32_776 : BitVec 32 := 8#32
  let c0_i32_782 : BitVec 32 := 0#32
  ![v731.toNat, 0, 8, 0]
def k0_off46 : Fin 2 → Nat :=
  let c0_i32_597 : BitVec 32 := 0#32
  let c2_i32_598 : BitVec 32 := 2#32
  let v729 : BitVec 32 := Scalar.remsi c0_i32_597 c2_i32_598
  let c9_i32_792 : BitVec 32 := 9#32
  ![v729.toNat, 9]
def k0_off47 : Fin 4 → Nat :=
  let c0_i32_597 : BitVec 32 := 0#32
  let c2_i32_598 : BitVec 32 := 2#32
  let v729 : BitVec 32 := Scalar.remsi c0_i32_597 c2_i32_598
  let c9_i32_791 : BitVec 32 := 9#32
  let c0_i32_793 : BitVec 32 := 0#32
  let c0_i32_794 : BitVec 32 := 0#32
  ![v729.toNat, 9, 0, 0]
def k0_off48 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_795 : BitVec 32 := 0#32
  let c9_i32_790 : BitVec 32 := 9#32
  let c0_i32_796 : BitVec 32 := 0#32
  ![v731.toNat, 0, 9, 0]
def k0_off49 : Fin 4 → Nat :=
  let c0_i32_597 : BitVec 32 := 0#32
  let c2_i32_598 : BitVec 32 := 2#32
  let v729 : BitVec 32 := Scalar.remsi c0_i32_597 c2_i32_598
  let c9_i32_798 : BitVec 32 := 9#32
  let c0_i32_800 : BitVec 32 := 0#32
  let c0_i32_801 : BitVec 32 := 0#32
  ![v729.toNat, 9, 0, 0]
def k0_off50 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_802 : BitVec 32 := 0#32
  let c9_i32_797 : BitVec 32 := 9#32
  let c0_i32_803 : BitVec 32 := 0#32
  ![v731.toNat, 0, 9, 0]
def k0_off51 : Fin 2 → Nat :=
  let c0_i32_597 : BitVec 32 := 0#32
  let c2_i32_598 : BitVec 32 := 2#32
  let v729 : BitVec 32 := Scalar.remsi c0_i32_597 c2_i32_598
  let c10_i32_813 : BitVec 32 := 10#32
  ![v729.toNat, 10]
def k0_off52 : Fin 4 → Nat :=
  let c0_i32_597 : BitVec 32 := 0#32
  let c2_i32_598 : BitVec 32 := 2#32
  let v729 : BitVec 32 := Scalar.remsi c0_i32_597 c2_i32_598
  let c10_i32_812 : BitVec 32 := 10#32
  let c0_i32_814 : BitVec 32 := 0#32
  let c0_i32_815 : BitVec 32 := 0#32
  ![v729.toNat, 10, 0, 0]
def k0_off53 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_816 : BitVec 32 := 0#32
  let c10_i32_811 : BitVec 32 := 10#32
  let c0_i32_817 : BitVec 32 := 0#32
  ![v731.toNat, 0, 10, 0]
def k0_off54 : Fin 4 → Nat :=
  let c0_i32_597 : BitVec 32 := 0#32
  let c2_i32_598 : BitVec 32 := 2#32
  let v729 : BitVec 32 := Scalar.remsi c0_i32_597 c2_i32_598
  let c10_i32_819 : BitVec 32 := 10#32
  let c0_i32_821 : BitVec 32 := 0#32
  let c0_i32_822 : BitVec 32 := 0#32
  ![v729.toNat, 10, 0, 0]
def k0_off55 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_823 : BitVec 32 := 0#32
  let c10_i32_818 : BitVec 32 := 10#32
  let c0_i32_824 : BitVec 32 := 0#32
  ![v731.toNat, 0, 10, 0]
def k0_off56 : Fin 2 → Nat :=
  let c0_i32_597 : BitVec 32 := 0#32
  let c2_i32_598 : BitVec 32 := 2#32
  let v729 : BitVec 32 := Scalar.remsi c0_i32_597 c2_i32_598
  let c11_i32_834 : BitVec 32 := 11#32
  ![v729.toNat, 11]
def k0_off57 : Fin 4 → Nat :=
  let c0_i32_597 : BitVec 32 := 0#32
  let c2_i32_598 : BitVec 32 := 2#32
  let v729 : BitVec 32 := Scalar.remsi c0_i32_597 c2_i32_598
  let c11_i32_833 : BitVec 32 := 11#32
  let c0_i32_835 : BitVec 32 := 0#32
  let c0_i32_836 : BitVec 32 := 0#32
  ![v729.toNat, 11, 0, 0]
def k0_off58 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_837 : BitVec 32 := 0#32
  let c11_i32_832 : BitVec 32 := 11#32
  let c0_i32_838 : BitVec 32 := 0#32
  ![v731.toNat, 0, 11, 0]
def k0_off59 : Fin 4 → Nat :=
  let c0_i32_597 : BitVec 32 := 0#32
  let c2_i32_598 : BitVec 32 := 2#32
  let v729 : BitVec 32 := Scalar.remsi c0_i32_597 c2_i32_598
  let c11_i32_840 : BitVec 32 := 11#32
  let c0_i32_842 : BitVec 32 := 0#32
  let c0_i32_843 : BitVec 32 := 0#32
  ![v729.toNat, 11, 0, 0]
def k0_off60 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_844 : BitVec 32 := 0#32
  let c11_i32_839 : BitVec 32 := 11#32
  let c0_i32_845 : BitVec 32 := 0#32
  ![v731.toNat, 0, 11, 0]
def k0_off61 : Fin 2 → Nat :=
  let c0_i32_597 : BitVec 32 := 0#32
  let c2_i32_598 : BitVec 32 := 2#32
  let v729 : BitVec 32 := Scalar.remsi c0_i32_597 c2_i32_598
  let c12_i32_855 : BitVec 32 := 12#32
  ![v729.toNat, 12]
def k0_off62 : Fin 4 → Nat :=
  let c0_i32_597 : BitVec 32 := 0#32
  let c2_i32_598 : BitVec 32 := 2#32
  let v729 : BitVec 32 := Scalar.remsi c0_i32_597 c2_i32_598
  let c12_i32_854 : BitVec 32 := 12#32
  let c0_i32_856 : BitVec 32 := 0#32
  let c0_i32_857 : BitVec 32 := 0#32
  ![v729.toNat, 12, 0, 0]
def k0_off63 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_858 : BitVec 32 := 0#32
  let c12_i32_853 : BitVec 32 := 12#32
  let c0_i32_859 : BitVec 32 := 0#32
  ![v731.toNat, 0, 12, 0]
def k0_off64 : Fin 4 → Nat :=
  let c0_i32_597 : BitVec 32 := 0#32
  let c2_i32_598 : BitVec 32 := 2#32
  let v729 : BitVec 32 := Scalar.remsi c0_i32_597 c2_i32_598
  let c12_i32_861 : BitVec 32 := 12#32
  let c0_i32_863 : BitVec 32 := 0#32
  let c0_i32_864 : BitVec 32 := 0#32
  ![v729.toNat, 12, 0, 0]
def k0_off65 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_865 : BitVec 32 := 0#32
  let c12_i32_860 : BitVec 32 := 12#32
  let c0_i32_866 : BitVec 32 := 0#32
  ![v731.toNat, 0, 12, 0]
def k0_off66 : Fin 2 → Nat :=
  let c0_i32_597 : BitVec 32 := 0#32
  let c2_i32_598 : BitVec 32 := 2#32
  let v729 : BitVec 32 := Scalar.remsi c0_i32_597 c2_i32_598
  let c13_i32_876 : BitVec 32 := 13#32
  ![v729.toNat, 13]
def k0_off67 : Fin 4 → Nat :=
  let c0_i32_597 : BitVec 32 := 0#32
  let c2_i32_598 : BitVec 32 := 2#32
  let v729 : BitVec 32 := Scalar.remsi c0_i32_597 c2_i32_598
  let c13_i32_875 : BitVec 32 := 13#32
  let c0_i32_877 : BitVec 32 := 0#32
  let c0_i32_878 : BitVec 32 := 0#32
  ![v729.toNat, 13, 0, 0]
def k0_off68 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_879 : BitVec 32 := 0#32
  let c13_i32_874 : BitVec 32 := 13#32
  let c0_i32_880 : BitVec 32 := 0#32
  ![v731.toNat, 0, 13, 0]
def k0_off69 : Fin 4 → Nat :=
  let c0_i32_597 : BitVec 32 := 0#32
  let c2_i32_598 : BitVec 32 := 2#32
  let v729 : BitVec 32 := Scalar.remsi c0_i32_597 c2_i32_598
  let c13_i32_882 : BitVec 32 := 13#32
  let c0_i32_884 : BitVec 32 := 0#32
  let c0_i32_885 : BitVec 32 := 0#32
  ![v729.toNat, 13, 0, 0]
def k0_off70 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_886 : BitVec 32 := 0#32
  let c13_i32_881 : BitVec 32 := 13#32
  let c0_i32_887 : BitVec 32 := 0#32
  ![v731.toNat, 0, 13, 0]
def k0_off71 : Fin 2 → Nat :=
  let c0_i32_597 : BitVec 32 := 0#32
  let c2_i32_598 : BitVec 32 := 2#32
  let v729 : BitVec 32 := Scalar.remsi c0_i32_597 c2_i32_598
  let c14_i32_897 : BitVec 32 := 14#32
  ![v729.toNat, 14]
def k0_off72 : Fin 4 → Nat :=
  let c0_i32_597 : BitVec 32 := 0#32
  let c2_i32_598 : BitVec 32 := 2#32
  let v729 : BitVec 32 := Scalar.remsi c0_i32_597 c2_i32_598
  let c14_i32_896 : BitVec 32 := 14#32
  let c0_i32_898 : BitVec 32 := 0#32
  let c0_i32_899 : BitVec 32 := 0#32
  ![v729.toNat, 14, 0, 0]
def k0_off73 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_900 : BitVec 32 := 0#32
  let c14_i32_895 : BitVec 32 := 14#32
  let c0_i32_901 : BitVec 32 := 0#32
  ![v731.toNat, 0, 14, 0]
def k0_off74 : Fin 4 → Nat :=
  let c0_i32_597 : BitVec 32 := 0#32
  let c2_i32_598 : BitVec 32 := 2#32
  let v729 : BitVec 32 := Scalar.remsi c0_i32_597 c2_i32_598
  let c14_i32_903 : BitVec 32 := 14#32
  let c0_i32_905 : BitVec 32 := 0#32
  let c0_i32_906 : BitVec 32 := 0#32
  ![v729.toNat, 14, 0, 0]
def k0_off75 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_907 : BitVec 32 := 0#32
  let c14_i32_902 : BitVec 32 := 14#32
  let c0_i32_908 : BitVec 32 := 0#32
  ![v731.toNat, 0, 14, 0]
def k0_off76 : Fin 2 → Nat :=
  let c0_i32_597 : BitVec 32 := 0#32
  let c2_i32_598 : BitVec 32 := 2#32
  let v729 : BitVec 32 := Scalar.remsi c0_i32_597 c2_i32_598
  let c15_i32_918 : BitVec 32 := 15#32
  ![v729.toNat, 15]
def k0_off77 : Fin 4 → Nat :=
  let c0_i32_597 : BitVec 32 := 0#32
  let c2_i32_598 : BitVec 32 := 2#32
  let v729 : BitVec 32 := Scalar.remsi c0_i32_597 c2_i32_598
  let c15_i32_917 : BitVec 32 := 15#32
  let c0_i32_919 : BitVec 32 := 0#32
  let c0_i32_920 : BitVec 32 := 0#32
  ![v729.toNat, 15, 0, 0]
def k0_off78 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_921 : BitVec 32 := 0#32
  let c15_i32_916 : BitVec 32 := 15#32
  let c0_i32_922 : BitVec 32 := 0#32
  ![v731.toNat, 0, 15, 0]
def k0_off79 : Fin 4 → Nat :=
  let c0_i32_597 : BitVec 32 := 0#32
  let c2_i32_598 : BitVec 32 := 2#32
  let v729 : BitVec 32 := Scalar.remsi c0_i32_597 c2_i32_598
  let c15_i32_924 : BitVec 32 := 15#32
  let c0_i32_926 : BitVec 32 := 0#32
  let c0_i32_927 : BitVec 32 := 0#32
  ![v729.toNat, 15, 0, 0]
def k0_off80 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v730 : BitVec 32 := Scalar.muli v5 c4_i32_599
  let c0_i32_600 : BitVec 32 := 0#32
  let v731 : BitVec 32 := Scalar.addi v730 c0_i32_600
  let c0_i32_928 : BitVec 32 := 0#32
  let c15_i32_923 : BitVec 32 := 15#32
  let c0_i32_929 : BitVec 32 := 0#32
  ![v731.toNat, 0, 15, 0]
def k0_cond2 (i : grid0.Coords) : BitVec 1 :=
  let arg0 : BitVec 32 := BitVec.ofNat 32 (i 0).val
  let c3_i32 : BitVec 32 := 3#32
  let v14 : BitVec 1 := Scalar.cmpi .slt arg0 c3_i32
  let v15 : BitVec 32 := Scalar.extui v14
  let c0_i32_6 : BitVec 32 := 0#32
  let v16 : BitVec 1 := Scalar.cmpi .ne v15 c0_i32_6
  v16

def k0_off81 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c0_i32_602 : BitVec 32 := 0#32
  ![v730.toNat, 0]
def k0_off82 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c0_i32_601 : BitVec 32 := 0#32
  let c0_i32_603 : BitVec 32 := 0#32
  let c0_i32_604 : BitVec 32 := 0#32
  ![v730.toNat, 0, 0, 0]
def k0_off83 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_605 : BitVec 32 := 0#32
  let c0_i32_600 : BitVec 32 := 0#32
  let c0_i32_606 : BitVec 32 := 0#32
  ![v732.toNat, 0, 0, 0]
def k0_off84 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c0_i32_608 : BitVec 32 := 0#32
  let c0_i32_610 : BitVec 32 := 0#32
  let c0_i32_611 : BitVec 32 := 0#32
  ![v730.toNat, 0, 0, 0]
def k0_off85 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_612 : BitVec 32 := 0#32
  let c0_i32_607 : BitVec 32 := 0#32
  let c0_i32_613 : BitVec 32 := 0#32
  ![v732.toNat, 0, 0, 0]
def k0_off86 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c1_i32_623 : BitVec 32 := 1#32
  ![v730.toNat, 1]
def k0_off87 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c1_i32_622 : BitVec 32 := 1#32
  let c0_i32_624 : BitVec 32 := 0#32
  let c0_i32_625 : BitVec 32 := 0#32
  ![v730.toNat, 1, 0, 0]
def k0_off88 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_626 : BitVec 32 := 0#32
  let c1_i32_621 : BitVec 32 := 1#32
  let c0_i32_627 : BitVec 32 := 0#32
  ![v732.toNat, 0, 1, 0]
def k0_off89 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c1_i32_629 : BitVec 32 := 1#32
  let c0_i32_631 : BitVec 32 := 0#32
  let c0_i32_632 : BitVec 32 := 0#32
  ![v730.toNat, 1, 0, 0]
def k0_off90 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_633 : BitVec 32 := 0#32
  let c1_i32_628 : BitVec 32 := 1#32
  let c0_i32_634 : BitVec 32 := 0#32
  ![v732.toNat, 0, 1, 0]
def k0_off91 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c2_i32_644 : BitVec 32 := 2#32
  ![v730.toNat, 2]
def k0_off92 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c2_i32_643 : BitVec 32 := 2#32
  let c0_i32_645 : BitVec 32 := 0#32
  let c0_i32_646 : BitVec 32 := 0#32
  ![v730.toNat, 2, 0, 0]
def k0_off93 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_647 : BitVec 32 := 0#32
  let c2_i32_642 : BitVec 32 := 2#32
  let c0_i32_648 : BitVec 32 := 0#32
  ![v732.toNat, 0, 2, 0]
def k0_off94 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c2_i32_650 : BitVec 32 := 2#32
  let c0_i32_652 : BitVec 32 := 0#32
  let c0_i32_653 : BitVec 32 := 0#32
  ![v730.toNat, 2, 0, 0]
def k0_off95 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_654 : BitVec 32 := 0#32
  let c2_i32_649 : BitVec 32 := 2#32
  let c0_i32_655 : BitVec 32 := 0#32
  ![v732.toNat, 0, 2, 0]
def k0_off96 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c3_i32_665 : BitVec 32 := 3#32
  ![v730.toNat, 3]
def k0_off97 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c3_i32_664 : BitVec 32 := 3#32
  let c0_i32_666 : BitVec 32 := 0#32
  let c0_i32_667 : BitVec 32 := 0#32
  ![v730.toNat, 3, 0, 0]
def k0_off98 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_668 : BitVec 32 := 0#32
  let c3_i32_663 : BitVec 32 := 3#32
  let c0_i32_669 : BitVec 32 := 0#32
  ![v732.toNat, 0, 3, 0]
def k0_off99 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c3_i32_671 : BitVec 32 := 3#32
  let c0_i32_673 : BitVec 32 := 0#32
  let c0_i32_674 : BitVec 32 := 0#32
  ![v730.toNat, 3, 0, 0]
def k0_off100 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_675 : BitVec 32 := 0#32
  let c3_i32_670 : BitVec 32 := 3#32
  let c0_i32_676 : BitVec 32 := 0#32
  ![v732.toNat, 0, 3, 0]
def k0_off101 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c4_i32_686 : BitVec 32 := 4#32
  ![v730.toNat, 4]
def k0_off102 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c4_i32_685 : BitVec 32 := 4#32
  let c0_i32_687 : BitVec 32 := 0#32
  let c0_i32_688 : BitVec 32 := 0#32
  ![v730.toNat, 4, 0, 0]
def k0_off103 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_689 : BitVec 32 := 0#32
  let c4_i32_684 : BitVec 32 := 4#32
  let c0_i32_690 : BitVec 32 := 0#32
  ![v732.toNat, 0, 4, 0]
def k0_off104 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c4_i32_692 : BitVec 32 := 4#32
  let c0_i32_694 : BitVec 32 := 0#32
  let c0_i32_695 : BitVec 32 := 0#32
  ![v730.toNat, 4, 0, 0]
def k0_off105 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_696 : BitVec 32 := 0#32
  let c4_i32_691 : BitVec 32 := 4#32
  let c0_i32_697 : BitVec 32 := 0#32
  ![v732.toNat, 0, 4, 0]
def k0_off106 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c5_i32_707 : BitVec 32 := 5#32
  ![v730.toNat, 5]
def k0_off107 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c5_i32_706 : BitVec 32 := 5#32
  let c0_i32_708 : BitVec 32 := 0#32
  let c0_i32_709 : BitVec 32 := 0#32
  ![v730.toNat, 5, 0, 0]
def k0_off108 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_710 : BitVec 32 := 0#32
  let c5_i32_705 : BitVec 32 := 5#32
  let c0_i32_711 : BitVec 32 := 0#32
  ![v732.toNat, 0, 5, 0]
def k0_off109 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c5_i32_713 : BitVec 32 := 5#32
  let c0_i32_715 : BitVec 32 := 0#32
  let c0_i32_716 : BitVec 32 := 0#32
  ![v730.toNat, 5, 0, 0]
def k0_off110 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_717 : BitVec 32 := 0#32
  let c5_i32_712 : BitVec 32 := 5#32
  let c0_i32_718 : BitVec 32 := 0#32
  ![v732.toNat, 0, 5, 0]
def k0_off111 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c6_i32_728 : BitVec 32 := 6#32
  ![v730.toNat, 6]
def k0_off112 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c6_i32_727 : BitVec 32 := 6#32
  let c0_i32_729 : BitVec 32 := 0#32
  let c0_i32_730 : BitVec 32 := 0#32
  ![v730.toNat, 6, 0, 0]
def k0_off113 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_731 : BitVec 32 := 0#32
  let c6_i32_726 : BitVec 32 := 6#32
  let c0_i32_732 : BitVec 32 := 0#32
  ![v732.toNat, 0, 6, 0]
def k0_off114 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c6_i32_734 : BitVec 32 := 6#32
  let c0_i32_736 : BitVec 32 := 0#32
  let c0_i32_737 : BitVec 32 := 0#32
  ![v730.toNat, 6, 0, 0]
def k0_off115 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_738 : BitVec 32 := 0#32
  let c6_i32_733 : BitVec 32 := 6#32
  let c0_i32_739 : BitVec 32 := 0#32
  ![v732.toNat, 0, 6, 0]
def k0_off116 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c7_i32_749 : BitVec 32 := 7#32
  ![v730.toNat, 7]
def k0_off117 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c7_i32_748 : BitVec 32 := 7#32
  let c0_i32_750 : BitVec 32 := 0#32
  let c0_i32_751 : BitVec 32 := 0#32
  ![v730.toNat, 7, 0, 0]
def k0_off118 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_752 : BitVec 32 := 0#32
  let c7_i32_747 : BitVec 32 := 7#32
  let c0_i32_753 : BitVec 32 := 0#32
  ![v732.toNat, 0, 7, 0]
def k0_off119 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c7_i32_755 : BitVec 32 := 7#32
  let c0_i32_757 : BitVec 32 := 0#32
  let c0_i32_758 : BitVec 32 := 0#32
  ![v730.toNat, 7, 0, 0]
def k0_off120 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_759 : BitVec 32 := 0#32
  let c7_i32_754 : BitVec 32 := 7#32
  let c0_i32_760 : BitVec 32 := 0#32
  ![v732.toNat, 0, 7, 0]
def k0_off121 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c8_i32_770 : BitVec 32 := 8#32
  ![v730.toNat, 8]
def k0_off122 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c8_i32_769 : BitVec 32 := 8#32
  let c0_i32_771 : BitVec 32 := 0#32
  let c0_i32_772 : BitVec 32 := 0#32
  ![v730.toNat, 8, 0, 0]
def k0_off123 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_773 : BitVec 32 := 0#32
  let c8_i32_768 : BitVec 32 := 8#32
  let c0_i32_774 : BitVec 32 := 0#32
  ![v732.toNat, 0, 8, 0]
def k0_off124 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c8_i32_776 : BitVec 32 := 8#32
  let c0_i32_778 : BitVec 32 := 0#32
  let c0_i32_779 : BitVec 32 := 0#32
  ![v730.toNat, 8, 0, 0]
def k0_off125 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_780 : BitVec 32 := 0#32
  let c8_i32_775 : BitVec 32 := 8#32
  let c0_i32_781 : BitVec 32 := 0#32
  ![v732.toNat, 0, 8, 0]
def k0_off126 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c9_i32_791 : BitVec 32 := 9#32
  ![v730.toNat, 9]
def k0_off127 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c9_i32_790 : BitVec 32 := 9#32
  let c0_i32_792 : BitVec 32 := 0#32
  let c0_i32_793 : BitVec 32 := 0#32
  ![v730.toNat, 9, 0, 0]
def k0_off128 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_794 : BitVec 32 := 0#32
  let c9_i32_789 : BitVec 32 := 9#32
  let c0_i32_795 : BitVec 32 := 0#32
  ![v732.toNat, 0, 9, 0]
def k0_off129 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c9_i32_797 : BitVec 32 := 9#32
  let c0_i32_799 : BitVec 32 := 0#32
  let c0_i32_800 : BitVec 32 := 0#32
  ![v730.toNat, 9, 0, 0]
def k0_off130 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_801 : BitVec 32 := 0#32
  let c9_i32_796 : BitVec 32 := 9#32
  let c0_i32_802 : BitVec 32 := 0#32
  ![v732.toNat, 0, 9, 0]
def k0_off131 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c10_i32_812 : BitVec 32 := 10#32
  ![v730.toNat, 10]
def k0_off132 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c10_i32_811 : BitVec 32 := 10#32
  let c0_i32_813 : BitVec 32 := 0#32
  let c0_i32_814 : BitVec 32 := 0#32
  ![v730.toNat, 10, 0, 0]
def k0_off133 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_815 : BitVec 32 := 0#32
  let c10_i32_810 : BitVec 32 := 10#32
  let c0_i32_816 : BitVec 32 := 0#32
  ![v732.toNat, 0, 10, 0]
def k0_off134 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c10_i32_818 : BitVec 32 := 10#32
  let c0_i32_820 : BitVec 32 := 0#32
  let c0_i32_821 : BitVec 32 := 0#32
  ![v730.toNat, 10, 0, 0]
def k0_off135 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_822 : BitVec 32 := 0#32
  let c10_i32_817 : BitVec 32 := 10#32
  let c0_i32_823 : BitVec 32 := 0#32
  ![v732.toNat, 0, 10, 0]
def k0_off136 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c11_i32_833 : BitVec 32 := 11#32
  ![v730.toNat, 11]
def k0_off137 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c11_i32_832 : BitVec 32 := 11#32
  let c0_i32_834 : BitVec 32 := 0#32
  let c0_i32_835 : BitVec 32 := 0#32
  ![v730.toNat, 11, 0, 0]
def k0_off138 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_836 : BitVec 32 := 0#32
  let c11_i32_831 : BitVec 32 := 11#32
  let c0_i32_837 : BitVec 32 := 0#32
  ![v732.toNat, 0, 11, 0]
def k0_off139 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c11_i32_839 : BitVec 32 := 11#32
  let c0_i32_841 : BitVec 32 := 0#32
  let c0_i32_842 : BitVec 32 := 0#32
  ![v730.toNat, 11, 0, 0]
def k0_off140 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_843 : BitVec 32 := 0#32
  let c11_i32_838 : BitVec 32 := 11#32
  let c0_i32_844 : BitVec 32 := 0#32
  ![v732.toNat, 0, 11, 0]
def k0_off141 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c12_i32_854 : BitVec 32 := 12#32
  ![v730.toNat, 12]
def k0_off142 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c12_i32_853 : BitVec 32 := 12#32
  let c0_i32_855 : BitVec 32 := 0#32
  let c0_i32_856 : BitVec 32 := 0#32
  ![v730.toNat, 12, 0, 0]
def k0_off143 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_857 : BitVec 32 := 0#32
  let c12_i32_852 : BitVec 32 := 12#32
  let c0_i32_858 : BitVec 32 := 0#32
  ![v732.toNat, 0, 12, 0]
def k0_off144 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c12_i32_860 : BitVec 32 := 12#32
  let c0_i32_862 : BitVec 32 := 0#32
  let c0_i32_863 : BitVec 32 := 0#32
  ![v730.toNat, 12, 0, 0]
def k0_off145 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_864 : BitVec 32 := 0#32
  let c12_i32_859 : BitVec 32 := 12#32
  let c0_i32_865 : BitVec 32 := 0#32
  ![v732.toNat, 0, 12, 0]
def k0_off146 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c13_i32_875 : BitVec 32 := 13#32
  ![v730.toNat, 13]
def k0_off147 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c13_i32_874 : BitVec 32 := 13#32
  let c0_i32_876 : BitVec 32 := 0#32
  let c0_i32_877 : BitVec 32 := 0#32
  ![v730.toNat, 13, 0, 0]
def k0_off148 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_878 : BitVec 32 := 0#32
  let c13_i32_873 : BitVec 32 := 13#32
  let c0_i32_879 : BitVec 32 := 0#32
  ![v732.toNat, 0, 13, 0]
def k0_off149 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c13_i32_881 : BitVec 32 := 13#32
  let c0_i32_883 : BitVec 32 := 0#32
  let c0_i32_884 : BitVec 32 := 0#32
  ![v730.toNat, 13, 0, 0]
def k0_off150 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_885 : BitVec 32 := 0#32
  let c13_i32_880 : BitVec 32 := 13#32
  let c0_i32_886 : BitVec 32 := 0#32
  ![v732.toNat, 0, 13, 0]
def k0_off151 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c14_i32_896 : BitVec 32 := 14#32
  ![v730.toNat, 14]
def k0_off152 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c14_i32_895 : BitVec 32 := 14#32
  let c0_i32_897 : BitVec 32 := 0#32
  let c0_i32_898 : BitVec 32 := 0#32
  ![v730.toNat, 14, 0, 0]
def k0_off153 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_899 : BitVec 32 := 0#32
  let c14_i32_894 : BitVec 32 := 14#32
  let c0_i32_900 : BitVec 32 := 0#32
  ![v732.toNat, 0, 14, 0]
def k0_off154 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c14_i32_902 : BitVec 32 := 14#32
  let c0_i32_904 : BitVec 32 := 0#32
  let c0_i32_905 : BitVec 32 := 0#32
  ![v730.toNat, 14, 0, 0]
def k0_off155 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_906 : BitVec 32 := 0#32
  let c14_i32_901 : BitVec 32 := 14#32
  let c0_i32_907 : BitVec 32 := 0#32
  ![v732.toNat, 0, 14, 0]
def k0_off156 (i : grid0.Coords) : Fin 2 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c15_i32_917 : BitVec 32 := 15#32
  ![v730.toNat, 15]
def k0_off157 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c15_i32_916 : BitVec 32 := 15#32
  let c0_i32_918 : BitVec 32 := 0#32
  let c0_i32_919 : BitVec 32 := 0#32
  ![v730.toNat, 15, 0, 0]
def k0_off158 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_920 : BitVec 32 := 0#32
  let c15_i32_915 : BitVec 32 := 15#32
  let c0_i32_921 : BitVec 32 := 0#32
  ![v732.toNat, 0, 15, 0]
def k0_off159 (i : grid0.Coords) : Fin 4 → Nat :=
  let arg0 : BitVec 32 := BitVec.ofNat 32 (i 0).val
  let c1_i32_597 : BitVec 32 := 1#32
  let v729 : BitVec 32 := Scalar.addi arg0 c1_i32_597
  let c2_i32_598 : BitVec 32 := 2#32
  let v730 : BitVec 32 := Scalar.remsi v729 c2_i32_598
  let c15_i32_923 : BitVec 32 := 15#32
  let c0_i32_925 : BitVec 32 := 0#32
  let c0_i32_926 : BitVec 32 := 0#32
  ![v730.toNat, 15, 0, 0]
def k0_off160 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_599 : BitVec 32 := 4#32
  let v731 : BitVec 32 := Scalar.muli v5 c4_i32_599
  let arg0 : BitVec 32 := BitVec.ofNat 32 (i 0).val
  let c1_i32_597 : BitVec 32 := 1#32
  let v729 : BitVec 32 := Scalar.addi arg0 c1_i32_597
  let v732 : BitVec 32 := Scalar.addi v731 v729
  let c0_i32_927 : BitVec 32 := 0#32
  let c15_i32_922 : BitVec 32 := 15#32
  let c0_i32_928 : BitVec 32 := 0#32
  ![v732.toNat, 0, 15, 0]
def k0_cond3 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_dev1 (d0 : Dev nD) : Nat :=
  let c0_i32_599 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_598 : BitVec 32 := 2#32
  let v730 : BitVec 32 := Scalar.muli v6 c2_i32_598
  let v731 : BitVec 32 := Scalar.addi c0_i32_599 v730
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_600 : BitVec 32 := 1#32
  let v732 : BitVec 32 := Scalar.muli v5 c1_i32_600
  let v733 : BitVec 32 := Scalar.addi v731 v732
  v733.toNat
def k0_dev2 (d0 : Dev nD) : Nat :=
  let c0_i32_603 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_602 : BitVec 32 := 2#32
  let v734 : BitVec 32 := Scalar.muli v2 c2_i32_602
  let v735 : BitVec 32 := Scalar.addi c0_i32_603 v734
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_604 : BitVec 32 := 1#32
  let v736 : BitVec 32 := Scalar.muli v7 c1_i32_604
  let v737 : BitVec 32 := Scalar.addi v735 v736
  v737.toNat
def k0_off161 (i : grid0.Coords) : Fin 2 → Nat :=
  let arg0 : BitVec 32 := BitVec.ofNat 32 (i 0).val
  let c2_i32_9 : BitVec 32 := 2#32
  let v20 : BitVec 32 := Scalar.remsi arg0 c2_i32_9
  let c0_i32_12 : BitVec 32 := 0#32
  ![v20.toNat, 0]
def k0_off162 (i : grid0.Coords) : Fin 4 → Nat :=
  let arg0 : BitVec 32 := BitVec.ofNat 32 (i 0).val
  let c2_i32_9 : BitVec 32 := 2#32
  let v20 : BitVec 32 := Scalar.remsi arg0 c2_i32_9
  let c0_i32_11 : BitVec 32 := 0#32
  let c0_i32_13 : BitVec 32 := 0#32
  let c0_i32_14 : BitVec 32 := 0#32
  ![v20.toNat, 0, 0, 0]
def k0_off163 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_15 : BitVec 32 := 0#32
  let c0_i32_10 : BitVec 32 := 0#32
  let c0_i32_16 : BitVec 32 := 0#32
  ![v9.toNat, 0, 0, 0]
def k0_off164 (i : grid0.Coords) : Fin 4 → Nat :=
  let arg0 : BitVec 32 := BitVec.ofNat 32 (i 0).val
  let c2_i32_9 : BitVec 32 := 2#32
  let v20 : BitVec 32 := Scalar.remsi arg0 c2_i32_9
  let c0_i32_18 : BitVec 32 := 0#32
  let c0_i32_20 : BitVec 32 := 0#32
  let c0_i32_21 : BitVec 32 := 0#32
  ![v20.toNat, 0, 0, 0]
def k0_off165 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_22 : BitVec 32 := 0#32
  let c0_i32_17 : BitVec 32 := 0#32
  let c0_i32_23 : BitVec 32 := 0#32
  ![v9.toNat, 0, 0, 0]
def k0_off166 (i : grid0.Coords) : Fin 4 → Nat :=
  let arg0 : BitVec 32 := BitVec.ofNat 32 (i 0).val
  let c2_i32_9 : BitVec 32 := 2#32
  let v20 : BitVec 32 := Scalar.remsi arg0 c2_i32_9
  let v39 : Index := Scalar.indexCast v20
  let c0 : Index := 0#32
  let c0_31 : Index := 0#32
  let c0_32 : Index := 0#32
  ![v39.toNat, 0, 0, 0]
def k0_off167 (i : grid0.Coords) : Fin 4 → Nat :=
  let arg0 : BitVec 32 := BitVec.ofNat 32 (i 0).val
  let c2_i32_9 : BitVec 32 := 2#32
  let v20 : BitVec 32 := Scalar.remsi arg0 c2_i32_9
  let v42 : Index := Scalar.indexCast v20
  let c0_33 : Index := 0#32
  let c0_34 : Index := 0#32
  let c0_35 : Index := 0#32
  ![v42.toNat, 0, 0, 0]
def k0_off168 (i : grid0.Coords) : Fin 3 → Nat :=
  let arg0 : BitVec 32 := BitVec.ofNat 32 (i 0).val
  let v50 : Index := Scalar.indexCast arg0
  let c0_38 : Index := 0#32
  let c0_39 : Index := 0#32
  ![v50.toNat, 0, 0]
def k0_off169 (i : grid0.Coords) : Fin 3 → Nat :=
  let arg0 : BitVec 32 := BitVec.ofNat 32 (i 0).val
  let v59 : Index := Scalar.indexCast arg0
  let c0_44 : Index := 0#32
  let c0_45 : Index := 0#32
  ![v59.toNat, 0, 0]
def k0_off170 (i : grid0.Coords) : Fin 2 → Nat :=
  let arg0 : BitVec 32 := BitVec.ofNat 32 (i 0).val
  let c2_i32_9 : BitVec 32 := 2#32
  let v20 : BitVec 32 := Scalar.remsi arg0 c2_i32_9
  let c1_i32_48 : BitVec 32 := 1#32
  ![v20.toNat, 1]
def k0_off171 (i : grid0.Coords) : Fin 4 → Nat :=
  let arg0 : BitVec 32 := BitVec.ofNat 32 (i 0).val
  let c2_i32_9 : BitVec 32 := 2#32
  let v20 : BitVec 32 := Scalar.remsi arg0 c2_i32_9
  let c1_i32_47 : BitVec 32 := 1#32
  let c0_i32_49 : BitVec 32 := 0#32
  let c0_i32_50 : BitVec 32 := 0#32
  ![v20.toNat, 1, 0, 0]
def k0_off172 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_51 : BitVec 32 := 0#32
  let c1_i32_46 : BitVec 32 := 1#32
  let c0_i32_52 : BitVec 32 := 0#32
  ![v9.toNat, 0, 1, 0]
def k0_off173 (i : grid0.Coords) : Fin 4 → Nat :=
  let arg0 : BitVec 32 := BitVec.ofNat 32 (i 0).val
  let c2_i32_9 : BitVec 32 := 2#32
  let v20 : BitVec 32 := Scalar.remsi arg0 c2_i32_9
  let c1_i32_54 : BitVec 32 := 1#32
  let c0_i32_56 : BitVec 32 := 0#32
  let c0_i32_57 : BitVec 32 := 0#32
  ![v20.toNat, 1, 0, 0]
def k0_off174 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_58 : BitVec 32 := 0#32
  let c1_i32_53 : BitVec 32 := 1#32
  let c0_i32_59 : BitVec 32 := 0#32
  ![v9.toNat, 0, 1, 0]
def k0_off175 (i : grid0.Coords) : Fin 4 → Nat :=
  let arg0 : BitVec 32 := BitVec.ofNat 32 (i 0).val
  let c2_i32_9 : BitVec 32 := 2#32
  let v20 : BitVec 32 := Scalar.remsi arg0 c2_i32_9
  let v81 : Index := Scalar.indexCast v20
  let c1 : Index := 1#32
  let c0_67 : Index := 0#32
  let c0_68 : Index := 0#32
  ![v81.toNat, 1, 0, 0]
def k0_off176 (i : grid0.Coords) : Fin 4 → Nat :=
  let arg0 : BitVec 32 := BitVec.ofNat 32 (i 0).val
  let c2_i32_9 : BitVec 32 := 2#32
  let v20 : BitVec 32 := Scalar.remsi arg0 c2_i32_9
  let v84 : Index := Scalar.indexCast v20
  let c1_69 : Index := 1#32
  let c0_70 : Index := 0#32
  let c0_71 : Index := 0#32
  ![v84.toNat, 1, 0, 0]
def k0_off177 (i : grid0.Coords) : Fin 3 → Nat :=
  let arg0 : BitVec 32 := BitVec.ofNat 32 (i 0).val
  let v92 : Index := Scalar.indexCast arg0
  let c0_75 : Index := 0#32
  let c1_76 : Index := 1#32
  ![v92.toNat, 0, 1]
def k0_off178 (i : grid0.Coords) : Fin 3 → Nat :=
  let arg0 : BitVec 32 := BitVec.ofNat 32 (i 0).val
  let v101 : Index := Scalar.indexCast arg0
  let c0_81 : Index := 0#32
  let c128 : Index := 128#32
  ![v101.toNat, 0, 128]
def k0_off179 (i : grid0.Coords) : Fin 2 → Nat :=
  let arg0 : BitVec 32 := BitVec.ofNat 32 (i 0).val
  let c2_i32_9 : BitVec 32 := 2#32
  let v20 : BitVec 32 := Scalar.remsi arg0 c2_i32_9
  let c2_i32_84 : BitVec 32 := 2#32
  ![v20.toNat, 2]
def k0_off180 (i : grid0.Coords) : Fin 4 → Nat :=
  let arg0 : BitVec 32 := BitVec.ofNat 32 (i 0).val
  let c2_i32_9 : BitVec 32 := 2#32
  let v20 : BitVec 32 := Scalar.remsi arg0 c2_i32_9
  let c2_i32_83 : BitVec 32 := 2#32
  let c0_i32_85 : BitVec 32 := 0#32
  let c0_i32_86 : BitVec 32 := 0#32
  ![v20.toNat, 2, 0, 0]
def k0_off181 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_87 : BitVec 32 := 0#32
  let c2_i32_82 : BitVec 32 := 2#32
  let c0_i32_88 : BitVec 32 := 0#32
  ![v9.toNat, 0, 2, 0]
def k0_off182 (i : grid0.Coords) : Fin 4 → Nat :=
  let arg0 : BitVec 32 := BitVec.ofNat 32 (i 0).val
  let c2_i32_9 : BitVec 32 := 2#32
  let v20 : BitVec 32 := Scalar.remsi arg0 c2_i32_9
  let c2_i32_90 : BitVec 32 := 2#32
  let c0_i32_92 : BitVec 32 := 0#32
  let c0_i32_93 : BitVec 32 := 0#32
  ![v20.toNat, 2, 0, 0]
def k0_off183 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_94 : BitVec 32 := 0#32
  let c2_i32_89 : BitVec 32 := 2#32
  let c0_i32_95 : BitVec 32 := 0#32
  ![v9.toNat, 0, 2, 0]
def k0_off184 (i : grid0.Coords) : Fin 4 → Nat :=
  let arg0 : BitVec 32 := BitVec.ofNat 32 (i 0).val
  let c2_i32_9 : BitVec 32 := 2#32
  let v20 : BitVec 32 := Scalar.remsi arg0 c2_i32_9
  let v123 : Index := Scalar.indexCast v20
  let c2 : Index := 2#32
  let c0_103 : Index := 0#32
  let c0_104 : Index := 0#32
  ![v123.toNat, 2, 0, 0]
def k0_off185 (i : grid0.Coords) : Fin 4 → Nat :=
  let arg0 : BitVec 32 := BitVec.ofNat 32 (i 0).val
  let c2_i32_9 : BitVec 32 := 2#32
  let v20 : BitVec 32 := Scalar.remsi arg0 c2_i32_9
  let v126 : Index := Scalar.indexCast v20
  let c2_105 : Index := 2#32
  let c0_106 : Index := 0#32
  let c0_107 : Index := 0#32
  ![v126.toNat, 2, 0, 0]
def k0_off186 (i : grid0.Coords) : Fin 3 → Nat :=
  let arg0 : BitVec 32 := BitVec.ofNat 32 (i 0).val
  let v134 : Index := Scalar.indexCast arg0
  let c0_111 : Index := 0#32
  let c2_112 : Index := 2#32
  ![v134.toNat, 0, 2]
def k0_off187 (i : grid0.Coords) : Fin 3 → Nat :=
  let arg0 : BitVec 32 := BitVec.ofNat 32 (i 0).val
  let v143 : Index := Scalar.indexCast arg0
  let c0_117 : Index := 0#32
  let c256 : Index := 256#32
  ![v143.toNat, 0, 256]
def k0_off188 (i : grid0.Coords) : Fin 2 → Nat :=
  let arg0 : BitVec 32 := BitVec.ofNat 32 (i 0).val
  let c2_i32_9 : BitVec 32 := 2#32
  let v20 : BitVec 32 := Scalar.remsi arg0 c2_i32_9
  let c3_i32_120 : BitVec 32 := 3#32
  ![v20.toNat, 3]
def k0_off189 (i : grid0.Coords) : Fin 4 → Nat :=
  let arg0 : BitVec 32 := BitVec.ofNat 32 (i 0).val
  let c2_i32_9 : BitVec 32 := 2#32
  let v20 : BitVec 32 := Scalar.remsi arg0 c2_i32_9
  let c3_i32_119 : BitVec 32 := 3#32
  let c0_i32_121 : BitVec 32 := 0#32
  let c0_i32_122 : BitVec 32 := 0#32
  ![v20.toNat, 3, 0, 0]
def k0_off190 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_123 : BitVec 32 := 0#32
  let c3_i32_118 : BitVec 32 := 3#32
  let c0_i32_124 : BitVec 32 := 0#32
  ![v9.toNat, 0, 3, 0]
def k0_off191 (i : grid0.Coords) : Fin 4 → Nat :=
  let arg0 : BitVec 32 := BitVec.ofNat 32 (i 0).val
  let c2_i32_9 : BitVec 32 := 2#32
  let v20 : BitVec 32 := Scalar.remsi arg0 c2_i32_9
  let c3_i32_126 : BitVec 32 := 3#32
  let c0_i32_128 : BitVec 32 := 0#32
  let c0_i32_129 : BitVec 32 := 0#32
  ![v20.toNat, 3, 0, 0]
def k0_off192 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_130 : BitVec 32 := 0#32
  let c3_i32_125 : BitVec 32 := 3#32
  let c0_i32_131 : BitVec 32 := 0#32
  ![v9.toNat, 0, 3, 0]
def k0_off193 (i : grid0.Coords) : Fin 4 → Nat :=
  let arg0 : BitVec 32 := BitVec.ofNat 32 (i 0).val
  let c2_i32_9 : BitVec 32 := 2#32
  let v20 : BitVec 32 := Scalar.remsi arg0 c2_i32_9
  let v165 : Index := Scalar.indexCast v20
  let c3 : Index := 3#32
  let c0_139 : Index := 0#32
  let c0_140 : Index := 0#32
  ![v165.toNat, 3, 0, 0]
def k0_off194 (i : grid0.Coords) : Fin 4 → Nat :=
  let arg0 : BitVec 32 := BitVec.ofNat 32 (i 0).val
  let c2_i32_9 : BitVec 32 := 2#32
  let v20 : BitVec 32 := Scalar.remsi arg0 c2_i32_9
  let v168 : Index := Scalar.indexCast v20
  let c3_141 : Index := 3#32
  let c0_142 : Index := 0#32
  let c0_143 : Index := 0#32
  ![v168.toNat, 3, 0, 0]
def k0_off195 (i : grid0.Coords) : Fin 3 → Nat :=
  let arg0 : BitVec 32 := BitVec.ofNat 32 (i 0).val
  let v176 : Index := Scalar.indexCast arg0
  let c0_147 : Index := 0#32
  let c3_148 : Index := 3#32
  ![v176.toNat, 0, 3]
def k0_off196 (i : grid0.Coords) : Fin 3 → Nat :=
  let arg0 : BitVec 32 := BitVec.ofNat 32 (i 0).val
  let v185 : Index := Scalar.indexCast arg0
  let c0_153 : Index := 0#32
  let c384 : Index := 384#32
  ![v185.toNat, 0, 384]
def k0_off197 (i : grid0.Coords) : Fin 2 → Nat :=
  let arg0 : BitVec 32 := BitVec.ofNat 32 (i 0).val
  let c2_i32_9 : BitVec 32 := 2#32
  let v20 : BitVec 32 := Scalar.remsi arg0 c2_i32_9
  let c4_i32_156 : BitVec 32 := 4#32
  ![v20.toNat, 4]
def k0_off198 (i : grid0.Coords) : Fin 4 → Nat :=
  let arg0 : BitVec 32 := BitVec.ofNat 32 (i 0).val
  let c2_i32_9 : BitVec 32 := 2#32
  let v20 : BitVec 32 := Scalar.remsi arg0 c2_i32_9
  let c4_i32_155 : BitVec 32 := 4#32
  let c0_i32_157 : BitVec 32 := 0#32
  let c0_i32_158 : BitVec 32 := 0#32
  ![v20.toNat, 4, 0, 0]
def k0_off199 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_159 : BitVec 32 := 0#32
  let c4_i32_154 : BitVec 32 := 4#32
  let c0_i32_160 : BitVec 32 := 0#32
  ![v9.toNat, 0, 4, 0]
def k0_off200 (i : grid0.Coords) : Fin 4 → Nat :=
  let arg0 : BitVec 32 := BitVec.ofNat 32 (i 0).val
  let c2_i32_9 : BitVec 32 := 2#32
  let v20 : BitVec 32 := Scalar.remsi arg0 c2_i32_9
  let c4_i32_162 : BitVec 32 := 4#32
  let c0_i32_164 : BitVec 32 := 0#32
  let c0_i32_165 : BitVec 32 := 0#32
  ![v20.toNat, 4, 0, 0]
def k0_off201 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_166 : BitVec 32 := 0#32
  let c4_i32_161 : BitVec 32 := 4#32
  let c0_i32_167 : BitVec 32 := 0#32
  ![v9.toNat, 0, 4, 0]
def k0_off202 (i : grid0.Coords) : Fin 4 → Nat :=
  let arg0 : BitVec 32 := BitVec.ofNat 32 (i 0).val
  let c2_i32_9 : BitVec 32 := 2#32
  let v20 : BitVec 32 := Scalar.remsi arg0 c2_i32_9
  let v207 : Index := Scalar.indexCast v20
  let c4 : Index := 4#32
  let c0_175 : Index := 0#32
  let c0_176 : Index := 0#32
  ![v207.toNat, 4, 0, 0]
def k0_off203 (i : grid0.Coords) : Fin 4 → Nat :=
  let arg0 : BitVec 32 := BitVec.ofNat 32 (i 0).val
  let c2_i32_9 : BitVec 32 := 2#32
  let v20 : BitVec 32 := Scalar.remsi arg0 c2_i32_9
  let v210 : Index := Scalar.indexCast v20
  let c4_177 : Index := 4#32
  let c0_178 : Index := 0#32
  let c0_179 : Index := 0#32
  ![v210.toNat, 4, 0, 0]
def k0_off204 (i : grid0.Coords) : Fin 3 → Nat :=
  let arg0 : BitVec 32 := BitVec.ofNat 32 (i 0).val
  let v218 : Index := Scalar.indexCast arg0
  let c0_183 : Index := 0#32
  let c4_184 : Index := 4#32
  ![v218.toNat, 0, 4]
def k0_off205 (i : grid0.Coords) : Fin 3 → Nat :=
  let arg0 : BitVec 32 := BitVec.ofNat 32 (i 0).val
  let v227 : Index := Scalar.indexCast arg0
  let c0_189 : Index := 0#32
  let c512 : Index := 512#32
  ![v227.toNat, 0, 512]
def k0_off206 (i : grid0.Coords) : Fin 2 → Nat :=
  let arg0 : BitVec 32 := BitVec.ofNat 32 (i 0).val
  let c2_i32_9 : BitVec 32 := 2#32
  let v20 : BitVec 32 := Scalar.remsi arg0 c2_i32_9
  let c5_i32_191 : BitVec 32 := 5#32
  ![v20.toNat, 5]
def k0_off207 (i : grid0.Coords) : Fin 4 → Nat :=
  let arg0 : BitVec 32 := BitVec.ofNat 32 (i 0).val
  let c2_i32_9 : BitVec 32 := 2#32
  let v20 : BitVec 32 := Scalar.remsi arg0 c2_i32_9
  let c5_i32_190 : BitVec 32 := 5#32
  let c0_i32_192 : BitVec 32 := 0#32
  let c0_i32_193 : BitVec 32 := 0#32
  ![v20.toNat, 5, 0, 0]
def k0_off208 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_194 : BitVec 32 := 0#32
  let c5_i32 : BitVec 32 := 5#32
  let c0_i32_195 : BitVec 32 := 0#32
  ![v9.toNat, 0, 5, 0]
def k0_off209 (i : grid0.Coords) : Fin 4 → Nat :=
  let arg0 : BitVec 32 := BitVec.ofNat 32 (i 0).val
  let c2_i32_9 : BitVec 32 := 2#32
  let v20 : BitVec 32 := Scalar.remsi arg0 c2_i32_9
  let c5_i32_197 : BitVec 32 := 5#32
  let c0_i32_199 : BitVec 32 := 0#32
  let c0_i32_200 : BitVec 32 := 0#32
  ![v20.toNat, 5, 0, 0]
def k0_off210 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_201 : BitVec 32 := 0#32
  let c5_i32_196 : BitVec 32 := 5#32
  let c0_i32_202 : BitVec 32 := 0#32
  ![v9.toNat, 0, 5, 0]
def k0_off211 (i : grid0.Coords) : Fin 4 → Nat :=
  let arg0 : BitVec 32 := BitVec.ofNat 32 (i 0).val
  let c2_i32_9 : BitVec 32 := 2#32
  let v20 : BitVec 32 := Scalar.remsi arg0 c2_i32_9
  let v249 : Index := Scalar.indexCast v20
  let c5 : Index := 5#32
  let c0_210 : Index := 0#32
  let c0_211 : Index := 0#32
  ![v249.toNat, 5, 0, 0]
def k0_off212 (i : grid0.Coords) : Fin 4 → Nat :=
  let arg0 : BitVec 32 := BitVec.ofNat 32 (i 0).val
  let c2_i32_9 : BitVec 32 := 2#32
  let v20 : BitVec 32 := Scalar.remsi arg0 c2_i32_9
  let v252 : Index := Scalar.indexCast v20
  let c5_212 : Index := 5#32
  let c0_213 : Index := 0#32
  let c0_214 : Index := 0#32
  ![v252.toNat, 5, 0, 0]
def k0_off213 (i : grid0.Coords) : Fin 3 → Nat :=
  let arg0 : BitVec 32 := BitVec.ofNat 32 (i 0).val
  let v260 : Index := Scalar.indexCast arg0
  let c0_218 : Index := 0#32
  let c5_219 : Index := 5#32
  ![v260.toNat, 0, 5]
def k0_off214 (i : grid0.Coords) : Fin 3 → Nat :=
  let arg0 : BitVec 32 := BitVec.ofNat 32 (i 0).val
  let v269 : Index := Scalar.indexCast arg0
  let c0_224 : Index := 0#32
  let c640 : Index := 640#32
  ![v269.toNat, 0, 640]
def k0_off215 (i : grid0.Coords) : Fin 2 → Nat :=
  let arg0 : BitVec 32 := BitVec.ofNat 32 (i 0).val
  let c2_i32_9 : BitVec 32 := 2#32
  let v20 : BitVec 32 := Scalar.remsi arg0 c2_i32_9
  let c6_i32_226 : BitVec 32 := 6#32
  ![v20.toNat, 6]
def k0_off216 (i : grid0.Coords) : Fin 4 → Nat :=
  let arg0 : BitVec 32 := BitVec.ofNat 32 (i 0).val
  let c2_i32_9 : BitVec 32 := 2#32
  let v20 : BitVec 32 := Scalar.remsi arg0 c2_i32_9
  let c6_i32_225 : BitVec 32 := 6#32
  let c0_i32_227 : BitVec 32 := 0#32
  let c0_i32_228 : BitVec 32 := 0#32
  ![v20.toNat, 6, 0, 0]
def k0_off217 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_229 : BitVec 32 := 0#32
  let c6_i32 : BitVec 32 := 6#32
  let c0_i32_230 : BitVec 32 := 0#32
  ![v9.toNat, 0, 6, 0]
def k0_off218 (i : grid0.Coords) : Fin 4 → Nat :=
  let arg0 : BitVec 32 := BitVec.ofNat 32 (i 0).val
  let c2_i32_9 : BitVec 32 := 2#32
  let v20 : BitVec 32 := Scalar.remsi arg0 c2_i32_9
  let c6_i32_232 : BitVec 32 := 6#32
  let c0_i32_234 : BitVec 32 := 0#32
  let c0_i32_235 : BitVec 32 := 0#32
  ![v20.toNat, 6, 0, 0]
def k0_off219 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_236 : BitVec 32 := 0#32
  let c6_i32_231 : BitVec 32 := 6#32
  let c0_i32_237 : BitVec 32 := 0#32
  ![v9.toNat, 0, 6, 0]
def k0_off220 (i : grid0.Coords) : Fin 4 → Nat :=
  let arg0 : BitVec 32 := BitVec.ofNat 32 (i 0).val
  let c2_i32_9 : BitVec 32 := 2#32
  let v20 : BitVec 32 := Scalar.remsi arg0 c2_i32_9
  let v291 : Index := Scalar.indexCast v20
  let c6 : Index := 6#32
  let c0_245 : Index := 0#32
  let c0_246 : Index := 0#32
  ![v291.toNat, 6, 0, 0]
def k0_off221 (i : grid0.Coords) : Fin 4 → Nat :=
  let arg0 : BitVec 32 := BitVec.ofNat 32 (i 0).val
  let c2_i32_9 : BitVec 32 := 2#32
  let v20 : BitVec 32 := Scalar.remsi arg0 c2_i32_9
  let v294 : Index := Scalar.indexCast v20
  let c6_247 : Index := 6#32
  let c0_248 : Index := 0#32
  let c0_249 : Index := 0#32
  ![v294.toNat, 6, 0, 0]
def k0_off222 (i : grid0.Coords) : Fin 3 → Nat :=
  let arg0 : BitVec 32 := BitVec.ofNat 32 (i 0).val
  let v302 : Index := Scalar.indexCast arg0
  let c0_253 : Index := 0#32
  let c6_254 : Index := 6#32
  ![v302.toNat, 0, 6]
def k0_off223 (i : grid0.Coords) : Fin 3 → Nat :=
  let arg0 : BitVec 32 := BitVec.ofNat 32 (i 0).val
  let v311 : Index := Scalar.indexCast arg0
  let c0_259 : Index := 0#32
  let c768 : Index := 768#32
  ![v311.toNat, 0, 768]
def k0_off224 (i : grid0.Coords) : Fin 2 → Nat :=
  let arg0 : BitVec 32 := BitVec.ofNat 32 (i 0).val
  let c2_i32_9 : BitVec 32 := 2#32
  let v20 : BitVec 32 := Scalar.remsi arg0 c2_i32_9
  let c7_i32_261 : BitVec 32 := 7#32
  ![v20.toNat, 7]
def k0_off225 (i : grid0.Coords) : Fin 4 → Nat :=
  let arg0 : BitVec 32 := BitVec.ofNat 32 (i 0).val
  let c2_i32_9 : BitVec 32 := 2#32
  let v20 : BitVec 32 := Scalar.remsi arg0 c2_i32_9
  let c7_i32_260 : BitVec 32 := 7#32
  let c0_i32_262 : BitVec 32 := 0#32
  let c0_i32_263 : BitVec 32 := 0#32
  ![v20.toNat, 7, 0, 0]
def k0_off226 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_264 : BitVec 32 := 0#32
  let c7_i32 : BitVec 32 := 7#32
  let c0_i32_265 : BitVec 32 := 0#32
  ![v9.toNat, 0, 7, 0]
def k0_off227 (i : grid0.Coords) : Fin 4 → Nat :=
  let arg0 : BitVec 32 := BitVec.ofNat 32 (i 0).val
  let c2_i32_9 : BitVec 32 := 2#32
  let v20 : BitVec 32 := Scalar.remsi arg0 c2_i32_9
  let c7_i32_267 : BitVec 32 := 7#32
  let c0_i32_269 : BitVec 32 := 0#32
  let c0_i32_270 : BitVec 32 := 0#32
  ![v20.toNat, 7, 0, 0]
def k0_off228 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_271 : BitVec 32 := 0#32
  let c7_i32_266 : BitVec 32 := 7#32
  let c0_i32_272 : BitVec 32 := 0#32
  ![v9.toNat, 0, 7, 0]
def k0_off229 (i : grid0.Coords) : Fin 4 → Nat :=
  let arg0 : BitVec 32 := BitVec.ofNat 32 (i 0).val
  let c2_i32_9 : BitVec 32 := 2#32
  let v20 : BitVec 32 := Scalar.remsi arg0 c2_i32_9
  let v333 : Index := Scalar.indexCast v20
  let c7 : Index := 7#32
  let c0_280 : Index := 0#32
  let c0_281 : Index := 0#32
  ![v333.toNat, 7, 0, 0]
def k0_off230 (i : grid0.Coords) : Fin 4 → Nat :=
  let arg0 : BitVec 32 := BitVec.ofNat 32 (i 0).val
  let c2_i32_9 : BitVec 32 := 2#32
  let v20 : BitVec 32 := Scalar.remsi arg0 c2_i32_9
  let v336 : Index := Scalar.indexCast v20
  let c7_282 : Index := 7#32
  let c0_283 : Index := 0#32
  let c0_284 : Index := 0#32
  ![v336.toNat, 7, 0, 0]
def k0_off231 (i : grid0.Coords) : Fin 3 → Nat :=
  let arg0 : BitVec 32 := BitVec.ofNat 32 (i 0).val
  let v344 : Index := Scalar.indexCast arg0
  let c0_288 : Index := 0#32
  let c7_289 : Index := 7#32
  ![v344.toNat, 0, 7]
def k0_off232 (i : grid0.Coords) : Fin 3 → Nat :=
  let arg0 : BitVec 32 := BitVec.ofNat 32 (i 0).val
  let v353 : Index := Scalar.indexCast arg0
  let c0_294 : Index := 0#32
  let c896 : Index := 896#32
  ![v353.toNat, 0, 896]
def k0_off233 (i : grid0.Coords) : Fin 2 → Nat :=
  let arg0 : BitVec 32 := BitVec.ofNat 32 (i 0).val
  let c2_i32_9 : BitVec 32 := 2#32
  let v20 : BitVec 32 := Scalar.remsi arg0 c2_i32_9
  let c8_i32_296 : BitVec 32 := 8#32
  ![v20.toNat, 8]
def k0_off234 (i : grid0.Coords) : Fin 4 → Nat :=
  let arg0 : BitVec 32 := BitVec.ofNat 32 (i 0).val
  let c2_i32_9 : BitVec 32 := 2#32
  let v20 : BitVec 32 := Scalar.remsi arg0 c2_i32_9
  let c8_i32_295 : BitVec 32 := 8#32
  let c0_i32_297 : BitVec 32 := 0#32
  let c0_i32_298 : BitVec 32 := 0#32
  ![v20.toNat, 8, 0, 0]
def k0_off235 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_299 : BitVec 32 := 0#32
  let c8_i32 : BitVec 32 := 8#32
  let c0_i32_300 : BitVec 32 := 0#32
  ![v9.toNat, 0, 8, 0]
def k0_off236 (i : grid0.Coords) : Fin 4 → Nat :=
  let arg0 : BitVec 32 := BitVec.ofNat 32 (i 0).val
  let c2_i32_9 : BitVec 32 := 2#32
  let v20 : BitVec 32 := Scalar.remsi arg0 c2_i32_9
  let c8_i32_302 : BitVec 32 := 8#32
  let c0_i32_304 : BitVec 32 := 0#32
  let c0_i32_305 : BitVec 32 := 0#32
  ![v20.toNat, 8, 0, 0]
def k0_off237 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_306 : BitVec 32 := 0#32
  let c8_i32_301 : BitVec 32 := 8#32
  let c0_i32_307 : BitVec 32 := 0#32
  ![v9.toNat, 0, 8, 0]
def k0_off238 (i : grid0.Coords) : Fin 4 → Nat :=
  let arg0 : BitVec 32 := BitVec.ofNat 32 (i 0).val
  let c2_i32_9 : BitVec 32 := 2#32
  let v20 : BitVec 32 := Scalar.remsi arg0 c2_i32_9
  let v375 : Index := Scalar.indexCast v20
  let c8 : Index := 8#32
  let c0_315 : Index := 0#32
  let c0_316 : Index := 0#32
  ![v375.toNat, 8, 0, 0]
def k0_off239 (i : grid0.Coords) : Fin 4 → Nat :=
  let arg0 : BitVec 32 := BitVec.ofNat 32 (i 0).val
  let c2_i32_9 : BitVec 32 := 2#32
  let v20 : BitVec 32 := Scalar.remsi arg0 c2_i32_9
  let v378 : Index := Scalar.indexCast v20
  let c8_317 : Index := 8#32
  let c0_318 : Index := 0#32
  let c0_319 : Index := 0#32
  ![v378.toNat, 8, 0, 0]
def k0_off240 (i : grid0.Coords) : Fin 3 → Nat :=
  let arg0 : BitVec 32 := BitVec.ofNat 32 (i 0).val
  let v386 : Index := Scalar.indexCast arg0
  let c0_323 : Index := 0#32
  let c8_324 : Index := 8#32
  ![v386.toNat, 0, 8]
def k0_off241 (i : grid0.Coords) : Fin 3 → Nat :=
  let arg0 : BitVec 32 := BitVec.ofNat 32 (i 0).val
  let v395 : Index := Scalar.indexCast arg0
  let c0_329 : Index := 0#32
  let c1024 : Index := 1024#32
  ![v395.toNat, 0, 1024]
def k0_off242 (i : grid0.Coords) : Fin 2 → Nat :=
  let arg0 : BitVec 32 := BitVec.ofNat 32 (i 0).val
  let c2_i32_9 : BitVec 32 := 2#32
  let v20 : BitVec 32 := Scalar.remsi arg0 c2_i32_9
  let c9_i32_331 : BitVec 32 := 9#32
  ![v20.toNat, 9]
def k0_off243 (i : grid0.Coords) : Fin 4 → Nat :=
  let arg0 : BitVec 32 := BitVec.ofNat 32 (i 0).val
  let c2_i32_9 : BitVec 32 := 2#32
  let v20 : BitVec 32 := Scalar.remsi arg0 c2_i32_9
  let c9_i32_330 : BitVec 32 := 9#32
  let c0_i32_332 : BitVec 32 := 0#32
  let c0_i32_333 : BitVec 32 := 0#32
  ![v20.toNat, 9, 0, 0]
def k0_off244 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_334 : BitVec 32 := 0#32
  let c9_i32 : BitVec 32 := 9#32
  let c0_i32_335 : BitVec 32 := 0#32
  ![v9.toNat, 0, 9, 0]
def k0_off245 (i : grid0.Coords) : Fin 4 → Nat :=
  let arg0 : BitVec 32 := BitVec.ofNat 32 (i 0).val
  let c2_i32_9 : BitVec 32 := 2#32
  let v20 : BitVec 32 := Scalar.remsi arg0 c2_i32_9
  let c9_i32_337 : BitVec 32 := 9#32
  let c0_i32_339 : BitVec 32 := 0#32
  let c0_i32_340 : BitVec 32 := 0#32
  ![v20.toNat, 9, 0, 0]
def k0_off246 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_341 : BitVec 32 := 0#32
  let c9_i32_336 : BitVec 32 := 9#32
  let c0_i32_342 : BitVec 32 := 0#32
  ![v9.toNat, 0, 9, 0]
def k0_off247 (i : grid0.Coords) : Fin 4 → Nat :=
  let arg0 : BitVec 32 := BitVec.ofNat 32 (i 0).val
  let c2_i32_9 : BitVec 32 := 2#32
  let v20 : BitVec 32 := Scalar.remsi arg0 c2_i32_9
  let v417 : Index := Scalar.indexCast v20
  let c9 : Index := 9#32
  let c0_350 : Index := 0#32
  let c0_351 : Index := 0#32
  ![v417.toNat, 9, 0, 0]
def k0_off248 (i : grid0.Coords) : Fin 4 → Nat :=
  let arg0 : BitVec 32 := BitVec.ofNat 32 (i 0).val
  let c2_i32_9 : BitVec 32 := 2#32
  let v20 : BitVec 32 := Scalar.remsi arg0 c2_i32_9
  let v420 : Index := Scalar.indexCast v20
  let c9_352 : Index := 9#32
  let c0_353 : Index := 0#32
  let c0_354 : Index := 0#32
  ![v420.toNat, 9, 0, 0]
def k0_off249 (i : grid0.Coords) : Fin 3 → Nat :=
  let arg0 : BitVec 32 := BitVec.ofNat 32 (i 0).val
  let v428 : Index := Scalar.indexCast arg0
  let c0_358 : Index := 0#32
  let c9_359 : Index := 9#32
  ![v428.toNat, 0, 9]
def k0_off250 (i : grid0.Coords) : Fin 3 → Nat :=
  let arg0 : BitVec 32 := BitVec.ofNat 32 (i 0).val
  let v437 : Index := Scalar.indexCast arg0
  let c0_364 : Index := 0#32
  let c1152 : Index := 1152#32
  ![v437.toNat, 0, 1152]
def k0_off251 (i : grid0.Coords) : Fin 2 → Nat :=
  let arg0 : BitVec 32 := BitVec.ofNat 32 (i 0).val
  let c2_i32_9 : BitVec 32 := 2#32
  let v20 : BitVec 32 := Scalar.remsi arg0 c2_i32_9
  let c10_i32_366 : BitVec 32 := 10#32
  ![v20.toNat, 10]
def k0_off252 (i : grid0.Coords) : Fin 4 → Nat :=
  let arg0 : BitVec 32 := BitVec.ofNat 32 (i 0).val
  let c2_i32_9 : BitVec 32 := 2#32
  let v20 : BitVec 32 := Scalar.remsi arg0 c2_i32_9
  let c10_i32_365 : BitVec 32 := 10#32
  let c0_i32_367 : BitVec 32 := 0#32
  let c0_i32_368 : BitVec 32 := 0#32
  ![v20.toNat, 10, 0, 0]
def k0_off253 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_369 : BitVec 32 := 0#32
  let c10_i32 : BitVec 32 := 10#32
  let c0_i32_370 : BitVec 32 := 0#32
  ![v9.toNat, 0, 10, 0]
def k0_off254 (i : grid0.Coords) : Fin 4 → Nat :=
  let arg0 : BitVec 32 := BitVec.ofNat 32 (i 0).val
  let c2_i32_9 : BitVec 32 := 2#32
  let v20 : BitVec 32 := Scalar.remsi arg0 c2_i32_9
  let c10_i32_372 : BitVec 32 := 10#32
  let c0_i32_374 : BitVec 32 := 0#32
  let c0_i32_375 : BitVec 32 := 0#32
  ![v20.toNat, 10, 0, 0]
def k0_off255 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_376 : BitVec 32 := 0#32
  let c10_i32_371 : BitVec 32 := 10#32
  let c0_i32_377 : BitVec 32 := 0#32
  ![v9.toNat, 0, 10, 0]
def k0_off256 (i : grid0.Coords) : Fin 4 → Nat :=
  let arg0 : BitVec 32 := BitVec.ofNat 32 (i 0).val
  let c2_i32_9 : BitVec 32 := 2#32
  let v20 : BitVec 32 := Scalar.remsi arg0 c2_i32_9
  let v459 : Index := Scalar.indexCast v20
  let c10 : Index := 10#32
  let c0_385 : Index := 0#32
  let c0_386 : Index := 0#32
  ![v459.toNat, 10, 0, 0]
def k0_off257 (i : grid0.Coords) : Fin 4 → Nat :=
  let arg0 : BitVec 32 := BitVec.ofNat 32 (i 0).val
  let c2_i32_9 : BitVec 32 := 2#32
  let v20 : BitVec 32 := Scalar.remsi arg0 c2_i32_9
  let v462 : Index := Scalar.indexCast v20
  let c10_387 : Index := 10#32
  let c0_388 : Index := 0#32
  let c0_389 : Index := 0#32
  ![v462.toNat, 10, 0, 0]
def k0_off258 (i : grid0.Coords) : Fin 3 → Nat :=
  let arg0 : BitVec 32 := BitVec.ofNat 32 (i 0).val
  let v470 : Index := Scalar.indexCast arg0
  let c0_393 : Index := 0#32
  let c10_394 : Index := 10#32
  ![v470.toNat, 0, 10]
def k0_off259 (i : grid0.Coords) : Fin 3 → Nat :=
  let arg0 : BitVec 32 := BitVec.ofNat 32 (i 0).val
  let v479 : Index := Scalar.indexCast arg0
  let c0_399 : Index := 0#32
  let c1280 : Index := 1280#32
  ![v479.toNat, 0, 1280]
def k0_off260 (i : grid0.Coords) : Fin 2 → Nat :=
  let arg0 : BitVec 32 := BitVec.ofNat 32 (i 0).val
  let c2_i32_9 : BitVec 32 := 2#32
  let v20 : BitVec 32 := Scalar.remsi arg0 c2_i32_9
  let c11_i32_401 : BitVec 32 := 11#32
  ![v20.toNat, 11]
def k0_off261 (i : grid0.Coords) : Fin 4 → Nat :=
  let arg0 : BitVec 32 := BitVec.ofNat 32 (i 0).val
  let c2_i32_9 : BitVec 32 := 2#32
  let v20 : BitVec 32 := Scalar.remsi arg0 c2_i32_9
  let c11_i32_400 : BitVec 32 := 11#32
  let c0_i32_402 : BitVec 32 := 0#32
  let c0_i32_403 : BitVec 32 := 0#32
  ![v20.toNat, 11, 0, 0]
def k0_off262 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_404 : BitVec 32 := 0#32
  let c11_i32 : BitVec 32 := 11#32
  let c0_i32_405 : BitVec 32 := 0#32
  ![v9.toNat, 0, 11, 0]
def k0_off263 (i : grid0.Coords) : Fin 4 → Nat :=
  let arg0 : BitVec 32 := BitVec.ofNat 32 (i 0).val
  let c2_i32_9 : BitVec 32 := 2#32
  let v20 : BitVec 32 := Scalar.remsi arg0 c2_i32_9
  let c11_i32_407 : BitVec 32 := 11#32
  let c0_i32_409 : BitVec 32 := 0#32
  let c0_i32_410 : BitVec 32 := 0#32
  ![v20.toNat, 11, 0, 0]
def k0_off264 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_411 : BitVec 32 := 0#32
  let c11_i32_406 : BitVec 32 := 11#32
  let c0_i32_412 : BitVec 32 := 0#32
  ![v9.toNat, 0, 11, 0]
def k0_off265 (i : grid0.Coords) : Fin 4 → Nat :=
  let arg0 : BitVec 32 := BitVec.ofNat 32 (i 0).val
  let c2_i32_9 : BitVec 32 := 2#32
  let v20 : BitVec 32 := Scalar.remsi arg0 c2_i32_9
  let v501 : Index := Scalar.indexCast v20
  let c11 : Index := 11#32
  let c0_420 : Index := 0#32
  let c0_421 : Index := 0#32
  ![v501.toNat, 11, 0, 0]
def k0_off266 (i : grid0.Coords) : Fin 4 → Nat :=
  let arg0 : BitVec 32 := BitVec.ofNat 32 (i 0).val
  let c2_i32_9 : BitVec 32 := 2#32
  let v20 : BitVec 32 := Scalar.remsi arg0 c2_i32_9
  let v504 : Index := Scalar.indexCast v20
  let c11_422 : Index := 11#32
  let c0_423 : Index := 0#32
  let c0_424 : Index := 0#32
  ![v504.toNat, 11, 0, 0]
def k0_off267 (i : grid0.Coords) : Fin 3 → Nat :=
  let arg0 : BitVec 32 := BitVec.ofNat 32 (i 0).val
  let v512 : Index := Scalar.indexCast arg0
  let c0_428 : Index := 0#32
  let c11_429 : Index := 11#32
  ![v512.toNat, 0, 11]
def k0_off268 (i : grid0.Coords) : Fin 3 → Nat :=
  let arg0 : BitVec 32 := BitVec.ofNat 32 (i 0).val
  let v521 : Index := Scalar.indexCast arg0
  let c0_434 : Index := 0#32
  let c1408 : Index := 1408#32
  ![v521.toNat, 0, 1408]
def k0_off269 (i : grid0.Coords) : Fin 2 → Nat :=
  let arg0 : BitVec 32 := BitVec.ofNat 32 (i 0).val
  let c2_i32_9 : BitVec 32 := 2#32
  let v20 : BitVec 32 := Scalar.remsi arg0 c2_i32_9
  let c12_i32_436 : BitVec 32 := 12#32
  ![v20.toNat, 12]
def k0_off270 (i : grid0.Coords) : Fin 4 → Nat :=
  let arg0 : BitVec 32 := BitVec.ofNat 32 (i 0).val
  let c2_i32_9 : BitVec 32 := 2#32
  let v20 : BitVec 32 := Scalar.remsi arg0 c2_i32_9
  let c12_i32_435 : BitVec 32 := 12#32
  let c0_i32_437 : BitVec 32 := 0#32
  let c0_i32_438 : BitVec 32 := 0#32
  ![v20.toNat, 12, 0, 0]
def k0_off271 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_439 : BitVec 32 := 0#32
  let c12_i32 : BitVec 32 := 12#32
  let c0_i32_440 : BitVec 32 := 0#32
  ![v9.toNat, 0, 12, 0]
def k0_off272 (i : grid0.Coords) : Fin 4 → Nat :=
  let arg0 : BitVec 32 := BitVec.ofNat 32 (i 0).val
  let c2_i32_9 : BitVec 32 := 2#32
  let v20 : BitVec 32 := Scalar.remsi arg0 c2_i32_9
  let c12_i32_442 : BitVec 32 := 12#32
  let c0_i32_444 : BitVec 32 := 0#32
  let c0_i32_445 : BitVec 32 := 0#32
  ![v20.toNat, 12, 0, 0]
def k0_off273 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_446 : BitVec 32 := 0#32
  let c12_i32_441 : BitVec 32 := 12#32
  let c0_i32_447 : BitVec 32 := 0#32
  ![v9.toNat, 0, 12, 0]
def k0_off274 (i : grid0.Coords) : Fin 4 → Nat :=
  let arg0 : BitVec 32 := BitVec.ofNat 32 (i 0).val
  let c2_i32_9 : BitVec 32 := 2#32
  let v20 : BitVec 32 := Scalar.remsi arg0 c2_i32_9
  let v543 : Index := Scalar.indexCast v20
  let c12 : Index := 12#32
  let c0_455 : Index := 0#32
  let c0_456 : Index := 0#32
  ![v543.toNat, 12, 0, 0]
def k0_off275 (i : grid0.Coords) : Fin 4 → Nat :=
  let arg0 : BitVec 32 := BitVec.ofNat 32 (i 0).val
  let c2_i32_9 : BitVec 32 := 2#32
  let v20 : BitVec 32 := Scalar.remsi arg0 c2_i32_9
  let v546 : Index := Scalar.indexCast v20
  let c12_457 : Index := 12#32
  let c0_458 : Index := 0#32
  let c0_459 : Index := 0#32
  ![v546.toNat, 12, 0, 0]
def k0_off276 (i : grid0.Coords) : Fin 3 → Nat :=
  let arg0 : BitVec 32 := BitVec.ofNat 32 (i 0).val
  let v554 : Index := Scalar.indexCast arg0
  let c0_463 : Index := 0#32
  let c12_464 : Index := 12#32
  ![v554.toNat, 0, 12]
def k0_off277 (i : grid0.Coords) : Fin 3 → Nat :=
  let arg0 : BitVec 32 := BitVec.ofNat 32 (i 0).val
  let v563 : Index := Scalar.indexCast arg0
  let c0_469 : Index := 0#32
  let c1536 : Index := 1536#32
  ![v563.toNat, 0, 1536]
def k0_off278 (i : grid0.Coords) : Fin 2 → Nat :=
  let arg0 : BitVec 32 := BitVec.ofNat 32 (i 0).val
  let c2_i32_9 : BitVec 32 := 2#32
  let v20 : BitVec 32 := Scalar.remsi arg0 c2_i32_9
  let c13_i32_471 : BitVec 32 := 13#32
  ![v20.toNat, 13]
def k0_off279 (i : grid0.Coords) : Fin 4 → Nat :=
  let arg0 : BitVec 32 := BitVec.ofNat 32 (i 0).val
  let c2_i32_9 : BitVec 32 := 2#32
  let v20 : BitVec 32 := Scalar.remsi arg0 c2_i32_9
  let c13_i32_470 : BitVec 32 := 13#32
  let c0_i32_472 : BitVec 32 := 0#32
  let c0_i32_473 : BitVec 32 := 0#32
  ![v20.toNat, 13, 0, 0]
def k0_off280 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_474 : BitVec 32 := 0#32
  let c13_i32 : BitVec 32 := 13#32
  let c0_i32_475 : BitVec 32 := 0#32
  ![v9.toNat, 0, 13, 0]
def k0_off281 (i : grid0.Coords) : Fin 4 → Nat :=
  let arg0 : BitVec 32 := BitVec.ofNat 32 (i 0).val
  let c2_i32_9 : BitVec 32 := 2#32
  let v20 : BitVec 32 := Scalar.remsi arg0 c2_i32_9
  let c13_i32_477 : BitVec 32 := 13#32
  let c0_i32_479 : BitVec 32 := 0#32
  let c0_i32_480 : BitVec 32 := 0#32
  ![v20.toNat, 13, 0, 0]
def k0_off282 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_481 : BitVec 32 := 0#32
  let c13_i32_476 : BitVec 32 := 13#32
  let c0_i32_482 : BitVec 32 := 0#32
  ![v9.toNat, 0, 13, 0]
def k0_off283 (i : grid0.Coords) : Fin 4 → Nat :=
  let arg0 : BitVec 32 := BitVec.ofNat 32 (i 0).val
  let c2_i32_9 : BitVec 32 := 2#32
  let v20 : BitVec 32 := Scalar.remsi arg0 c2_i32_9
  let v585 : Index := Scalar.indexCast v20
  let c13 : Index := 13#32
  let c0_490 : Index := 0#32
  let c0_491 : Index := 0#32
  ![v585.toNat, 13, 0, 0]
def k0_off284 (i : grid0.Coords) : Fin 4 → Nat :=
  let arg0 : BitVec 32 := BitVec.ofNat 32 (i 0).val
  let c2_i32_9 : BitVec 32 := 2#32
  let v20 : BitVec 32 := Scalar.remsi arg0 c2_i32_9
  let v588 : Index := Scalar.indexCast v20
  let c13_492 : Index := 13#32
  let c0_493 : Index := 0#32
  let c0_494 : Index := 0#32
  ![v588.toNat, 13, 0, 0]
def k0_off285 (i : grid0.Coords) : Fin 3 → Nat :=
  let arg0 : BitVec 32 := BitVec.ofNat 32 (i 0).val
  let v596 : Index := Scalar.indexCast arg0
  let c0_498 : Index := 0#32
  let c13_499 : Index := 13#32
  ![v596.toNat, 0, 13]
def k0_off286 (i : grid0.Coords) : Fin 3 → Nat :=
  let arg0 : BitVec 32 := BitVec.ofNat 32 (i 0).val
  let v605 : Index := Scalar.indexCast arg0
  let c0_504 : Index := 0#32
  let c1664 : Index := 1664#32
  ![v605.toNat, 0, 1664]
def k0_off287 (i : grid0.Coords) : Fin 2 → Nat :=
  let arg0 : BitVec 32 := BitVec.ofNat 32 (i 0).val
  let c2_i32_9 : BitVec 32 := 2#32
  let v20 : BitVec 32 := Scalar.remsi arg0 c2_i32_9
  let c14_i32_506 : BitVec 32 := 14#32
  ![v20.toNat, 14]
def k0_off288 (i : grid0.Coords) : Fin 4 → Nat :=
  let arg0 : BitVec 32 := BitVec.ofNat 32 (i 0).val
  let c2_i32_9 : BitVec 32 := 2#32
  let v20 : BitVec 32 := Scalar.remsi arg0 c2_i32_9
  let c14_i32_505 : BitVec 32 := 14#32
  let c0_i32_507 : BitVec 32 := 0#32
  let c0_i32_508 : BitVec 32 := 0#32
  ![v20.toNat, 14, 0, 0]
def k0_off289 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_509 : BitVec 32 := 0#32
  let c14_i32 : BitVec 32 := 14#32
  let c0_i32_510 : BitVec 32 := 0#32
  ![v9.toNat, 0, 14, 0]
def k0_off290 (i : grid0.Coords) : Fin 4 → Nat :=
  let arg0 : BitVec 32 := BitVec.ofNat 32 (i 0).val
  let c2_i32_9 : BitVec 32 := 2#32
  let v20 : BitVec 32 := Scalar.remsi arg0 c2_i32_9
  let c14_i32_512 : BitVec 32 := 14#32
  let c0_i32_514 : BitVec 32 := 0#32
  let c0_i32_515 : BitVec 32 := 0#32
  ![v20.toNat, 14, 0, 0]
def k0_off291 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_516 : BitVec 32 := 0#32
  let c14_i32_511 : BitVec 32 := 14#32
  let c0_i32_517 : BitVec 32 := 0#32
  ![v9.toNat, 0, 14, 0]
def k0_off292 (i : grid0.Coords) : Fin 4 → Nat :=
  let arg0 : BitVec 32 := BitVec.ofNat 32 (i 0).val
  let c2_i32_9 : BitVec 32 := 2#32
  let v20 : BitVec 32 := Scalar.remsi arg0 c2_i32_9
  let v627 : Index := Scalar.indexCast v20
  let c14 : Index := 14#32
  let c0_525 : Index := 0#32
  let c0_526 : Index := 0#32
  ![v627.toNat, 14, 0, 0]
def k0_off293 (i : grid0.Coords) : Fin 4 → Nat :=
  let arg0 : BitVec 32 := BitVec.ofNat 32 (i 0).val
  let c2_i32_9 : BitVec 32 := 2#32
  let v20 : BitVec 32 := Scalar.remsi arg0 c2_i32_9
  let v630 : Index := Scalar.indexCast v20
  let c14_527 : Index := 14#32
  let c0_528 : Index := 0#32
  let c0_529 : Index := 0#32
  ![v630.toNat, 14, 0, 0]
def k0_off294 (i : grid0.Coords) : Fin 3 → Nat :=
  let arg0 : BitVec 32 := BitVec.ofNat 32 (i 0).val
  let v638 : Index := Scalar.indexCast arg0
  let c0_533 : Index := 0#32
  let c14_534 : Index := 14#32
  ![v638.toNat, 0, 14]
def k0_off295 (i : grid0.Coords) : Fin 3 → Nat :=
  let arg0 : BitVec 32 := BitVec.ofNat 32 (i 0).val
  let v647 : Index := Scalar.indexCast arg0
  let c0_539 : Index := 0#32
  let c1792 : Index := 1792#32
  ![v647.toNat, 0, 1792]
def k0_off296 (i : grid0.Coords) : Fin 2 → Nat :=
  let arg0 : BitVec 32 := BitVec.ofNat 32 (i 0).val
  let c2_i32_9 : BitVec 32 := 2#32
  let v20 : BitVec 32 := Scalar.remsi arg0 c2_i32_9
  let c15_i32_541 : BitVec 32 := 15#32
  ![v20.toNat, 15]
def k0_off297 (i : grid0.Coords) : Fin 4 → Nat :=
  let arg0 : BitVec 32 := BitVec.ofNat 32 (i 0).val
  let c2_i32_9 : BitVec 32 := 2#32
  let v20 : BitVec 32 := Scalar.remsi arg0 c2_i32_9
  let c15_i32_540 : BitVec 32 := 15#32
  let c0_i32_542 : BitVec 32 := 0#32
  let c0_i32_543 : BitVec 32 := 0#32
  ![v20.toNat, 15, 0, 0]
def k0_off298 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_544 : BitVec 32 := 0#32
  let c15_i32 : BitVec 32 := 15#32
  let c0_i32_545 : BitVec 32 := 0#32
  ![v9.toNat, 0, 15, 0]
def k0_off299 (i : grid0.Coords) : Fin 4 → Nat :=
  let arg0 : BitVec 32 := BitVec.ofNat 32 (i 0).val
  let c2_i32_9 : BitVec 32 := 2#32
  let v20 : BitVec 32 := Scalar.remsi arg0 c2_i32_9
  let c15_i32_547 : BitVec 32 := 15#32
  let c0_i32_549 : BitVec 32 := 0#32
  let c0_i32_550 : BitVec 32 := 0#32
  ![v20.toNat, 15, 0, 0]
def k0_off300 (i : grid0.Coords) (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let arg0 : BitVec 32 := BitVec.ofNat 32 (i 0).val
  let v9 : BitVec 32 := Scalar.addi v8 arg0
  let c0_i32_551 : BitVec 32 := 0#32
  let c15_i32_546 : BitVec 32 := 15#32
  let c0_i32_552 : BitVec 32 := 0#32
  ![v9.toNat, 0, 15, 0]
def k0_off301 (i : grid0.Coords) : Fin 4 → Nat :=
  let arg0 : BitVec 32 := BitVec.ofNat 32 (i 0).val
  let c2_i32_9 : BitVec 32 := 2#32
  let v20 : BitVec 32 := Scalar.remsi arg0 c2_i32_9
  let v669 : Index := Scalar.indexCast v20
  let c15 : Index := 15#32
  let c0_560 : Index := 0#32
  let c0_561 : Index := 0#32
  ![v669.toNat, 15, 0, 0]
def k0_off302 (i : grid0.Coords) : Fin 4 → Nat :=
  let arg0 : BitVec 32 := BitVec.ofNat 32 (i 0).val
  let c2_i32_9 : BitVec 32 := 2#32
  let v20 : BitVec 32 := Scalar.remsi arg0 c2_i32_9
  let v672 : Index := Scalar.indexCast v20
  let c15_562 : Index := 15#32
  let c0_563 : Index := 0#32
  let c0_564 : Index := 0#32
  ![v672.toNat, 15, 0, 0]
def k0_off303 (i : grid0.Coords) : Fin 3 → Nat :=
  let arg0 : BitVec 32 := BitVec.ofNat 32 (i 0).val
  let v680 : Index := Scalar.indexCast arg0
  let c0_568 : Index := 0#32
  let c15_569 : Index := 15#32
  ![v680.toNat, 0, 15]
def k0_off304 (i : grid0.Coords) : Fin 3 → Nat :=
  let arg0 : BitVec 32 := BitVec.ofNat 32 (i 0).val
  let v689 : Index := Scalar.indexCast arg0
  let c0_574 : Index := 0#32
  let c1920 : Index := 1920#32
  ![v689.toNat, 0, 1920]
def k0_off305 (i : grid0.Coords) : Fin 1 → Nat :=
  let arg0 : BitVec 32 := BitVec.ofNat 32 (i 0).val
  ![arg0.toNat]
def k0_off306 (i : grid0.Coords) : Fin 3 → Nat :=
  let arg0 : BitVec 32 := BitVec.ofNat 32 (i 0).val
  let c0_i32_578 : BitVec 32 := 0#32
  let c0_i32_579 : BitVec 32 := 0#32
  ![arg0.toNat, 0, 0]
def k0_dev3 (d0 : Dev nD) : Nat :=
  let c0_i32_576 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_575 : BitVec 32 := 2#32
  let v693 : BitVec 32 := Scalar.muli v6 c2_i32_575
  let v694 : BitVec 32 := Scalar.addi c0_i32_576 v693
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_577 : BitVec 32 := 1#32
  let v695 : BitVec 32 := Scalar.muli v5 c1_i32_577
  let v696 : BitVec 32 := Scalar.addi v694 v695
  v696.toNat
def k0_off307 (i : grid0.Coords) : Fin 3 → Nat :=
  let arg0 : BitVec 32 := BitVec.ofNat 32 (i 0).val
  let c0_i32_585 : BitVec 32 := 0#32
  let c0_i32_586 : BitVec 32 := 0#32
  ![arg0.toNat, 0, 0]
def k0_dev4 (d0 : Dev nD) : Nat :=
  let c0_i32_583 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_582 : BitVec 32 := 2#32
  let v705 : BitVec 32 := Scalar.muli v6 c2_i32_582
  let v706 : BitVec 32 := Scalar.addi c0_i32_583 v705
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_584 : BitVec 32 := 1#32
  let v707 : BitVec 32 := Scalar.muli v5 c1_i32_584
  let v708 : BitVec 32 := Scalar.addi v706 v707
  v708.toNat
def k0_cond4 (i : grid0.Coords) : BitVec 1 :=
  let arg0 : BitVec 32 := BitVec.ofNat 32 (i 0).val
  let c1_i32_589 : BitVec 32 := 1#32
  let v717 : BitVec 1 := Scalar.cmpi .eq arg0 c1_i32_589
  let v718 : BitVec 32 := Scalar.extui v717
  let c0_i32_590 : BitVec 32 := 0#32
  let v719 : BitVec 1 := Scalar.cmpi .ne v718 c0_i32_590
  v719

def k0_off308 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c0_i32_634 : BitVec 32 := 0#32
  let v848 : BitVec 32 := Scalar.addi v10 c0_i32_634
  let v849 : Index := Scalar.indexCast v848
  let c0_635 : Index := 0#32
  let c0_636 : Index := 0#32
  let c0_637 : Index := 0#32
  ![v849.toNat, 0, 0, 0]
def k0_off309 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c0_i32_639 : BitVec 32 := 0#32
  let v854 : BitVec 32 := Scalar.addi v10 c0_i32_639
  let c0_i32_642 : BitVec 32 := 0#32
  let c0_i32_643 : BitVec 32 := 0#32
  let c0_i32_644 : BitVec 32 := 0#32
  ![v854.toNat, 0, 0, 0]
def k0_dev5 (d0 : Dev nD) : Nat :=
  let c0_i32_653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_652 : BitVec 32 := 2#32
  let v861 : BitVec 32 := Scalar.muli v2 c2_i32_652
  let v862 : BitVec 32 := Scalar.addi c0_i32_653 v861
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_654 : BitVec 32 := 1#32
  let v863 : BitVec 32 := Scalar.muli v7 c1_i32_654
  let v864 : BitVec 32 := Scalar.addi v862 v863
  v864.toNat
def k0_cond5 (i : grid0.Coords) : BitVec 1 :=
  let arg0 : BitVec 32 := BitVec.ofNat 32 (i 0).val
  let c2_i32_591 : BitVec 32 := 2#32
  let v720 : BitVec 1 := Scalar.cmpi .eq arg0 c2_i32_591
  let v721 : BitVec 32 := Scalar.extui v720
  let c0_i32_592 : BitVec 32 := 0#32
  let v722 : BitVec 1 := Scalar.cmpi .ne v721 c0_i32_592
  v722

def k0_off310 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c1_i32_634 : BitVec 32 := 1#32
  let v848 : BitVec 32 := Scalar.addi v10 c1_i32_634
  let v849 : Index := Scalar.indexCast v848
  let c0_635 : Index := 0#32
  let c0_636 : Index := 0#32
  let c0_637 : Index := 0#32
  ![v849.toNat, 0, 0, 0]
def k0_off311 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c1_i32_639 : BitVec 32 := 1#32
  let v854 : BitVec 32 := Scalar.addi v10 c1_i32_639
  let c0_i32_642 : BitVec 32 := 0#32
  let c0_i32_643 : BitVec 32 := 0#32
  let c0_i32_644 : BitVec 32 := 0#32
  ![v854.toNat, 0, 0, 0]
def k0_dev6 (d0 : Dev nD) : Nat :=
  let c0_i32_653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_652 : BitVec 32 := 2#32
  let v861 : BitVec 32 := Scalar.muli v2 c2_i32_652
  let v862 : BitVec 32 := Scalar.addi c0_i32_653 v861
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_654 : BitVec 32 := 1#32
  let v863 : BitVec 32 := Scalar.muli v7 c1_i32_654
  let v864 : BitVec 32 := Scalar.addi v862 v863
  v864.toNat
def k0_cond6 (i : grid0.Coords) : BitVec 1 :=
  let arg0 : BitVec 32 := BitVec.ofNat 32 (i 0).val
  let c3_i32_593 : BitVec 32 := 3#32
  let v723 : BitVec 1 := Scalar.cmpi .eq arg0 c3_i32_593
  let v724 : BitVec 32 := Scalar.extui v723
  let c0_i32_594 : BitVec 32 := 0#32
  let v725 : BitVec 1 := Scalar.cmpi .ne v724 c0_i32_594
  v725

def k0_off312 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c2_i32_634 : BitVec 32 := 2#32
  let v848 : BitVec 32 := Scalar.addi v10 c2_i32_634
  let v849 : Index := Scalar.indexCast v848
  let c0_635 : Index := 0#32
  let c0_636 : Index := 0#32
  let c0_637 : Index := 0#32
  ![v849.toNat, 0, 0, 0]
def k0_off313 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c2_i32_639 : BitVec 32 := 2#32
  let v854 : BitVec 32 := Scalar.addi v10 c2_i32_639
  let c0_i32_642 : BitVec 32 := 0#32
  let c0_i32_643 : BitVec 32 := 0#32
  let c0_i32_644 : BitVec 32 := 0#32
  ![v854.toNat, 0, 0, 0]
def k0_dev7 (d0 : Dev nD) : Nat :=
  let c0_i32_653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_652 : BitVec 32 := 2#32
  let v861 : BitVec 32 := Scalar.muli v2 c2_i32_652
  let v862 : BitVec 32 := Scalar.addi c0_i32_653 v861
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_654 : BitVec 32 := 1#32
  let v863 : BitVec 32 := Scalar.muli v7 c1_i32_654
  let v864 : BitVec 32 := Scalar.addi v862 v863
  v864.toNat
def k0_cond7 (i : grid0.Coords) : BitVec 1 :=
  let arg0 : BitVec 32 := BitVec.ofNat 32 (i 0).val
  let c3_i32_595 : BitVec 32 := 3#32
  let v726 : BitVec 1 := Scalar.cmpi .eq arg0 c3_i32_595
  let v727 : BitVec 32 := Scalar.extui v726
  let c0_i32_596 : BitVec 32 := 0#32
  let v728 : BitVec 1 := Scalar.cmpi .ne v727 c0_i32_596
  v728

def k0_off314 (d0 : Dev nD) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let c3_i32_634 : BitVec 32 := 3#32
  let v848 : BitVec 32 := Scalar.addi v10 c3_i32_634
  let v849 : Index := Scalar.indexCast v848
  let c0_635 : Index := 0#32
  let c0_636 : Index := 0#32
  let c0_637 : Index := 0#32
  ![v849.toNat, 0, 0, 0]
def k0_off315 (d0 : Dev nD) (c3_i32_639 : BitVec 32) : Fin 4 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32_4 : BitVec 32 := 4#32
  let v10 : BitVec 32 := Scalar.muli v5 c4_i32_4
  let v854 : BitVec 32 := Scalar.addi v10 c3_i32_639
  let c0_i32_642 : BitVec 32 := 0#32
  let c0_i32_643 : BitVec 32 := 0#32
  let c0_i32_644 : BitVec 32 := 0#32
  ![v854.toNat, 0, 0, 0]
def k0_dev8 (d0 : Dev nD) : Nat :=
  let c0_i32_653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_652 : BitVec 32 := 2#32
  let v861 : BitVec 32 := Scalar.muli v2 c2_i32_652
  let v862 : BitVec 32 := Scalar.addi c0_i32_653 v861
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_654 : BitVec 32 := 1#32
  let v863 : BitVec 32 := Scalar.muli v7 c1_i32_654
  let v864 : BitVec 32 := Scalar.addi v862 v863
  v864.toNat
def k0_off316 (d0 : Dev nD) (c0_i32_675 : BitVec 32) : Fin 4 → Nat :=
  let c1_i32_659 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v873 : BitVec 32 := Scalar.subi c1_i32_659 v5
  let c4_i32_660 : BitVec 32 := 4#32
  let v874 : BitVec 32 := Scalar.muli v873 c4_i32_660
  let v889 : BitVec 32 := Scalar.addi v874 c0_i32_675
  let v890 : Index := Scalar.indexCast v889
  let c0_676 : Index := 0#32
  let c0_677 : Index := 0#32
  let c0_678 : Index := 0#32
  ![v890.toNat, 0, 0, 0]
def k0_off317 (d0 : Dev nD) (c0_i32_680 : BitVec 32) : Fin 4 → Nat :=
  let c1_i32_659 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v873 : BitVec 32 := Scalar.subi c1_i32_659 v5
  let c4_i32_660 : BitVec 32 := 4#32
  let v874 : BitVec 32 := Scalar.muli v873 c4_i32_660
  let v895 : BitVec 32 := Scalar.addi v874 c0_i32_680
  let c0_i32_683 : BitVec 32 := 0#32
  let c0_i32_684 : BitVec 32 := 0#32
  let c0_i32_685 : BitVec 32 := 0#32
  ![v895.toNat, 0, 0, 0]
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S8x16x8x2048, .f32⟩
  | .hbm, ⟨6, _⟩ => ⟨S8x16x8x2048, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/-
The buffers of the kernel cut into the pieces its transfers and accesses work on.

Each definition names one piece (a slot) of one buffer: the block of one head of one batch row of an
argument, one head's staging slot of one parity, one batch row's partial result, and so on. The
in-bounds facts are stated once over the index of the slot.
-/
module

public import proofs.«01_k».proof.Proof.Gen.KernelIdeal
public import proofs.«01_k».proof.Proof.Gen.KernelIdeal.Points

@[expose] public section

noncomputable section

namespace FlashDecode

open Idealize.ShloMosaic Idealize.SL.Sem
open Cert.KernelIdeal Cert.KernelIdeal.Gen

/-! ## In-bounds facts -/

/-- A head's queries lie in the argument. -/
theorem inbArgQ (b : Fin 8) (h : Fin 16) :
    ∀ a, (![b.val, 0, h.val, 0] : Fin 4 → Nat) a + S1x8x1x128.size a ≤ S8x8x16x128.size a := by
  intro a; fin_cases a <;> simp <;> omega
/-- A head's keys or values lie in the argument. -/
theorem inbArgKV (b : Fin 8) (h : Fin 16) :
    ∀ a, (![b.val, 0, h.val, 0] : Fin 4 → Nat) a + S1x1024x1x128.size a ≤ S8x1024x16x128.size a := by
  intro a; fin_cases a <;> simp <;> omega
/-- A head's slot lies in the query buffer. -/
theorem inbQ (p : Fin 2) (h : Fin 16) :
    ∀ a, (![p.val, h.val, 0, 0] : Fin 4 → Nat) a + S1x1x8x128.size a ≤ S2x16x8x128.size a := by
  intro a; fin_cases a <;> simp <;> omega
/-- A head's slot lies in the key and value buffers. -/
theorem inbKV (p : Fin 2) (h : Fin 16) :
    ∀ a, (![p.val, h.val, 0, 0] : Fin 4 → Nat) a + S1x1x1024x128.size a ≤ S2x16x1024x128.size a := by
  intro a; fin_cases a <;> simp <;> omega
/-- A head's semaphore is one of the array. -/
theorem inbSem16 (p : Fin 2) (h : Fin 16) :
    ∀ a, (![p.val, h.val] : Fin 2 → Nat) a + S1x1.size a ≤ S2x16.size a := by
  intro a; fin_cases a <;> simp <;> omega
/-- A row's semaphore is one of the array. -/
theorem inbSem4 (j : Fin 4) : ∀ a, (![j.val] : Fin 1 → Nat) a + S1.size a ≤ S4.size a := by
  intro a; fin_cases a; simp; omega
/-- A result row's semaphore is one of the array. -/
theorem inbSemO (g : Fin 2) (j : Fin 4) :
    ∀ a, (![g.val, j.val] : Fin 2 → Nat) a + S1x1.size a ≤ S2x4.size a := by
  intro a; fin_cases a <;> simp <;> omega
/-- A row lies in the buffers of numerators. -/
theorem inbN (j : Fin 4) :
    ∀ a, (![j.val, 0, 0] : Fin 3 → Nat) a + S1x8x2048.size a ≤ S4x8x2048.size a := by
  intro a; fin_cases a <;> simp; omega
/-- A row lies in the buffers of denominators. -/
theorem inbL (j : Fin 4) :
    ∀ a, (![j.val, 0, 0] : Fin 3 → Nat) a + S1x8x16.size a ≤ S4x8x16.size a := by
  intro a; fin_cases a <;> simp; omega
/-- A head's block lies in the buffers of numerators. -/
theorem inbNh (j : Fin 4) (h : Fin 16) :
    ∀ a, (![j.val, 0, 128 * h.val] : Fin 3 → Nat) a + S1x8x128.size a ≤ S4x8x2048.size a := by
  intro a; fin_cases a <;> simp <;> omega
/-- A head's column lies in the buffers of denominators. -/
theorem inbLh (j : Fin 4) (h : Fin 16) :
    ∀ a, (![j.val, 0, h.val] : Fin 3 → Nat) a + S1x8x1.size a ≤ S4x8x16.size a := by
  intro a; fin_cases a <;> simp <;> omega
/-- A row lies in the result. -/
theorem inbO (b : Fin 8) :
    ∀ a, (![b.val, 0, 0, 0] : Fin 4 → Nat) a + S1x8x16x128.size a ≤ S8x8x16x128.size a := by
  intro a; fin_cases a <;> simp; omega

/-! ## The rectangles -/

/-- One head's queries of one batch row in the argument. -/
abbrev rArgQ (b : Fin 8) (h : Fin 16) : Rect S8x8x16x128 := Rect.unit (s := S8x8x16x128) ![b.val, 0, h.val, 0] S1x8x1x128.size (inbArgQ b h)
/-- One head's keys or values of one batch row in the argument. -/
abbrev rArgKV (b : Fin 8) (h : Fin 16) : Rect S8x1024x16x128 := Rect.unit (s := S8x1024x16x128) ![b.val, 0, h.val, 0] S1x1024x1x128.size (inbArgKV b h)
/-- One head's slot of the query buffer. -/
abbrev rQ (p : Fin 2) (h : Fin 16) : Rect S2x16x8x128 := Rect.unit (s := S2x16x8x128) ![p.val, h.val, 0, 0] S1x1x8x128.size (inbQ p h)
/-- One head's slot of the key and value buffers. -/
abbrev rKV (p : Fin 2) (h : Fin 16) : Rect S2x16x1024x128 := Rect.unit (s := S2x16x1024x128) ![p.val, h.val, 0, 0] S1x1x1024x128.size (inbKV p h)
/-- One row of the buffers of numerators. -/
abbrev rN (j : Fin 4) : Rect S4x8x2048 := Rect.unit (s := S4x8x2048) ![j.val, 0, 0] S1x8x2048.size (inbN j)
/-- One row of the buffers of denominators. -/
abbrev rL (j : Fin 4) : Rect S4x8x16 := Rect.unit (s := S4x8x16) ![j.val, 0, 0] S1x8x16.size (inbL j)
/-- One head's block of a row of numerators. -/
abbrev rNh (j : Fin 4) (h : Fin 16) : Rect S4x8x2048 := Rect.unit (s := S4x8x2048) ![j.val, 0, 128 * h.val] S1x8x128.size (inbNh j h)
/-- One head's column of a row of denominators. -/
abbrev rLh (j : Fin 4) (h : Fin 16) : Rect S4x8x16 := Rect.unit (s := S4x8x16) ![j.val, 0, h.val] S1x8x1.size (inbLh j h)
/-- One row of the result. -/
abbrev rO (b : Fin 8) : Rect S8x8x16x128 := Rect.unit (s := S8x8x16x128) ![b.val, 0, 0, 0] S1x8x16x128.size (inbO b)

/-! ## The slots -/

/-- One head of one batch row of the query array. -/
def argQ (b : Fin 8) (h : Fin 16) : Memref sig .tc .hbm S8x128 .f32 :=
  ((Memref.whole main_arg0).slice (rArgQ b h) (fun _ => rfl)).squeeze S8x128 squeezes_S1x8x1x128_S8x128
/-- One head of one batch row of the key array. -/
def argK (b : Fin 8) (h : Fin 16) : Memref sig .tc .hbm S1024x128 .f32 :=
  ((Memref.whole main_arg1).slice (rArgKV b h) (fun _ => rfl)).squeeze S1024x128 squeezes_S1x1024x1x128_S1024x128
/-- One head of one batch row of the value array. -/
def argV (b : Fin 8) (h : Fin 16) : Memref sig .tc .hbm S1024x128 .f32 :=
  ((Memref.whole main_arg2).slice (rArgKV b h) (fun _ => rfl)).squeeze S1024x128 squeezes_S1x1024x1x128_S1024x128
/-- One batch row of the result. -/
def outB (b : Fin 8) : Memref sig .tc .hbm S8x16x128 .f32 :=
  ((Memref.whole main_v1).slice (rO b) (fun _ => rfl)).squeeze S8x16x128 squeezes_S1x8x16x128_S8x16x128
/-- The staging slot of a head's queries. -/
def bufQ (p : Fin 2) (h : Fin 16) : Memref sig .tc .vmem S8x128 .f32 :=
  ((Memref.whole cc0_scratch0).slice (rQ p h) (fun _ => rfl)).squeeze S8x128 squeezes_S1x1x8x128_S8x128
/-- The staging slot of a head's keys. -/
def bufK (p : Fin 2) (h : Fin 16) : Memref sig .tc .vmem S1024x128 .f32 :=
  ((Memref.whole cc0_scratch2).slice (rKV p h) (fun _ => rfl)).squeeze S1024x128 squeezes_S1x1x1024x128_S1024x128
/-- The staging slot of a head's values. -/
def bufV (p : Fin 2) (h : Fin 16) : Memref sig .tc .vmem S1024x128 .f32 :=
  ((Memref.whole cc0_scratch3).slice (rKV p h) (fun _ => rfl)).squeeze S1024x128 squeezes_S1x1x1024x128_S1024x128
/-- This device's numerators of one batch row. -/
def nloc (j : Fin 4) : Memref sig .tc .vmem S8x2048 .bf16 :=
  ((Memref.whole cc0_scratch6).slice (rN j) (fun _ => rfl)).squeeze S8x2048 squeezes_S1x8x2048_S8x2048
/-- This device's denominators of one batch row. -/
def lloc (j : Fin 4) : Memref sig .tc .vmem S8x16 .f32 :=
  ((Memref.whole cc0_scratch7).slice (rL j) (fun _ => rfl)).squeeze S8x16 squeezes_S1x8x16_S8x16
/-- Where the other shard's numerators of one batch row land. -/
def nrem (j : Fin 4) : Memref sig .tc .vmem S8x2048 .bf16 :=
  ((Memref.whole cc0_scratch8).slice (rN j) (fun _ => rfl)).squeeze S8x2048 squeezes_S1x8x2048_S8x2048
/-- Where the other shard's denominators of one batch row land. -/
def lrem (j : Fin 4) : Memref sig .tc .vmem S8x16 .f32 :=
  ((Memref.whole cc0_scratch9).slice (rL j) (fun _ => rfl)).squeeze S8x16 squeezes_S1x8x16_S8x16
/-- One finished batch row, on its way to the device with the other half of the batch. -/
def osnd (j : Fin 4) : Memref sig .tc .vmem S8x2048 .bf16 :=
  ((Memref.whole cc0_scratch10).slice (rN j) (fun _ => rfl)).squeeze S8x2048 squeezes_S1x8x2048_S8x2048
/-- Where a finished batch row of the other half lands. -/
def orcv (j : Fin 4) : Memref sig .tc .vmem S8x2048 .bf16 :=
  ((Memref.whole cc0_scratch11).slice (rN j) (fun _ => rfl)).squeeze S8x2048 squeezes_S1x8x2048_S8x2048
/-- One batch row of the result before it is copied out. -/
def ostg (b : Fin 8) : Memref sig .tc .vmem S8x16x128 .f32 :=
  ((Memref.whole cc0_scratch12).slice (rO b) (fun _ => rfl)).squeeze S8x16x128 squeezes_S1x8x16x128_S8x16x128

/-! ## The semaphores -/

/-- The semaphore of a head's query copy. -/
def qS (p : Fin 2) (h : Fin 16) : DmaSem sig :=
  ((cc0_scratch1.slice (Rect.unit (s := S2x16) ![p.val, h.val] S1x1.size (inbSem16 p h))).squeeze S_ squeezes_S1x1_S_).sem
/-- The semaphore of a head's key copy. -/
def kS (p : Fin 2) (h : Fin 16) : DmaSem sig :=
  ((cc0_scratch4.slice (Rect.unit (s := S2x16) ![p.val, h.val] S1x1.size (inbSem16 p h))).squeeze S_ squeezes_S1x1_S_).sem
/-- The semaphore of a head's value copy. -/
def vS (p : Fin 2) (h : Fin 16) : DmaSem sig :=
  ((cc0_scratch5.slice (Rect.unit (s := S2x16) ![p.val, h.val] S1x1.size (inbSem16 p h))).squeeze S_ squeezes_S1x1_S_).sem
/-- The semaphore of a row's numerators that have left. -/
def nsndS (j : Fin 4) : DmaSem sig :=
  ((cc0_scratch13.slice (Rect.unit (s := S4) ![j.val] S1.size (inbSem4 j))).squeeze S_ squeezes_S1_S_).sem
/-- The semaphore of a row's denominators that have left. -/
def lsndS (j : Fin 4) : DmaSem sig :=
  ((cc0_scratch14.slice (Rect.unit (s := S4) ![j.val] S1.size (inbSem4 j))).squeeze S_ squeezes_S1_S_).sem
/-- The semaphore of a row's numerators that have arrived. -/
def nrcvS (j : Fin 4) : DmaSem sig :=
  ((cc0_scratch15.slice (Rect.unit (s := S4) ![j.val] S1.size (inbSem4 j))).squeeze S_ squeezes_S1_S_).sem
/-- The semaphore of a row's denominators that have arrived. -/
def lrcvS (j : Fin 4) : DmaSem sig :=
  ((cc0_scratch16.slice (Rect.unit (s := S4) ![j.val] S1.size (inbSem4 j))).squeeze S_ squeezes_S1_S_).sem
/-- The semaphore of a finished row that has left. -/
def osndS (j : Fin 4) : DmaSem sig :=
  ((cc0_scratch17.slice (Rect.unit (s := S4) ![j.val] S1.size (inbSem4 j))).squeeze S_ squeezes_S1_S_).sem
/-- The semaphore of a finished row that has arrived. -/
def orcvS (j : Fin 4) : DmaSem sig :=
  ((cc0_scratch18.slice (Rect.unit (s := S4) ![j.val] S1.size (inbSem4 j))).squeeze S_ squeezes_S1_S_).sem
/-- The semaphore of a copy to the result. -/
def outS (g : Fin 2) (j : Fin 4) : DmaSem sig :=
  ((cc0_scratch19.slice (Rect.unit (s := S2x4) ![g.val, j.val] S1x1.size (inbSemO g j))).squeeze S_ squeezes_S1x1_S_).sem

/-- The runtime's barrier semaphore. -/
abbrev barS : Sem sig := (SemArray.scalar (sig.barrier 0 rfl) : Sems sig S_).sem

end FlashDecode

end

end
-- ==== Proof.Tidy.lean ====
/-
The kernel body written once per head, per batch row and per transfer.

The printed body is one long sequence in which every head and every row is spelled out. Here each of
those repeats is one definition over its index, and `body_eq` states that the printed body is the
sequence built from them.
-/
module

public import proofs.«01_k».proof.Proof.Slots

@[expose] public section

noncomputable section

namespace FlashDecode

open Idealize.ShloMosaic Idealize.SL.Sem
open Cert.KernelIdeal Cert.KernelIdeal.Gen

variable {F : FTy → Type} [FloatOps F]

/-- A program of the body: it makes device effects and returns nothing. -/
abbrev Act (F : FTy → Type) [FloatOps F] : Type _ := Prog (TpuEff nD τ sig (Elt F) Λ₀ .tc) PUnit

/-- The programs `f 0`, `f 1`, …, `f (n-1)` one after another. -/
def forFin : (n : Nat) → (Fin n → Act F) → Act F
  | 0, _ => pure ⟨⟩
  | n + 1, f => do
      f 0
      forFin n (fun i => f i.succ)

/-! ## Facts about packed rows -/

/-- A row of numerators is whole packed rows. -/
theorem packedN (j : Fin 4) : (rN j).PackedRows (EltTy.packing .bf16) := by revert j; decide
/-- A head's block of numerators is whole packed rows. -/
theorem packedNh (j : Fin 4) (h : Fin 16) : (rNh j h).PackedRows (EltTy.packing .bf16) := by revert j h; decide

/-! ## The vector arithmetic -/

/-- The exponentials of the scaled scores of one head. -/
def expS (q : FVec F S8x128 .f32) (k : FVec F S1024x128 .f32) : FVec F S8x1024 .f32 :=
  exp (mulf (matmul dot_S8x128_S1024x128_S8x1024_1_1_0_0_n_n none q k (constant S8x1024 .f32 0x00000000#32))
    (broadcast S8x1024 (Scalar.ofBits .f32 0x3DB504F3#32)))

/-- The row sums of the exponentials. -/
def rowSum (p : FVec F S8x1024 .f32) : FVec F S8 .f32 :=
  multiReduction .add [1] S8 p 0x00000000#32 reduces_S8x1024_S8 (.inl rfl) rfl

/-- The exponentials times the values, rounded for the exchange. -/
def numer (p : FVec F S8x1024 .f32) (v : FVec F S1024x128 .f32) : FVec F S8x128 .bf16 :=
  truncf .bf16 (matmul dot_S8x1024_S1024x128_S8x128_1_0_0_1_n_n none p v (constant S8x128 .f32 0x00000000#32)) bitsLt_bf16_f32

/-- A head's column can be cut from a row of denominators. -/
theorem slicesCol (h : Fin 16) : S8x16.Slices ![0, h.val] S8x1 := by revert h; decide

/-- One head's column of the denominators, repeated along that head's 128 lanes. -/
def lanes (l : FVec F S8x16 .f32) (h : Fin 16) : FVec F S8x128 .f32 :=
  broadcastTo S8x128 (shapeCast S8x1 (shapeCast S8x1 (shapeCast S8 (extractStridedSlice S8x1 ![0, h.val] l (slicesCol h))
    shapeCasts_S8x1_S8) shapeCasts_S8_S8x1) shapeCasts_S8x1_S8x1) broadcasts_S8x1_S8x128

/-- The denominators at the shape of the numerators. -/
def spread (l : FVec F S8x16 .f32) : FVec F S8x2048 .f32 :=
  concatenate S8x2048 1 [⟨S8x128, lanes l 0⟩, ⟨S8x128, lanes l 1⟩, ⟨S8x128, lanes l 2⟩, ⟨S8x128, lanes l 3⟩,
    ⟨S8x128, lanes l 4⟩, ⟨S8x128, lanes l 5⟩, ⟨S8x128, lanes l 6⟩, ⟨S8x128, lanes l 7⟩, ⟨S8x128, lanes l 8⟩,
    ⟨S8x128, lanes l 9⟩, ⟨S8x128, lanes l 10⟩, ⟨S8x128, lanes l 11⟩, ⟨S8x128, lanes l 12⟩, ⟨S8x128, lanes l 13⟩,
    ⟨S8x128, lanes l 14⟩, ⟨S8x128, lanes l 15⟩]
    concatenates_S8x128_S8x128_S8x128_S8x128_S8x128_S8x128_S8x128_S8x128_S8x128_S8x128_S8x128_S8x128_S8x128_S8x128_S8x128_S8x128_S8x2048_d1

/-- The sum of the two shards' numerators over the sum of their denominators. -/
def quot (n n' : FVec F S8x2048 .bf16) (l l' : FVec F S8x16 .f32) : FVec F S8x2048 .f32 :=
  divf (addf (extf .f32 n bitsLt_bf16_f32) (extf .f32 n' bitsLt_bf16_f32)) (spread (addf l l'))

/-! ## The pieces of the body -/

/-- Start the copies of one head's queries, keys and values into their staging slots. -/
def issueHead (p : Fin 2) (b : Fin 8) (h : Fin 16) : Act F := do
  Prog.lift (.enqueueDma (argQ b h) (.here (bufQ p h)) (.dma (qS p h)) ((View.wordExact_bits rfl).reshape _ _) ((View.wordExact_bits rfl).reshape _ _) ⟨Or.inl rfl, trivial⟩)
  Prog.lift (.enqueueDma (argK b h) (.here (bufK p h)) (.dma (kS p h)) ((View.wordExact_bits rfl).reshape _ _) ((View.wordExact_bits rfl).reshape _ _) ⟨Or.inl rfl, trivial⟩)
  Prog.lift (.enqueueDma (argV b h) (.here (bufV p h)) (.dma (vS p h)) ((View.wordExact_bits rfl).reshape _ _) ((View.wordExact_bits rfl).reshape _ _) ⟨Or.inl rfl, trivial⟩)

/-- Wait for one head's copies, then compute and store its denominators and numerators. -/
def headStep (p : Fin 2) (b : Fin 8) (t : Fin 4) (h : Fin 16) : Act F := do
  Prog.lift (.waitDma2 (qS p h) (argQ b h) (bufQ p h) ((View.wordExact_bits rfl).reshape _ _) ((View.wordExact_bits rfl).reshape _ _))
  Prog.lift (.waitDma2 (kS p h) (argK b h) (bufK p h) ((View.wordExact_bits rfl).reshape _ _) ((View.wordExact_bits rfl).reshape _ _))
  Prog.lift (.waitDma2 (vS p h) (argV b h) (bufV p h) ((View.wordExact_bits rfl).reshape _ _) ((View.wordExact_bits rfl).reshape _ _))
  let q : Vec F S1x1x8x128 .f32 ← Prog.lift (.load (Memref.whole cc0_scratch0) (rQ p h).toLoadRect (View.loadsAt_vmem h_S1x1x8x128))
  let k : Vec F S1x1x1024x128 .f32 ← Prog.lift (.load (Memref.whole cc0_scratch2) (rKV p h).toLoadRect (View.loadsAt_vmem h_S1x1x1024x128))
  let _ : Vec F S1x8x1 .f32 ← Prog.lift (.load (Memref.whole cc0_scratch7) (rLh t h).toLoadRect (View.loadsAt_vmem h_S1x8x1))
  Prog.lift (.store (Memref.whole cc0_scratch7) (rLh t h)
    (shapeCast S1x8x1 (rowSum (expS (shapeCast S8x128 q shapeCasts_S1x1x8x128_S8x128) (shapeCast S1024x128 k shapeCasts_S1x1x1024x128_S1024x128))) shapeCasts_S8_S1x8x1)
    Finset.univ (View.stores_vmem_bits_univ h_S1x8x1 rfl) (.inl rfl))
  let v : Vec F S1x1x1024x128 .f32 ← Prog.lift (.load (Memref.whole cc0_scratch3) (rKV p h).toLoadRect (View.loadsAt_vmem h_S1x1x1024x128))
  let _ : Vec F S1x8x128 .bf16 ← Prog.lift (.load (Memref.whole cc0_scratch6) (rNh t h).toLoadRect (View.loadsAt_vmem h_S1x8x128))
  Prog.lift (.store (Memref.whole cc0_scratch6) (rNh t h)
    (shapeCast S1x8x128 (numer (expS (shapeCast S8x128 q shapeCasts_S1x1x8x128_S8x128) (shapeCast S1024x128 k shapeCasts_S1x1x1024x128_S1024x128))
      (shapeCast S1024x128 v shapeCasts_S1x1x1024x128_S1024x128)) shapeCasts_S8x128_S1x8x128)
    Finset.univ (View.stores_vmem h_S1x8x128 ((Memref.isWhole_whole cc0_scratch6).storeExact_slice rfl _ (packedNh t h)) (fun _ => rfl)) (.inl rfl))

/-- Tell both neighbours that this device is here, and wait for both. -/
def meet (x y : Dev nD) : Act F := do
  semSignalWord x barS 1#32
  semSignalWord y barS 1#32
  semWaitWord barS 2#32

/-- Send one row's numerators to the device with the other shard. -/
def sendN (x : Dev nD) (j : Fin 4) : Act F :=
  Prog.lift (.enqueueDma (nloc j) (.remote (Dev.tc x) (nrem j) (.dma (nsndS j))) (.dma (nrcvS j))
    (((Memref.isWhole_whole cc0_scratch6).wordExact_slice rfl _ (packedN j).wholeWords).reshape _ _)
    (((Memref.isWhole_whole cc0_scratch8).wordExact_slice rfl _ (packedN j).wholeWords).reshape _ _) ⟨⟨rfl, Or.inl rfl⟩, trivial⟩)

/-- Send one row's denominators to the device with the other shard. -/
def sendL (x : Dev nD) (j : Fin 4) : Act F :=
  Prog.lift (.enqueueDma (lloc j) (.remote (Dev.tc x) (lrem j) (.dma (lsndS j))) (.dma (lrcvS j))
    ((View.wordExact_bits rfl).reshape _ _) ((View.wordExact_bits rfl).reshape _ _) ⟨⟨rfl, Or.inl rfl⟩, trivial⟩)

/-- Wait for the other shard's part of one row, divide, store the quotient, start its copy to the
    result and its transfer to the device with the other half of the batch. -/
def combine (y : Dev nD) (b : Fin 8) (j : Fin 4) : Act F := do
  Prog.lift (.waitDma2 (nrcvS j) (nloc j) (nrem j)
    (((Memref.isWhole_whole cc0_scratch6).wordExact_slice rfl _ (packedN j).wholeWords).reshape _ _)
    (((Memref.isWhole_whole cc0_scratch8).wordExact_slice rfl _ (packedN j).wholeWords).reshape _ _))
  Prog.lift (.waitDma2 (lrcvS j) (lloc j) (lrem j) ((View.wordExact_bits rfl).reshape _ _) ((View.wordExact_bits rfl).reshape _ _))
  let n : Vec F S1x8x2048 .bf16 ← Prog.lift (.load (Memref.whole cc0_scratch6) (rN j).toLoadRect (View.loadsAt_vmem h_S1x8x2048))
  let n' : Vec F S1x8x2048 .bf16 ← Prog.lift (.load (Memref.whole cc0_scratch8) (rN j).toLoadRect (View.loadsAt_vmem h_S1x8x2048))
  let l : Vec F S1x8x16 .f32 ← Prog.lift (.load (Memref.whole cc0_scratch7) (rL j).toLoadRect (View.loadsAt_vmem h_S1x8x16))
  let l' : Vec F S1x8x16 .f32 ← Prog.lift (.load (Memref.whole cc0_scratch9) (rL j).toLoadRect (View.loadsAt_vmem h_S1x8x16))
  let o : FVec F S8x2048 .f32 := quot (shapeCast S8x2048 n shapeCasts_S1x8x2048_S8x2048) (shapeCast S8x2048 n' shapeCasts_S1x8x2048_S8x2048)
    (shapeCast S8x16 l shapeCasts_S1x8x16_S8x16) (shapeCast S8x16 l' shapeCasts_S1x8x16_S8x16)
  let _ : Vec F S1x8x2048 .bf16 ← Prog.lift (.load (Memref.whole cc0_scratch10) (rN j).toLoadRect (View.loadsAt_vmem h_S1x8x2048))
  Prog.lift (.store (Memref.whole cc0_scratch10) (rN j) (shapeCast S1x8x2048 (truncf .bf16 o bitsLt_bf16_f32) shapeCasts_S8x2048_S1x8x2048)
    Finset.univ (View.stores_vmem h_S1x8x2048 ((Memref.isWhole_whole cc0_scratch10).storeExact_slice rfl _ (packedN j)) (fun _ => rfl)) (.inl rfl))
  let _ : Vec F S1x8x16x128 .f32 ← Prog.lift (.load (Memref.whole cc0_scratch12) (rO b).toLoadRect (View.loadsAt_vmem h_S1x8x16x128))
  Prog.lift (.store (Memref.whole cc0_scratch12) (rO b) (shapeCast S1x8x16x128 (shapeCast S8x16x128 o shapeCasts_S8x2048_S8x16x128) shapeCasts_S8x16x128_S1x8x16x128)
    Finset.univ (View.stores_vmem_bits_univ h_S1x8x16x128 rfl) (.inl rfl))
  Prog.lift (.enqueueDma (ostg b) (.here (outB b)) (.dma (outS 0 j)) ((View.wordExact_bits rfl).reshape _ _) ((View.wordExact_bits rfl).reshape _ _) ⟨Or.inl rfl, trivial⟩)
  Prog.lift (.enqueueDma (osnd j) (.remote (Dev.tc y) (orcv j) (.dma (osndS j))) (.dma (orcvS j))
    (((Memref.isWhole_whole cc0_scratch10).wordExact_slice rfl _ (packedN j).wholeWords).reshape _ _)
    (((Memref.isWhole_whole cc0_scratch11).wordExact_slice rfl _ (packedN j).wholeWords).reshape _ _) ⟨⟨rfl, Or.inl rfl⟩, trivial⟩)

/-- Wait for one finished row of the other half of the batch and start its copy to the result. -/
def gather (b : Fin 8) (j : Fin 4) : Act F := do
  Prog.lift (.waitDma2 (orcvS j) (osnd j) (orcv j)
    (((Memref.isWhole_whole cc0_scratch10).wordExact_slice rfl _ (packedN j).wholeWords).reshape _ _)
    (((Memref.isWhole_whole cc0_scratch11).wordExact_slice rfl _ (packedN j).wholeWords).reshape _ _))
  let n : Vec F S1x8x2048 .bf16 ← Prog.lift (.load (Memref.whole cc0_scratch11) (rN j).toLoadRect (View.loadsAt_vmem h_S1x8x2048))
  let _ : Vec F S1x8x16x128 .f32 ← Prog.lift (.load (Memref.whole cc0_scratch12) (rO b).toLoadRect (View.loadsAt_vmem h_S1x8x16x128))
  Prog.lift (.store (Memref.whole cc0_scratch12) (rO b)
    (shapeCast S1x8x16x128 (shapeCast S8x16x128 (extf .f32 (shapeCast S8x2048 n shapeCasts_S1x8x2048_S8x2048) bitsLt_bf16_f32) shapeCasts_S8x2048_S8x16x128) shapeCasts_S8x16x128_S1x8x16x128)
    Finset.univ (View.stores_vmem_bits_univ h_S1x8x16x128 rfl) (.inl rfl))
  Prog.lift (.enqueueDma (ostg b) (.here (outB b)) (.dma (outS 1 j)) ((View.wordExact_bits rfl).reshape _ _) ((View.wordExact_bits rfl).reshape _ _) ⟨Or.inl rfl, trivial⟩)

/-- Wait for the copies of one row of each half to the result. -/
def settleOut (b b' : Fin 8) (j : Fin 4) : Act F := do
  Prog.lift (.waitDma2 (outS 0 j) (ostg b) (outB b) ((View.wordExact_bits rfl).reshape _ _) ((View.wordExact_bits rfl).reshape _ _))
  Prog.lift (.waitDma2 (outS 1 j) (ostg b') (outB b') ((View.wordExact_bits rfl).reshape _ _) ((View.wordExact_bits rfl).reshape _ _))

/-- Wait until one row's three transfers have left this device. -/
def settleSend (j : Fin 4) : Act F := do
  Prog.lift (.waitDma2 (nsndS j) (nrem j) (nloc j)
    (((Memref.isWhole_whole cc0_scratch8).wordExact_slice rfl _ (packedN j).wholeWords).reshape _ _)
    (((Memref.isWhole_whole cc0_scratch6).wordExact_slice rfl _ (packedN j).wholeWords).reshape _ _))
  Prog.lift (.waitDma2 (lsndS j) (lrem j) (lloc j) ((View.wordExact_bits rfl).reshape _ _) ((View.wordExact_bits rfl).reshape _ _))
  Prog.lift (.waitDma2 (osndS j) (orcv j) (osnd j)
    (((Memref.isWhole_whole cc0_scratch11).wordExact_slice rfl _ (packedN j).wholeWords).reshape _ _)
    (((Memref.isWhole_whole cc0_scratch10).wordExact_slice rfl _ (packedN j).wholeWords).reshape _ _))

/-! ## The coordinates the body computes -/

/-- The grid step as the body's word. -/
abbrev stepW (i : grid0.Coords) : BitVec 32 := BitVec.ofNat 32 (i 0).val
/-- The device's batch coordinate as the body's word. -/
abbrev yW (d : Dev nD) : BitVec 32 := Scalar.remsi (Scalar.divsi (Dev.word d) 1#32) 2#32

/-- There are four points. -/
theorem step_lt (i : grid0.Coords) : (stepW i).toNat < 4 := by revert i; decide +kernel
/-- There are two buffer halves. -/
theorem par_lt (i : grid0.Coords) : (Scalar.remsi (stepW i) 2#32).toNat < 2 := by revert i; decide +kernel
/-- There are two buffer halves, at the next point too. -/
theorem parNext_lt (i : grid0.Coords) : (Scalar.remsi (Scalar.addi (stepW i) 1#32) 2#32).toNat < 2 := by revert i; decide +kernel
/-- The batch row is one of eight. -/
theorem row_lt (i : grid0.Coords) (d : Dev nD) : (Scalar.addi (Scalar.muli (yW d) 4#32) (stepW i)).toNat < 8 := by revert i d; decide +kernel
/-- The next batch row is one of eight. -/
theorem rowNext_lt (i : grid0.Coords) (d : Dev nD) (h : k0_cond2 i = 1#1) :
    (Scalar.addi (Scalar.muli (yW d) 4#32) (Scalar.addi (stepW i) 1#32)).toNat < 8 := by revert i d; decide +kernel
/-- An own batch row is one of eight. -/
theorem own_lt (d : Dev nD) (j : Fin 4) : (Scalar.addi (Scalar.muli (yW d) 4#32) (BitVec.ofNat 32 j.val)).toNat < 8 := by revert d j; decide +kernel
/-- A batch row of the other half is one of eight. -/
theorem other_lt (d : Dev nD) (j : Fin 4) :
    (Scalar.addi (Scalar.muli (Scalar.subi 1#32 (yW d)) 4#32) (BitVec.ofNat 32 j.val)).toNat < 8 := by revert d j; decide +kernel

/-- The number of the point. -/
def stepOf (i : grid0.Coords) : Fin 4 := ⟨(stepW i).toNat, step_lt i⟩
/-- The buffer half that the point computes from. -/
def parOf (i : grid0.Coords) : Fin 2 := ⟨(Scalar.remsi (stepW i) 2#32).toNat, par_lt i⟩
/-- The buffer half that the point fills for the next. -/
def parNext (i : grid0.Coords) : Fin 2 := ⟨(Scalar.remsi (Scalar.addi (stepW i) 1#32) 2#32).toNat, parNext_lt i⟩
/-- The batch row of the point. -/
def rowOf (i : grid0.Coords) (d : Dev nD) : Fin 8 := ⟨(Scalar.addi (Scalar.muli (yW d) 4#32) (stepW i)).toNat, row_lt i d⟩
/-- The batch row of the next point. -/
def rowNext (i : grid0.Coords) (d : Dev nD) (h : k0_cond2 i = 1#1) : Fin 8 :=
  ⟨(Scalar.addi (Scalar.muli (yW d) 4#32) (Scalar.addi (stepW i) 1#32)).toNat, rowNext_lt i d h⟩
/-- Row `j` of the device's own half of the batch. -/
def ownRow (d : Dev nD) (j : Fin 4) : Fin 8 := ⟨(Scalar.addi (Scalar.muli (yW d) 4#32) (BitVec.ofNat 32 j.val)).toNat, own_lt d j⟩
/-- Row `j` of the other half. -/
def otherRow (d : Dev nD) (j : Fin 4) : Fin 8 :=
  ⟨(Scalar.addi (Scalar.muli (Scalar.subi 1#32 (yW d)) 4#32) (BitVec.ofNat 32 j.val)).toNat, other_lt d j⟩

/-! ## The body -/

/-- What the last step does after its row: the finished rows of the other half, and every wait that is left. -/
def finish (d : Dev nD) : Act F := do
  forFin 4 (fun j => gather (otherRow d j) j)
  forFin 4 (fun j => settleOut (ownRow d j) (otherRow d j) j)
  forFin 4 settleSend

/-- At the first step: start the copies of the first row. -/
def open1 (i : grid0.Coords) (d : Dev nD) : Act F :=
  if _h : k0_cond1 i = 1#1 then forFin 16 (issueHead 0 (ownRow d 0)) else pure ⟨⟩
/-- At every step but the last: start the copies of the next row. -/
def open2 (i : grid0.Coords) (d : Dev nD) : Act F :=
  if h : k0_cond2 i = 1#1 then forFin 16 (issueHead (parNext i) (rowNext i d h)) else pure ⟨⟩
/-- At the first step: meet the two neighbours. -/
def open3 (i : grid0.Coords) (d : Dev nD) : Act F :=
  if h : k0_cond3 i = 1#1 then meet ⟨k0_dev1 d, k0_dev1_lt i d h⟩ ⟨k0_dev2 d, k0_dev2_lt i d h⟩ else pure ⟨⟩
/-- At the second step: finish the first row. -/
def close4 (i : grid0.Coords) (d : Dev nD) : Act F :=
  if h : k0_cond4 i = 1#1 then combine ⟨k0_dev5 d, k0_dev5_lt i d h⟩ (ownRow d 0) 0 else pure ⟨⟩
/-- At the third step: finish the second row. -/
def close5 (i : grid0.Coords) (d : Dev nD) : Act F :=
  if h : k0_cond5 i = 1#1 then combine ⟨k0_dev6 d, k0_dev6_lt i d h⟩ (ownRow d 1) 1 else pure ⟨⟩
/-- At the last step: finish the third row. -/
def close6 (i : grid0.Coords) (d : Dev nD) : Act F :=
  if h : k0_cond6 i = 1#1 then combine ⟨k0_dev7 d, k0_dev7_lt i d h⟩ (ownRow d 2) 2 else pure ⟨⟩
/-- At the last step: finish the fourth row and everything that is still open. -/
def close7 (i : grid0.Coords) (d : Dev nD) : Act F :=
  if h : k0_cond7 i = 1#1 then do
    combine ⟨k0_dev8 d, k0_dev8_lt i d h⟩ (ownRow d 3) 3
    finish d
  else pure ⟨⟩

/-- One step of the kernel. -/
def tidy (i : grid0.Coords) : Act F := do
  let d ← Prog.lift .deviceId
  open1 i d
  open2 i d
  open3 i d
  forFin 16 (headStep (parOf i) (rowOf i d) (stepOf i))
  sendN ⟨k0_dev3 d, k0_dev3_lt d⟩ (stepOf i)
  sendL ⟨k0_dev4 d, k0_dev4_lt d⟩ (stepOf i)
  close4 i d
  close5 i d
  close6 i d
  close7 i d

end FlashDecode

end

end
-- ==== Proof.Pieces.lean ====
/-
Owning the pieces of a buffer: how a buffer is cut into slots and put back together, and what the
kernel's accesses and transfers do to a slot.

A slot here is a rectangle of a buffer seen at a smaller shape. Every statement is over an arbitrary
buffer and rectangle.
-/
module

public import proofs.«01_k».proof.Proof.Tidy
public import Idealize.ShloMosaic.Lib.Transfers
public import Idealize.ShloMosaic.Lib.Rounds
public import Idealize.ShloMosaic.Lib.Pipeline.Kit
public import Idealize.ShloMosaic.Lib.Pipeline.Launch
public import Idealize.ShloMosaic.Lib.Memref
public import Idealize.ShloMosaic.Lib.Tactic
public import Idealize.ShloMosaic.Lib.Pipeline.Value
public import Idealize.ShloMosaic.Lib.ValueLayout

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost state -/

/-- The ghost state of the cells that devices pay into. -/
abbrev UB : Type := URounds (GSem nD τ sig) Bool
/-- All the ghost state: the pipeline's, the paid cells', and the local copies' counters. -/
abbrev UU : Type := UR sig nD τ × (UB × Counters)

local notation "𝕄" => MT nD τ sig Unit (Elt F) ℕ UU ℕ

/-- The pipeline's place in the resources. -/
abbrev EP : Emb (UR sig nD τ) (MT nD τ sig Unit (Elt F) ℕ UU ℕ) := embL

/-- Where the paid cells' ghost state lives. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The protocol's place lies among what may be stored in an invariant. -/
instance ER_landsIn : (ER : Emb UB 𝕄).LandsIn (upEmb : UEmb _ 𝕄) := by unfold ER; infer_instance

/-- Where the local copies' counters live. -/
abbrev EC : UEmb Counters (MT nD τ sig Unit (Elt F) ℕ UU ℕ) := countersEmb

/-- No loop of the kernel needs a measure. -/
abbrev 𝒱₀ : Variants := Variants.none

/-- Device `d` runs `p` and ends in `Q`. -/
abbrev runs (d : Dev nD) (p : Act F) (Q : PUnit → sProp 𝕄) : sProp 𝕄 :=
  wp frame (wpE (defs₀ (F := F)) 𝒱₀ (d : Thread nD τ) none) Set.univ p Q

/-- Device `d` still owes `O`. -/
def ow (d : Dev nD) (O : CellTallies nD τ sig Unit) : sProp 𝕄 := iprop(∃ W, owes (d : Thread nD τ) O W)

/-- Device `d` owns piece `m` at share `q`, holding `X`. -/
abbrev has (d : Dev nD) {sp : Space} {s : Shape} {e : EltTy} (m : Memref sig .tc sp s e) (q : PosShare TreeShare)
    (X : s.Idx → Elt F e) : sProp 𝕄 := owns (d : Thread nD τ) m q X

/-- Device `d` owns piece `m` outright, whatever it holds. -/
def any (d : Dev nD) {sp : Space} {s : Shape} {e : EltTy} (m : Memref sig .tc sp s e) : sProp 𝕄 :=
  iprop(∃ X, has d m fullShare X)

/-- Owning a piece may be stored in an invariant. -/
instance any_storable (d : Dev nD) {sp : Space} {s : Shape} {e : EltTy} (m : Memref sig .tc sp s e) :
    BI.Storable (upEmb : UEmb _ 𝕄) (any d m) := by unfold any; infer_instance

omit [FloatOps F] in
/-- A piece with known contents is a piece. -/
theorem any_intro (d : Dev nD) {sp : Space} {s : Shape} {e : EltTy} (m : Memref sig .tc sp s e)
    (X : s.Idx → Elt F e) : (has d m fullShare X : sProp 𝕄) ⊢ any d m := by
  unfold any; iintro H; iexists X; iexact H

omit [FloatOps F] in
/-- A piece has some contents. -/
theorem any_elim (d : Dev nD) {sp : Space} {s : Shape} {e : EltTy} (m : Memref sig .tc sp s e) :
    (any d m : sProp 𝕄) ⊢ iprop(∃ X, has d m fullShare X) := .rfl

/-! ## Slots of a buffer -/

section Slots

variable (d : Dev nD) {sp : Space} {s s' : Shape} {e : EltTy} (m : Memref sig .tc sp s e)

omit [FloatOps F] in
/-- Owning a slot seen at a smaller shape is owning its rectangle. -/
theorem has_squeeze (h : s.Squeezes s') (q : PosShare TreeShare) (X : s'.Idx → Elt F e)
    (hc : s'.ShapeCasts s) :
    (has d (m.squeeze s' h) q X : sProp 𝕄) = has d m q (shapeCast s X hc) := by
  have hset : (m.squeeze s' h).view.set = m.view.set := View.set_reshape _ _
  have key : ∀ f : m.view.ty.Contents (Elt F), ((m.squeeze s' h).view.read (Elt F) f = X) ↔ (m.view.read (Elt F) f = shapeCast s X hc) := by
    intro f
    have hread : (m.squeeze s' h).view.read (Elt F) f = shapeCast s' (m.view.read (Elt F) f) h.numel_eq := rfl
    rw [hread]
    constructor
    · intro hX; rw [← hX]; exact (shapeCast_shapeCast _ _ _).symm
    · intro hX; rw [hX]; exact shapeCast_shapeCast _ _ _
  have h1 : (has d (m.squeeze s' h) q X : sProp 𝕄) ⊢ has d m q (shapeCast s X hc) := by
    unfold has owns
    iintro ⟨%f, %hf, H⟩
    iexists f
    isplitr; · ipureintro; exact (key f).1 hf
    rw [← hset]; iexact H
  have h2 : (has d m q (shapeCast s X hc) : sProp 𝕄) ⊢ has d (m.squeeze s' h) q X := by
    unfold has owns
    iintro ⟨%f, %hf, H⟩
    iexists f
    isplitr; · ipureintro; exact (key f).2 hf
    rw [hset]; iexact H
  exact BI.equiv_iff.mp ⟨h1, h2⟩

variable {T : Type} [Fintype T] [DecidableEq T] (r : T → Rect s) (hr : ∀ t a, (r t).stride a = 1)
  (key : s.Idx → T) (hkey : ∀ t x, x ∈ (r t).set ↔ key x = t)

omit [Fintype T] [DecidableEq T] in
include hkey in
/-- Rectangles told apart by a key are disjoint. -/
theorem disjoint_of_key (t t' : T) (h : t ≠ t') : Disjoint (r t).set (r t').set :=
  Finset.disjoint_left.mpr fun x hx hx' => h (((hkey t x).1 hx).symm.trans ((hkey t' x).1 hx'))

omit [DecidableEq T] in
include hkey in
/-- Rectangles told apart by a key of every index cover. -/
theorem cover_of_key : (Finset.univ : Finset T).biUnion (fun t => (r t).set) = Finset.univ := by
  ext x
  simp only [Finset.mem_biUnion, Finset.mem_univ, true_and, iff_true]
  exact ⟨key x, (hkey _ x).2 rfl⟩

variable (hs : ∀ t, (r t).shape.Squeezes s')

/-- Slot `t` of the piece `m`. -/
abbrev slotAt (t : T) : Memref sig .tc sp s' e := (m.slice (r t) (hr t)).squeeze s' (hs t)

omit [DecidableEq T] [FloatOps F] in
include hkey in
/-- A piece holding `X` is its slots, each holding its part. -/
theorem slots_split (q : PosShare TreeShare) (g : m.view.ty.Contents (Elt F)) :
    (m.view.loc (d : Thread nD τ) ↦[m.view.set]{q} g : sProp 𝕄)
      ⊢ bigSep Finset.univ fun t => has d (slotAt m r hr hs t) q ((slotAt m r hr hs t).view.read (Elt F) g) := by
  rw [pointsTo_rects (d : Thread nD τ) m q r hr (disjoint_of_key r key hkey) (cover_of_key r key hkey) g]
  refine bigSep_mono fun t _ => ?_
  rw [has_squeeze d (m.slice (r t) (hr t)) (hs t) q _ (hs t).numel_eq.symm]
  have : (slotAt m r hr hs t).view.read (Elt F) g
      = shapeCast s' (fun j => m.view.read (Elt F) g ((r t).emb j)) (hs t).numel_eq := rfl
  rw [this, shapeCast_shapeCast]
  exact Idealize.SL.BI.Entails.refl _

omit [FloatOps F] in
include hkey in
/-- The slots of a piece, each holding its part, are the piece at contents that agree with every part. -/
theorem slots_join [∀ e, Nonempty (Elt F e)] (q : PosShare TreeShare) (X : T → s'.Idx → Elt F e) :
    (bigSep Finset.univ fun t => has d (slotAt m r hr hs t) q (X t))
      ⊢ (iprop(∃ g, ⌜∀ t, (slotAt m r hr hs t).view.read (Elt F) g = X t⌝
          ∗ (m.view.loc (d : Thread nD τ) ↦[m.view.set]{q} g)) : sProp 𝕄) := by
  classical
  let Y : s.Idx → Elt F e := fun x =>
    if h : ∃ j, (r (key x)).emb j = x then shapeCast (r (key x)).shape (X (key x)) (hs (key x)).numel_eq.symm h.choose
    else Classical.arbitrary _
  have hY : ∀ t j, Y ((r t).emb j) = shapeCast (r t).shape (X t) (hs t).numel_eq.symm j := by
    intro t j
    have hk : key ((r t).emb j) = t := (hkey t _).1 (by
      rw [← Rect.map_emb_univ]; exact Finset.mem_map_of_mem _ (Finset.mem_univ j))
    have gen : ∀ t', key ((r t).emb j) = t' → t' = t →
        (if h : ∃ j', (r t').emb j' = (r t).emb j then shapeCast (r t').shape (X t') (hs t').numel_eq.symm h.choose
          else Classical.arbitrary _) = shapeCast (r t).shape (X t) (hs t).numel_eq.symm j := by
      rintro t' - rfl
      have h : ∃ j', (r t').emb j' = (r t').emb j := ⟨j, rfl⟩
      rw [dif_pos h]
      exact congrArg _ ((r t').emb.injective h.choose_spec)
    exact gen _ rfl hk
  have e : (bigSep Finset.univ fun t => has d (slotAt m r hr hs t) q (X t) : sProp 𝕄)
      = bigSep Finset.univ fun t => has d (m.slice (r t) (hr t)) q (fun j => Y ((r t).emb j)) :=
    bigSep_congr fun t _ => by
      rw [has_squeeze d (m.slice (r t) (hr t)) (hs t) q _ (hs t).numel_eq.symm]
      exact congrArg _ (funext fun j => (hY t j).symm)
  rw [e]
  refine (owns_of_rects (d : Thread nD τ) m q r hr (disjoint_of_key r key hkey) (cover_of_key r key hkey) Y).trans ?_
  unfold owns
  iintro ⟨%g, %hg, H⟩
  iexists g
  isplitr
  · ipureintro
    intro t
    have : (slotAt m r hr hs t).view.read (Elt F) g
        = shapeCast s' (fun j => m.view.read (Elt F) g ((r t).emb j)) (hs t).numel_eq := rfl
    rw [this, hg]
    have h2 : (fun j => Y ((r t).emb j)) = shapeCast (r t).shape (X t) (hs t).numel_eq.symm := funext (hY t)
    rw [h2, shapeCast_shapeCast]
  · iexact H

end Slots

/-! ## Loads and stores on a slot -/

section Access

variable (d : Dev nD) {sp : CoreSpace} {s s' : Shape} {e : EltTy} (m : Memref sig .tc sp s e)
  (r : Rect s) (hr : ∀ a, r.stride a = 1) (hs : r.shape.Squeezes s')
  {M : Memref sig .tc sp s' e} (hM : M = (m.slice r hr).squeeze s' hs)

include hM

/-- Loading a slot's rectangle gives what the slot holds. -/
theorem runs_load {hl : m.view.LoadsAt r.toLoadRect} {k : (r.toLoadRect.shape.Idx → Elt F e) → Act F} {Q : PUnit → sProp 𝕄}
    (q : PosShare TreeShare) (X : s'.Idx → Elt F e) :
    (has d M q X : sProp 𝕄)
      ⊢ iprop((has d M q X -∗ runs d (k (shapeCast r.shape X hs.numel_eq.symm)) Q)
        -∗ runs d (.op (.load m r.toLoadRect hl) k) Q) := by
  subst hM
  have hset : ((m.slice r hr).squeeze s' hs).view.set = (m.access r).set := View.set_reshape _ _
  iintro H Hk
  ihave H2 := (show (has d ((m.slice r hr).squeeze s' hs) q X : sProp 𝕄)
    ⊢ iprop(∃ f, ⌜((m.slice r hr).squeeze s' hs).view.read (Elt F) f = X⌝
      ∗ (((m.slice r hr).squeeze s' hs).view.loc (d : Thread nD τ) ↦[((m.slice r hr).squeeze s' hs).view.set]{q} f)) from .rfl) $$ H
  icases H2 with ⟨%f, %hf, H⟩
  have hread : (m.access r).read (Elt F) f = shapeCast r.shape X hs.numel_eq.symm := by
    rw [← hf]
    exact (shapeCast_shapeCast ((m.access r).read (Elt F) f) hs.numel_eq hs.numel_eq.symm).symm
  iapply (wp_load_rect (defs := defs₀ (F := F)) 𝒱₀ (d : Thread nD τ) none Set.univ (m := m) (r := r) (hl := hl) (k := k)
    (S := ((m.slice r hr).squeeze s' hs).view.set) (f := f) (by rw [hset])) $$ H
  iintro H
  rw [hread]
  iapply Hk
  unfold has owns
  iexists f
  isplitr; · ipureintro; exact hf
  iexact H

/-- A load inside a slot leaves it as it was. -/
theorem runs_peek {r' : Rect s} {hl : m.view.LoadsAt r'.toLoadRect} {k : (r'.toLoadRect.shape.Idx → Elt F e) → Act F} {Q : PUnit → sProp 𝕄}
    (hsub : r'.set ⊆ r.set) (q : PosShare TreeShare) (X : s'.Idx → Elt F e) :
    (has d M q X : sProp 𝕄)
      ⊢ iprop((∀ V, has d M q X -∗ runs d (k V) Q)
        -∗ runs d (.op (.load m r'.toLoadRect hl) k) Q) := by
  subst hM
  have hset : ((m.slice r hr).squeeze s' hs).view.set = (m.access r).set := View.set_reshape _ _
  iintro H Hk
  ihave H2 := (show (has d ((m.slice r hr).squeeze s' hs) q X : sProp 𝕄)
    ⊢ iprop(∃ f, ⌜((m.slice r hr).squeeze s' hs).view.read (Elt F) f = X⌝
      ∗ (((m.slice r hr).squeeze s' hs).view.loc (d : Thread nD τ) ↦[((m.slice r hr).squeeze s' hs).view.set]{q} f)) from .rfl) $$ H
  icases H2 with ⟨%f, %hf, H⟩
  iapply (wp_load_rect (defs := defs₀ (F := F)) 𝒱₀ (d : Thread nD τ) none Set.univ (m := m) (r := r') (hl := hl) (k := k)
    (S := ((m.slice r hr).squeeze s' hs).view.set) (f := f)
    (by rw [hset, View.set_slice, View.set_slice]; exact Finset.map_subset_map.mpr hsub)) $$ H
  iintro H
  iapply Hk
  unfold has owns
  iexists f
  isplitr; · ipureintro; exact hf
  iexact H

/-- Storing into part of a slot: `X'` is what the slot holds afterwards if it has the stored values at
    the stored places and is as before everywhere else. -/
theorem runs_store {r' : Rect s} {w : r'.shape.Idx → Elt F e} {hx : (m.access r').Stores Finset.univ}
    {hm : (Finset.univ : Finset r'.shape.Idx) = Finset.univ ∨ ∀ a, r'.stride a = 1} {k : PUnit → Act F} {Q : PUnit → sProp 𝕄}
    (hsub : r'.set ⊆ r.set) (X X' : s'.Idx → Elt F e)
    (hin : ∀ x y, r.emb (Shape.reshapeEquiv hs.numel_eq x) = r'.emb y → X' x = w y)
    (hout : ∀ x, (∀ y, r.emb (Shape.reshapeEquiv hs.numel_eq x) ≠ r'.emb y) → X' x = X x) :
    (has d M fullShare X : sProp 𝕄)
      ⊢ iprop((has d M fullShare X' -∗ runs d (k ⟨⟩) Q)
        -∗ runs d (.op (.store m r' w Finset.univ hx hm) k) Q) := by
  subst hM
  have hset : ((m.slice r hr).squeeze s' hs).view.set = (m.access r).set := View.set_reshape _ _
  iintro H Hk
  ihave H2 := (show (has d ((m.slice r hr).squeeze s' hs) fullShare X : sProp 𝕄)
    ⊢ iprop(∃ f, ⌜((m.slice r hr).squeeze s' hs).view.read (Elt F) f = X⌝
      ∗ (((m.slice r hr).squeeze s' hs).view.loc (d : Thread nD τ) ↦[((m.slice r hr).squeeze s' hs).view.set]{fullShare} f)) from .rfl) $$ H
  icases H2 with ⟨%f, %hf, H⟩
  iapply (wp_store (defs := defs₀ (F := F)) 𝒱₀ (d : Thread nD τ) none Set.univ (m := m) (r := r') (k := k)
    (S := ((m.slice r hr).squeeze s' hs).view.set) (f := f)
    (by
      rw [hset, View.setOn_univ, View.set_slice, View.set_slice]; exact Finset.map_subset_map.mpr hsub)) $$ H
  iintro H
  iapply Hk
  unfold has owns
  iexists ((m.access r').write (Elt F) f w Finset.univ)
  isplitr
  · ipureintro
    funext x
    have e1 : ∀ g, ((m.slice r hr).squeeze s' hs).view.read (Elt F) g x
        = m.view.read (Elt F) g (r.emb (Shape.reshapeEquiv hs.numel_eq x)) := fun g => rfl
    rw [e1]
    by_cases h : ∃ y, r.emb (Shape.reshapeEquiv hs.numel_eq x) = r'.emb y
    · obtain ⟨y, hy⟩ := h
      rw [hin x y hy, hy]
      exact View.read_slice_write_emb (v := m.view) r' f w (Finset.mem_univ y)
    · have h' : ∀ y, r.emb (Shape.reshapeEquiv hs.numel_eq x) ≠ r'.emb y := fun y hy => h ⟨y, hy⟩
      rw [hout x h', ← hf, e1]
      refine View.read_slice_write_of_not_mem (v := m.view) r' f w Finset.univ fun hmem => ?_
      obtain ⟨y, -, hy⟩ := Finset.mem_map.mp hmem
      exact h' y hy.symm
  · iexact H

/-- Storing a whole slot: it holds what was stored. -/
theorem runs_fill {X' : s'.Idx → Elt F e} {hc : s'.ShapeCasts r.shape} {hx : (m.access r).Stores Finset.univ}
    {hm : (Finset.univ : Finset r.shape.Idx) = Finset.univ ∨ ∀ a, r.stride a = 1} {k : PUnit → Act F} {Q : PUnit → sProp 𝕄}
    (X : s'.Idx → Elt F e) :
    (has d M fullShare X : sProp 𝕄)
      ⊢ iprop((has d M fullShare X' -∗ runs d (k ⟨⟩) Q)
        -∗ runs d (.op (.store m r (shapeCast r.shape X' hc) Finset.univ hx hm) k) Q) := by
  subst hM
  refine runs_store d m r hr hs rfl (Finset.Subset.refl _) X X' (fun x y hy => ?_) (fun x hx => ?_)
  · have := r.emb.injective hy
    subst this
    exact (congrFun (shapeCast_shapeCast X' hc hs.numel_eq) x).symm
  · exact absurd rfl (hx _)

end Access

/-! ## Transfers -/

section Transfers

variable (d : Dev nD) {sp sp' : Space} {s : Shape} {e : EltTy}

/-- The copy in flight on the device's own semaphore `sm` from `src` to `dst`. -/
abbrev flying (src : Memref sig .tc sp s e) (dst : Memref sig .tc sp' s e) (sm : DmaSem sig) (q : PosShare TreeShare)
    (X : s.Idx → Elt F e) : sProp 𝕄 :=
  Transfers.Flight EC (d : Thread nD τ) (.dma sm) () dst.view.dmaCredit iprop(has d dst fullShare X ∗ has d src q X)

/-- Start a copy inside the device. -/
theorem runs_copy {src : Memref sig .tc sp s e} {dst : Memref sig .tc sp' s e} {sm : DmaSem sig}
    {hsrc : src.view.WordExact} {hdst : dst.view.WordExact} {hsem : DmaTarget.Typed (nD := nD) sp (.dma sm) (.here (p := .tc) dst)}
    {k : PUnit → Act F} {Q : PUnit → sProp 𝕄} (hpos : 0 < s.numel) (q : PosShare TreeShare) (X : s.Idx → Elt F e) :
    (iprop(has d src q X ∗ any d dst ∗ semVal ((d : Thread nD τ), .dma sm) 0) : sProp 𝕄)
      ⊢ iprop((flying d src dst sm q X -∗ runs d (k ⟨⟩) Q)
        -∗ runs d (.op (.enqueueDma src (.here dst) (.dma sm) hsrc hdst hsem) k) Q) := by
  unfold any has owns
  iintro ⟨⟨%fs, %hfs, Hs⟩, ⟨%Y, %fd, %hfd, Hd⟩, Hv⟩ Hk
  iapply (Transfers.wp_dmaLocal EC 𝒱₀ (d : Thread nD τ) none (src := src) (dst := dst) (sm := .dma sm) (k := k)
    () dst.view.dmaCredit rfl (dst.view.dmaCredit_pos hpos) (Finset.Subset.refl _)) $$ [Hs Hd Hv]
  · isplitl [Hs]; · iexact Hs
    isplitl [Hd]; · iexact Hd
    iexact Hv
  iintro HF
  iapply Hk
  iapply (Transfers.Flight_mono EC (d : Thread nD τ) (sm := .dma sm) ?_) $$ HF
  unfold has owns
  iintro ⟨Hd, Hs⟩
  isplitl [Hd]
  · iexists _
    isplitr
    rotate_left
    · iexact Hd
    · ipureintro
      rw [View.read_write_univ]
      exact hfs
  · iexists fs
    isplitr; · ipureintro; exact hfs
    iexact Hs

/-- Wait for a copy inside the device. -/
theorem runs_landed {s₂ : Shape} {e₂ : EltTy} {sp₂ sp₃ : Space}
    {src : Memref sig .tc sp s e} {dst : Memref sig .tc sp' s e} {sm : DmaSem sig}
    {srcw : Memref sig .tc sp₂ s e} {dstw : Memref sig .tc sp₃ s₂ e₂}
    {hsrc : srcw.view.WordExact} {hdst : dstw.view.WordExact}
    {k : PUnit → Act F} {Q : PUnit → sProp 𝕄} (q : PosShare TreeShare) (X : s.Idx → Elt F e) (O : CellTallies nD τ sig Unit)
    (hN : dstw.view.dmaCredit = dst.view.dmaCredit) :
    (iprop(flying d src dst sm q X ∗ ow d O ∗ MayWait (d : Thread nD τ) (.dma sm) () O) : sProp 𝕄)
      ⊢ iprop((iprop(has d dst fullShare X ∗ has d src q X ∗ semVal ((d : Thread nD τ), .dma sm) 0 ∗ ow d O) -∗ runs d (k ⟨⟩) Q)
        -∗ runs d (.op (.waitDma2 sm srcw dstw hsrc hdst) k) Q) := by
  unfold ow
  iintro ⟨HF, ⟨%W, HO⟩, HM⟩ Hk
  iapply (Transfers.wp_waitLocalO EC 𝒱₀ (d : Thread nD τ) none (k := k) () hN) $$ [HF HO HM]
  · isplitl [HF]; · iexact HF
    isplitl [HO]; · iexact HO
    iexact HM
  iintro ⟨⟨Hd, Hs⟩, Hv, HO⟩
  iapply Hk
  isplitl [Hd]; · iexact Hd
  isplitl [Hs]; · iexact Hs
  isplitl [Hv]; · iexact Hv
  iexists _
  iexact HO

end Transfers

section Remote

variable (Rd : Rounds.Schedule (GSem nD τ sig) Bool (MT nD τ sig Unit (Elt F) ℕ UU ℕ))
  [∀ g r b, BI.Storable (upEmb : UEmb _ (MT nD τ sig Unit (Elt F) ℕ UU ℕ)) (Rd.payload g r b)]
  (d : Dev nD) {sp sp' : Space} {s : Shape} {e : EltTy}

/-- Start a transfer to device `x`: it pays the sender's own cell with the source, and `x`'s cell with
    the destination holding what the source held. -/
theorem runs_send {x : Dev nD} {src : Memref sig .tc sp s e} {dst : Memref sig .tc sp' s e} {sS sm : DmaSem sig}
    {hsc : (dst : Memref sig (Dev.tc x : Thread nD τ).2.kind sp' s e).view.ref.isScScratch = false}
    {hsrc : src.view.WordExact} {hdst : dst.view.WordExact}
    {hsem : DmaTarget.Typed sp (.dma sm) (.remote (Dev.tc x : Thread nD τ) (dst : Memref sig (Dev.tc x : Thread nD τ).2.kind sp' s e) (.dma sS) hsc)}
    {k : PUnit → Act F} {Q : PUnit → sProp 𝕄} {κ₁ κ₂ : ℕ} (q : PosShare TreeShare) (X : s.Idx → Elt F e) (N : ℕ)
    (hd₁ : false ∈ Rd.duties ((d : Thread nD τ), .dma sS) 0) (hd₂ : false ∈ Rd.duties ((x : Thread nD τ), .dma sm) 0)
    (hN : dst.view.dmaCredit = N)
    (hk₁ : Rd.amount ((d : Thread nD τ), .dma sS) 0 false = N) (hk₂ : Rd.amount ((x : Thread nD τ), .dma sm) 0 false = N)
    {O₀ : CellTallies nD τ sig Unit} (O : CellTallies nD τ sig Unit) (hO : O₀ = O + tallyAt ((x : Thread nD τ), .dma sm) () N)
    (hpay₁ : has d src q X ⊢ Rd.payload ((d : Thread nD τ), .dma sS) 0 false)
    (hpay₂ : has x dst fullShare X ⊢ Rd.payload ((x : Thread nD τ), .dma sm) 0 false) :
    iprop(cellInv ER Rd κ₁ ((d : Thread nD τ), .dma sS) ∗ cellInv ER Rd κ₂ ((x : Thread nD τ), .dma sm)
        ∗ has d src q X ∗ any x dst ∗ ow d O₀
        ∗ dutyTok ER ((d : Thread nD τ), .dma sS) 0 false ∗ reached ER ((d : Thread nD τ), .dma sS) 0
        ∗ dutyTok ER ((x : Thread nD τ), .dma sm) 0 false ∗ reached ER ((x : Thread nD τ), .dma sm) 0)
      ⊢ iprop(((cred (tallyAt ((d : Thread nD τ), .dma sS) () N) ∗ ow d O) -∗ runs d (k ⟨⟩) Q)
          -∗ runs d (.op (.enqueueDma src (.remote (Dev.tc x : Thread nD τ) dst (.dma sS) hsc) (.dma sm) hsrc hdst hsem) k) Q) := by
  iintro ⟨H1, H2, Hs, Hd, HO, H3⟩ Hk
  ihave Hs2 := (show (has d src q X : sProp 𝕄) ⊢ iprop(∃ f, ⌜src.view.read (Elt F) f = X⌝
      ∗ (src.view.loc (d : Thread nD τ) ↦[src.view.set]{q} f)) from .rfl) $$ Hs
  icases Hs2 with ⟨%fs, %hfs, Hs⟩
  unfold any
  icases Hd with ⟨%Y, Hd⟩
  ihave Hd2 := (show (has x dst fullShare Y : sProp 𝕄) ⊢ iprop(∃ f, ⌜dst.view.read (Elt F) f = Y⌝
      ∗ (dst.view.loc (x : Thread nD τ) ↦[dst.view.set]{fullShare} f)) from .rfl) $$ Hd
  icases Hd2 with ⟨%fd, %hfd, Hd⟩
  unfold ow
  icases HO with ⟨%W, HO⟩
  iapply (Rounds.wp_send_pointsTo 𝒱₀ ER Rd (d : Thread nD τ) none (κ₁ := κ₁) (κ₂ := κ₂) (r₁ := 0) (r₂ := 0)
    (d₁ := false) (d₂ := false) (fs := fs) (fd := fd) (q := q) (k := k) hd₁ hd₂ () () N hN hk₁ hk₂ O hO (W := W)
    (by
      refine BIBase.Entails.trans ?_ hpay₁
      unfold has owns
      iintro H; iexists fs
      isplitr; · ipureintro; exact hfs
      iexact H)
    (by
      refine BIBase.Entails.trans ?_ hpay₂
      unfold has owns
      iintro H; iexists _
      isplitr
      rotate_left
      · iexact H
      · ipureintro; rw [View.read_write_univ]; exact hfs)) $$ [H1 H2 Hs Hd HO H3]
  · isplitl [H1]; · iexact H1
    isplitl [H2]; · iexact H2
    isplitl [Hs]; · iexact Hs
    isplitl [Hd]; · iexact Hd
    isplitl [HO]; · iexact HO
    iexact H3
  iintro ⟨Hc, HO⟩
  iapply Hk
  isplitl [Hc]; · iexact Hc
  iexists W
  iexact HO

/-- Wait for the whole of a cell's one round: the payment, and the cell's counter at zero again. -/
theorem runs_take {s₂ : Shape} {e₂ : EltTy} {sp₂ sp₃ : Space} {s₃ : Shape} {e₃ : EltTy} {sm : DmaSem sig}
    {srcw : Memref sig .tc sp₂ s₂ e₂} {dstw : Memref sig .tc sp₃ s₃ e₃}
    {hsrc : srcw.view.WordExact} {hdst : dstw.view.WordExact}
    {k : PUnit → Act F} {Q : PUnit → sProp 𝕄} {κ : ℕ} (O : CellTallies nD τ sig Unit) (N : ℕ)
    (hN : dstw.view.dmaCredit = N)
    (hduty : Rd.duties ((d : Thread nD τ), .dma sm) 0 = {false})
    (hlater : ∀ r, 1 ≤ r → Rd.duties ((d : Thread nD τ), .dma sm) r = ∅)
    (hk : Rd.amount ((d : Thread nD τ), .dma sm) 0 false = N)
    (hu : ¬ Rd.unitless ((d : Thread nD τ), .dma sm)) :
    iprop(cellInv ER Rd κ ((d : Thread nD τ), .dma sm) ∗ cred (tallyAt ((d : Thread nD τ), .dma sm) () N)
        ∗ ow d O ∗ MayWait (d : Thread nD τ) (.dma sm) () O ∗ atPos ER ((d : Thread nD τ), .dma sm) 0 ∅ 0)
      ⊢ iprop((iprop(Rd.payload ((d : Thread nD τ), .dma sm) 0 false ∗ semVal ((d : Thread nD τ), .dma sm) 0 ∗ ow d O) -∗ runs d (k ⟨⟩) Q)
          -∗ runs d (.op (.waitDma2 sm srcw dstw hsrc hdst) k) Q) := by
  subst hN
  iintro ⟨#HI, Hc, HO, HM, Hat⟩ Hk
  unfold ow
  icases HO with ⟨%W, HO⟩
  iapply (Rounds.wp_wait_rest_token 𝒱₀ ER Rd (d : Thread nD τ) none (κ := κ)
      (wpE_waitDma2_eq 𝒱₀ (d : Thread nD τ) none Set.univ) (Set.mem_univ _) () (O := O) (W := W) (R := 0) (m := 0) (T := ∅)
      (by rw [Nat.zero_add, Schedule.expect, Schedule.amountOf, hduty, Finset.sum_singleton, hk])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER Rd (Set.mem_univ κ) hu (R := 0 + 1) hlater) $$ [Hat] with Hz
  · isplitr; · iexact HI
    iexact Hat
  iapply Hk
  isplitl [Hpay]
  · ihave Hp := (Entails.of_eq (by rw [Finset.sdiff_empty, hduty, bigSep_singleton])) $$ Hpay
    iexact Hp
  isplitl [Hz]; · iexact Hz
  iexists _
  iexact HO

end Remote

/-! ## Repeats -/

section Repeat

/-- A repeat: iteration `i` turns the running state `I i` and its own part `P i` into `I (i+1)` and `R i`. -/
theorem runs_forFin (d : Dev nD) : (n : Nat) → (f : Fin n → Act F) → (I : Nat → sProp 𝕄) → (P R : Fin n → sProp 𝕄) →
    (∀ (i : Fin n) (Q : PUnit → sProp 𝕄), iprop(I i.val ∗ P i ∗ (I (i.val + 1) ∗ R i -∗ Q ⟨⟩)) ⊢ runs d (f i) Q) →
    ∀ Q : PUnit → sProp 𝕄,
      iprop(I 0 ∗ bigSep Finset.univ P ∗ (I n ∗ bigSep Finset.univ R -∗ Q ⟨⟩)) ⊢ runs d (forFin n f) Q
  | 0, f, I, P, R, _, Q => by
      unfold forFin
      rw [Prog.pure_eq_ret]
      unfold runs
      rw [wp_ret]
      iintro ⟨HI, -, HQ⟩
      imodintro
      iapply HQ
      isplitl [HI]; · iexact HI
      rw [Finset.univ_eq_empty, bigSep_empty]
      iempintro
  | n + 1, f, I, P, R, h, Q => by
      unfold forFin runs
      rw [wp_bind]
      have ih := runs_forFin d n (fun i => f i.succ) (fun k => I (k + 1)) (fun i => P i.succ) (fun i => R i.succ)
        (fun i Q => by simpa using h i.succ Q) Q
      iintro ⟨HI, HP, HQ⟩
      have h0 : ∀ Q : PUnit → sProp 𝕄, iprop(I 0 ∗ P 0 ∗ (I (0 + 1) ∗ R 0 -∗ Q ⟨⟩)) ⊢ runs d (f 0) Q := h 0
      iapply (h0 _)
      ihave HP2 := (Entails.of_eq (bigSep_univ_succ P)) $$ HP
      icases HP2 with ⟨HP0, HP⟩
      isplitl [HI]; · iexact HI
      isplitl [HP0]; · iexact HP0
      iintro ⟨HI, HR0⟩
      iapply ih
      isplitl [HI]; · iexact HI
      isplitl [HP]; · iexact HP
      iintro ⟨HI, HR⟩
      iapply HQ
      isplitl [HI]; · iexact HI
      iapply (Entails.of_eq (bigSep_univ_succ R).symm)
      isplitl [HR0]; · iexact HR0
      iexact HR

end Repeat

end FlashDecode

end

end
-- ==== Proof.Values.lean ====
/-
The neighbours of a device, the coordinates the body computes in closed form, and what each device
holds at each stage: the denominators and numerators of a batch row, the quotient, and the result.
-/
module

public import proofs.«01_k».proof.Proof.Pieces
public import Idealize.ShloMosaic.Lib.ValueIdxCore

@[expose] public section

noncomputable section

namespace FlashDecode

open Idealize.ShloMosaic Idealize.ShloMosaic.TcCoe
open Idealize.SL.Sem Idealize.ShloMosaic.ValueIdx
open Cert.KernelIdeal Cert.KernelIdeal.Gen

variable {F : FTy → Type} [FloatOps F]

/-! ## The mesh -/

/-- The device with the other shard of the keys and values, for the same half of the batch. -/
def xn : Dev nD → Dev nD := ![2, 3, 0, 1]
/-- The device with the other half of the batch, for the same shard. -/
def yn : Dev nD → Dev nD := ![1, 0, 3, 2]

/-- The neighbour along x of the neighbour along x is the device. -/
theorem xn_xn (d : Dev nD) : xn (xn d) = d := by revert d; decide
/-- The neighbour along y of the neighbour along y is the device. -/
theorem yn_yn (d : Dev nD) : yn (yn d) = d := by revert d; decide

/-- Going to the neighbour along x. -/
def xSwap : Dev nD ≃ Dev nD := ⟨xn, xn, xn_xn, xn_xn⟩
/-- Going to the neighbour along y. -/
def ySwap : Dev nD ≃ Dev nD := ⟨yn, yn, yn_yn, yn_yn⟩

/-- The word that names target number 1 is the neighbour along x. -/
theorem dev1_val (d : Dev nD) : k0_dev1 d = (xn d).val := by revert d; decide +kernel
/-- The word that names target number 2 is the neighbour along y. -/
theorem dev2_val (d : Dev nD) : k0_dev2 d = (yn d).val := by revert d; decide +kernel
/-- The word that names target number 3 is the neighbour along x. -/
theorem dev3_val (d : Dev nD) : k0_dev3 d = (xn d).val := by revert d; decide +kernel
/-- The word that names target number 4 is the neighbour along x. -/
theorem dev4_val (d : Dev nD) : k0_dev4 d = (xn d).val := by revert d; decide +kernel
/-- The word that names target number 5 is the neighbour along y. -/
theorem dev5_val (d : Dev nD) : k0_dev5 d = (yn d).val := by revert d; decide +kernel
/-- The word that names target number 6 is the neighbour along y. -/
theorem dev6_val (d : Dev nD) : k0_dev6 d = (yn d).val := by revert d; decide +kernel
/-- The word that names target number 7 is the neighbour along y. -/
theorem dev7_val (d : Dev nD) : k0_dev7 d = (yn d).val := by revert d; decide +kernel
/-- The word that names target number 8 is the neighbour along y. -/
theorem dev8_val (d : Dev nD) : k0_dev8 d = (yn d).val := by revert d; decide +kernel

/-! ## Rows -/

/-- Neighbours along x share their batch half. -/
theorem ownRow_xn (d : Dev nD) (j : Fin 4) : ownRow (xn d) j = ownRow d j := by revert d j; decide +kernel
/-- The neighbour along y has the other batch half. -/
theorem ownRow_yn (d : Dev nD) (j : Fin 4) : ownRow (yn d) j = otherRow d j := by revert d j; decide +kernel
/-- And its other half is the device's own. -/
theorem otherRow_yn (d : Dev nD) (j : Fin 4) : otherRow (yn d) j = ownRow d j := by revert d j; decide +kernel
/-- The batch row of a point is that row of the device's own half. -/
theorem rowOf_eq (i : grid0.Coords) (d : Dev nD) : rowOf i d = ownRow d (stepOf i) := by revert i d; decide +kernel

/-! ## What the devices hold -/

section Contents

variable (m : (ℓ : Loc nD τ sig) → Buf (Elt F) ℓ)

/-- One head's queries of one batch row. -/
def qv (d : Dev nD) (b : Fin 8) (h : Fin 16) : FVec F S8x128 .f32 :=
  (argQ b h).view.read (Elt F) (m ((d : Thread nD τ).loc main_arg0))
/-- One head's keys of one batch row, in the device's shard. -/
def kv (d : Dev nD) (b : Fin 8) (h : Fin 16) : FVec F S1024x128 .f32 :=
  (argK b h).view.read (Elt F) (m ((d : Thread nD τ).loc main_arg1))
/-- One head's values of one batch row, in the device's shard. -/
def vv (d : Dev nD) (b : Fin 8) (h : Fin 16) : FVec F S1024x128 .f32 :=
  (argV b h).view.read (Elt F) (m ((d : Thread nD τ).loc main_arg2))

/-- One head's denominators of one batch row. -/
def lHead (d : Dev nD) (b : Fin 8) (h : Fin 16) : FVec F S8 .f32 :=
  rowSum (expS (qv m d b h) (kv m d b h))
/-- One head's numerators of one batch row. -/
def nHead (d : Dev nD) (b : Fin 8) (h : Fin 16) : FVec F S8x128 .bf16 :=
  numer (expS (qv m d b h) (kv m d b h)) (vv m d b h)

/-- The head a lane of the packed numerators belongs to. -/
def laneHead (x : S8x2048.Idx) : Fin 16 := ⟨(x 1).val / 128, by have := (x 1).isLt; simp at this; omega⟩
/-- A lane's place in its head. -/
def laneOff (x : S8x2048.Idx) : Fin 128 := ⟨(x 1).val % 128, Nat.mod_lt _ (by decide)⟩

/-- The denominators of one batch row, all heads. -/
def lRow (d : Dev nD) (b : Fin 8) : FVec F S8x16 .f32 := fun x => lHead m d b (x 1) (ix1 (x 0))
/-- The numerators of one batch row, all heads side by side. -/
def nRow (d : Dev nD) (b : Fin 8) : FVec F S8x2048 .bf16 := fun x => nHead m d b (laneHead x) (ix2 (x 0) (laneOff x))

/-- The finished row `j` of the device's own half. -/
def oRow (d : Dev nD) (j : Fin 4) : FVec F S8x2048 .f32 :=
  quot (nRow m d (ownRow d j)) (nRow m (xn d) (ownRow d j)) (lRow m d (ownRow d j)) (lRow m (xn d) (ownRow d j))
/-- The same rounded, as it is sent. -/
def oSent (d : Dev nD) (j : Fin 4) : FVec F S8x2048 .bf16 := truncf .bf16 (oRow m d j) bitsLt_bf16_f32
/-- The row of the result it gives on this device. -/
def outOwn (d : Dev nD) (j : Fin 4) : FVec F S8x16x128 .f32 := shapeCast S8x16x128 (oRow m d j) shapeCasts_S8x2048_S8x16x128
/-- The row of the result that comes from the other half. -/
def outOther (d : Dev nD) (j : Fin 4) : FVec F S8x16x128 .f32 :=
  shapeCast S8x16x128 (extf .f32 (oSent m (yn d) j) bitsLt_bf16_f32) shapeCasts_S8x2048_S8x16x128

end Contents

end FlashDecode

end

end
-- ==== Proof.Protocol.lean ====
/-
The protocol between the devices.

Every device has one barrier cell and, per batch row of its half, six transfer cells: two that its own
transfers of numerators and denominators pay when they have left, one that its transfer of the finished row
pays when it has left, and three that transfers from its neighbours pay when they land. Each cell is
paid once; this file states who pays it, with what, and in what order.
-/
module

public import proofs.«01_k».proof.Proof.Values

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells -/

/-- The cells of a device: the barrier, or kind `k` of batch row `j`. The kinds: 0, 1, 2 numerators,
    denominators, finished row have left; 3, 4, 5 the neighbours' have landed. -/
abbrev RK : Type := Option (Fin 6 × Fin 4)

/-- The semaphore of one kind of transfer and one row. -/
def dsem (k : Fin 6) (j : Fin 4) : DmaSem sig :=
  match k with
  | 0 => nsndS j | 1 => lsndS j | 2 => osndS j | 3 => nrcvS j | 4 => lrcvS j | 5 => orcvS j

/-- The semaphore of a cell. -/
def csem : RK → SemLoc sig
  | none => .reg barS
  | some (k, j) => .dma (dsem k j)

/-- A device's cell. -/
abbrev kcell (ck : Dev nD × RK) : GSem nD τ sig := ((ck.1 : Thread nD τ), csem ck.2)

/-- Which cell a semaphore is, if it is one. -/
def decode : SemLoc sig → Option RK
  | .reg _ => some none
  | .dma i => if 96 ≤ i.val ∧ i.val < 120 then
      some (some (![0, 1, 3, 4, 2, 5] ⟨(i.val - 96) / 4 % 6, Nat.mod_lt _ (by decide)⟩, ⟨(i.val - 96) % 4, Nat.mod_lt _ (by decide)⟩))
    else none

/-- Reading a cell's semaphore gives the cell. -/
theorem decode_csem (k : RK) : decode (csem k) = some k := by revert k; decide +kernel

/-- Distinct cells of a device have distinct semaphores. -/
theorem csem_injective : Function.Injective csem := fun a b h =>
  Option.some.inj ((decode_csem a).symm.trans ((congrArg decode h).trans (decode_csem b)))

/-- Distinct cells have distinct semaphores. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one row's transfer of numerators (or of a finished row) credits. -/
abbrev nCred : ℕ := (nrem 0).view.dmaCredit
/-- What one row's transfer of denominators credits. -/
abbrev lCred : ℕ := (lrem 0).view.dmaCredit

/-- A row of numerators pays something. -/
theorem nCred_pos : 0 < nCred := View.dmaCredit_pos _ (by decide)
/-- A row of denominators pays something. -/
theorem lCred_pos : 0 < lCred := View.dmaCredit_pos _ (by decide)

/-- What one payment of a cell amounts to. -/
def amt : RK → ℕ
  | none => 1
  | some (k, _) => if k = 1 ∨ k = 4 then lCred else nCred

/-- Every payment is of something. -/
theorem amt_pos (k : RK) : 0 < amt k := by
  rcases k with _ | ⟨k, j⟩
  · exact Nat.one_pos
  · unfold amt; dsimp only; split
    · exact lCred_pos
    · exact nCred_pos

/-! ## What is paid -/

section Schedule

variable (m : (ℓ : Loc nD τ sig) → Buf (Elt F) ℓ)

/-- What the barrier payment of the device with the other shard hands over: where its partial results land. -/
def barX (x : Dev nD) : sProp 𝕄 := iprop(bigSep Finset.univ fun j : Fin 4 => iprop(any x (nrem j) ∗ any x (lrem j)))
/-- What the barrier payment of the device with the other half hands over: where its finished rows land. -/
def barY (y : Dev nD) : sProp 𝕄 := iprop(bigSep Finset.univ fun j : Fin 4 => any y (orcv j))

/-- What the payment of a transfer cell hands over. -/
def landing (d : Dev nD) (k : Fin 6) (j : Fin 4) : sProp 𝕄 :=
  match k with
  | 0 => has d (nloc j) fullShare.left (nRow m d (ownRow d j))
  | 1 => has d (lloc j) fullShare.left (lRow m d (ownRow d j))
  | 2 => has d (osnd j) fullShare (oSent m d j)
  | 3 => has d (nrem j) fullShare (nRow m (xn d) (ownRow d j))
  | 4 => has d (lrem j) fullShare (lRow m (xn d) (ownRow d j))
  | 5 => has d (orcv j) fullShare (oSent m (yn d) j)

/-- What the barrier's first unit hands over may be stored. -/
instance barX_storable (x : Dev nD) : BI.Storable (upEmb : UEmb _ 𝕄) (barX (F := F) x) := by unfold barX; infer_instance
/-- What the barrier's second unit hands over may be stored. -/
instance barY_storable (x : Dev nD) : BI.Storable (upEmb : UEmb _ 𝕄) (barY (F := F) x) := by unfold barY; infer_instance
/-- What a transfer hands over may be stored. -/
instance landing_storable (d : Dev nD) (k : Fin 6) (j : Fin 4) : BI.Storable (upEmb : UEmb _ 𝕄) (landing m d k j) := by
  unfold landing; split <;> infer_instance

/-- The duties of a cell's one round. -/
def dutiesOf : RK → Finset Bool
  | none => Finset.univ
  | some _ => {false}

/-- What paying duty `b` of device `d`'s cell `k` hands over. -/
def payOf (d : Dev nD) (k : RK) (b : Bool) : sProp 𝕄 :=
  match k with
  | none => if b then barY (yn d) else barX (xn d)
  | some (k, j) => landing m d k j

/-- What a payment hands over may be stored. -/
instance payOf_storable (d : Dev nD) (k : RK) (b : Bool) : BI.Storable (upEmb : UEmb _ 𝕄) (payOf m d k b) := by
  rcases k with _ | ⟨k, j⟩
  · unfold payOf; dsimp only; split <;> infer_instance
  · unfold payOf; infer_instance

/-- The protocol: one round per cell. -/
def sched : Rounds.Schedule (GSem nD τ sig) Bool (MT nD τ sig Unit (Elt F) ℕ UU ℕ) where
  duties g r := if r = 0 then ((decode g.2).elim ∅ dutiesOf) else ∅
  unitless _ := False
  amount g _ _ := (decode g.2).elim 1 amt
  payload g _ b := (decode g.2).elim iprop(emp) fun k => payOf m g.1.1 k b
  amount_pos g _ _ _ := by
    cases decode g.2 with
    | none => exact Nat.one_pos
    | some k => exact amt_pos k

/-- What the schedule hands over may be stored. -/
instance sched_storable (g : GSem nD τ sig) (r : ℕ) (b : Bool) :
    BI.Storable (upEmb : UEmb _ 𝕄) ((sched m).payload g r b) := by
  unfold sched; dsimp only
  cases decode g.2 with
  | none => exact (inferInstance : BI.Storable upEmb (iprop(emp) : sProp 𝕄))
  | some k => exact (inferInstance : BI.Storable upEmb (payOf m g.1.1 k b))

/-- The payments that a cell's only round has. -/
theorem duties_kcell (ck : Dev nD × RK) : (sched m).duties (kcell ck) 0 = dutiesOf ck.2 := by
  unfold sched; dsimp only; rw [if_pos rfl, decode_csem]; rfl
/-- No cell has a second round. -/
theorem duties_later (g : GSem nD τ sig) : ∀ r, 1 ≤ r → (sched m).duties g r = ∅ := fun r hr => by
  unfold sched; dsimp only; rw [if_neg (by omega)]
/-- How much each payment is. -/
theorem amount_kcell (ck : Dev nD × RK) (b : Bool) : (sched m).amount (kcell ck) 0 b = amt ck.2 := by
  unfold sched; dsimp only; rw [decode_csem]; rfl
/-- What each payment hands over. -/
theorem payload_kcell (ck : Dev nD × RK) (b : Bool) : (sched m).payload (kcell ck) 0 b = payOf m ck.1 ck.2 b := by
  unfold sched; dsimp only; rw [decode_csem]; rfl
/-- No cell of the schedule goes without amounts. -/
theorem not_unitless (g : GSem nD τ sig) : ¬ (sched m).unitless g := fun h => h

end Schedule

/-! ## What a device owes -/

/-- What paying the cells of a list, first to last, owes before the first payment. -/
def owing : List (Dev nD × RK) → CellTallies nD τ sig Unit
  | [] => 0
  | p :: l => owing l + tallyAt (kcell p) () (amt p.2)

/-- The payments device `d` makes, in order. -/
def payList (d : Dev nD) : List (Dev nD × RK) :=
  [(xn d, none), (yn d, none),
   (xn d, some (3, 0)), (xn d, some (4, 0)),
   (xn d, some (3, 1)), (xn d, some (4, 1)), (yn d, some (5, 0)),
   (xn d, some (3, 2)), (xn d, some (4, 2)), (yn d, some (5, 1)),
   (xn d, some (3, 3)), (xn d, some (4, 3)), (yn d, some (5, 2)), (yn d, some (5, 3))]

/-- What device `d` owes after its first `k` payments. -/
abbrev left (d : Dev nD) (k : ℕ) : CellTallies nD τ sig Unit := owing ((payList d).drop k)

/-- What a list of debts says of a cell. -/
theorem owing_apply (l : List (Dev nD × RK)) (ck : Dev nD × RK) :
    owing l (kcell ck) () = l.count ck * amt ck.2 := by
  induction l with
  | nil => simp [owing]
  | cons p l ih =>
    unfold owing
    rw [Pi.add_apply, Finsupp.add_apply, ih, tallyAt_apply, List.count_cons]
    by_cases h : p = ck
    · subst h; simp [Nat.add_mul]
    · have : ¬ (kcell ck = kcell p ∧ () = ()) := fun h' => h (kcell_injective h'.1).symm
      rw [if_neg this]
      simp [h]

/-- A cell that is owed something is on the list of debts. -/
theorem owing_pos {l : List (Dev nD × RK)} {g : GSem nD τ sig} {u : Unit} (h : 0 < owing l g u) : ∃ p ∈ l, g = kcell p := by
  induction l with
  | nil => exact absurd h (Nat.lt_irrefl 0)
  | cons p l ih =>
    unfold owing at h
    rw [Pi.add_apply, Finsupp.add_apply, tallyAt_apply] at h
    by_cases hp : g = kcell p
    · exact ⟨p, List.mem_cons_self, hp⟩
    · rw [if_neg (fun h' => hp h'.1), Nat.add_zero] at h
      obtain ⟨p', hp', e⟩ := ih h
      exact ⟨p', List.mem_cons_of_mem _ hp', e⟩

/-! ## The order of the waits -/

/-- The level of a cell. -/
def lvl : RK → ℕ
  | none => 1
  | some (k, j) => if k = 3 ∨ k = 4 then 2 + j.val else if k = 5 then 10 + j.val else 0

/-- The only label of a counter. -/
def L (g : GSem nD τ sig) : Finset Unit := if g.1.2 = .tc then {()} else ∅
/-- The level of a counter: its cell's, and zero for local copies. -/
def lv (g : GSem nD τ sig) (_ : Unit) : ℕ := (decode g.2).elim 0 lvl

/-- Other threads' counters have no label. -/
theorem L_of_ne (g : GSem nD τ sig) (h : g.1.2 ≠ .tc) : L g = ∅ := if_neg h
/-- The device's counters have the one label. -/
theorem L_tc (c : Dev nD) (sm : SemLoc sig) : L ((c : Thread nD τ), sm) = {()} := if_pos rfl

omit [FloatOps F] in
/-- A device may wait on a cell below everything it still has to pay. -/
theorem mayWait_below (d : Dev nD) (sm : SemLoc sig) (l : List (Dev nD × RK))
    (h : ∀ p ∈ l, (decode sm).elim 0 lvl < lvl p.2) :
    (levAts L lv : sProp 𝕄) ⊢ MayWait (d : Thread nD τ) sm () (owing l) :=
  MayOwe.of_cut (L := L) (lev := lv) ((decode sm).elim 0 lvl)
    (fun p hp => by rw [Finset.mem_singleton.mp hp, L_tc]; exact Finset.mem_singleton_self _)
    (fun g u hg => by obtain ⟨p, -, rfl⟩ := owing_pos hg; exact Finset.mem_singleton_self _)
    (fun p hp => by rw [Finset.mem_singleton.mp hp]; exact Nat.le_refl _)
    (fun g u hg => by
      obtain ⟨p, hp, rfl⟩ := owing_pos hg
      show _ < (decode (csem p.2)).elim 0 lvl
      rw [decode_csem]
      exact h p hp)

end FlashDecode

end

end
-- ==== Proof.Heads.lean ====
/-
The computation of one batch row: starting a head's copies, and waiting for them and storing the head's
denominators and numerators.
-/
module

public import proofs.«01_k».proof.Proof.Protocol

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## Columns of the packed rows -/

/-- One head's column lies in its row of denominators. -/
theorem subL (t : Fin 4) (h : Fin 16) : (rLh t h).set ⊆ (rL t).set := by
  intro i hi
  rw [Rect.mem_set_unit] at hi ⊢
  intro a
  have := hi a
  fin_cases a <;> simp at this ⊢ <;> omega
/-- One head's block lies in its row of numerators. -/
theorem subN (t : Fin 4) (h : Fin 16) : (rNh t h).set ⊆ (rN t).set := by
  intro i hi
  rw [Rect.mem_set_unit] at hi ⊢
  intro a
  have := hi a
  fin_cases a <;> simp at this ⊢ <;> omega

/-- Where an element of a row of denominators is in the buffer. -/
theorem emb_rL (t : Fin 4) (x : S8x16.Idx) (hn : S8x16.numel = S1x8x16.numel) :
    (rL t).emb (Shape.reshapeEquiv hn x) = ix3 t (x 0) (x 1) := by
  rw [eq_ix2 x]
  refine (congrArg (rL t).emb (reshapeEquiv_ix2_1ab hn (x 0) (x 1))).trans ?_
  funext a
  fin_cases a <;> (apply Fin.ext; simp)
/-- Where an element of a row of numerators is in the buffer. -/
theorem emb_rN (t : Fin 4) (x : S8x2048.Idx) (hn : S8x2048.numel = S1x8x2048.numel) :
    (rN t).emb (Shape.reshapeEquiv hn x) = ix3 t (x 0) (x 1) := by
  rw [eq_ix2 x]
  refine (congrArg (rN t).emb (reshapeEquiv_ix2_1ab hn (x 0) (x 1))).trans ?_
  funext a
  fin_cases a <;> (apply Fin.ext; simp)

/-- Where an element of one head's column is in the buffer. -/
theorem emb_rLh (t : Fin 4) (h : Fin 16) (y : S1x8x1.Idx) : (rLh t h).emb y = ix3 t (y 1) h := by
  have h0 : (y 0).val = 0 := by have := (y 0).isLt; simp at this; omega
  have h2 : (y 2).val = 0 := by have := (y 2).isLt; simp at this; omega
  funext a
  fin_cases a <;> (apply Fin.ext; simp [h0, h2])

/-- Where an element of one head's block is in the buffer. -/
theorem emb_rNh (t : Fin 4) (h : Fin 16) (y : S1x8x128.Idx) :
    (rNh t h).emb y = ix3 t (y 1) ⟨128 * h.val + (y 2).val, by have := (y 2).isLt; simp at this; omega⟩ := by
  have h0 : (y 0).val = 0 := by have := (y 0).isLt; simp at this; omega
  funext a
  fin_cases a <;> (apply Fin.ext; simp [h0])

section Columns

variable (m : (ℓ : Loc nD τ sig) → Buf (Elt F) ℓ) (d : Dev nD) (b : Fin 8)

/-- The denominators with the heads before `k` done. -/
def lDone (k : ℕ) (X : S8x16.Idx → Elt F .f32) : Prop := ∀ x, (x 1).val < k → X x = lRow m d b x
/-- The numerators with the heads before `k` done. -/
def nDone (k : ℕ) (X : S8x2048.Idx → Elt F .bf16) : Prop := ∀ x, (laneHead x).val < k → X x = nRow m d b x

/-- Before the first head nothing is asked of the denominators. -/
theorem lDone_zero (X : S8x16.Idx → Elt F .f32) : lDone m d b 0 X := fun _ h => absurd h (Nat.not_lt_zero _)
/-- Before the first head nothing is asked of the numerators. -/
theorem nDone_zero (X : S8x2048.Idx → Elt F .bf16) : nDone m d b 0 X := fun _ h => absurd h (Nat.not_lt_zero _)
/-- After all heads the denominators are the row's. -/
theorem lDone_all {X : S8x16.Idx → Elt F .f32} (h : lDone m d b 16 X) : X = lRow m d b := funext fun x => h x (x 1).isLt
/-- After all heads the numerators are the row's. -/
theorem nDone_all {X : S8x2048.Idx → Elt F .bf16} (h : nDone m d b 16 X) : X = nRow m d b := funext fun x => h x (laneHead x).isLt

/-- One more head's denominators. -/
def lPut (h : Fin 16) (X : S8x16.Idx → Elt F .f32) : S8x16.Idx → Elt F .f32 := fun x => if (x 1).val = h.val then lRow m d b x else X x
/-- One more head's numerators. -/
def nPut (h : Fin 16) (X : S8x2048.Idx → Elt F .bf16) : S8x2048.Idx → Elt F .bf16 := fun x => if laneHead x = h then nRow m d b x else X x

/-- Storing the next head's denominators makes one more head done. -/
theorem lDone_put (h : Fin 16) {X : S8x16.Idx → Elt F .f32} (hX : lDone m d b h.val X) : lDone m d b (h.val + 1) (lPut m d b h X) := by
  intro x hx
  unfold lPut
  split
  · rfl
  · rename_i hne
    exact hX x (by omega)
/-- Storing the next head's numerators makes one more head done. -/
theorem nDone_put (h : Fin 16) {X : S8x2048.Idx → Elt F .bf16} (hX : nDone m d b h.val X) : nDone m d b (h.val + 1) (nPut m d b h X) := by
  intro x hx
  unfold nPut
  split
  · rfl
  · rename_i hne
    exact hX x (by have : (laneHead x).val ≠ h.val := fun e => hne (Fin.ext e); omega)

/-- Inside the head's column the store leaves the stored column. -/
theorem lPut_in (t : Fin 4) (h : Fin 16) (X : S8x16.Idx → Elt F .f32) (hn : S8x16.numel = S1x8x16.numel) (hc : S8.ShapeCasts S1x8x1)
    (x : S8x16.Idx) (y : S1x8x1.Idx) (e : (rL t).emb (Shape.reshapeEquiv hn x) = (rLh t h).emb y) :
    lPut m d b h X x = shapeCast S1x8x1 (lHead m d b h) hc y := by
  rw [emb_rL, emb_rLh] at e
  have e1 : x 0 = y 1 := congrFun e 1
  have e2 : x 1 = h := congrFun e 2
  unfold lPut
  rw [if_pos (congrArg Fin.val e2)]
  unfold lRow
  rw [e1, e2]
  refine (shapeCast_apply (lHead m d b h) hc y (ix1 (y 1)) ?_).symm
  have h0 : (y 0).val = 0 := by have := (y 0).isLt; simp at this; omega
  have h2 : (y 2).val = 0 := by have := (y 2).isLt; simp at this; omega
  rw [Shape.rowMajor_val_three, Shape.rowMajor_val_one]
  simp [h0, h2]
/-- Outside the head's column the store changes nothing. -/
theorem lPut_out (t : Fin 4) (h : Fin 16) (X : S8x16.Idx → Elt F .f32) (hn : S8x16.numel = S1x8x16.numel)
    (x : S8x16.Idx) (e : ∀ y, (rL t).emb (Shape.reshapeEquiv hn x) ≠ (rLh t h).emb y) : lPut m d b h X x = X x := by
  unfold lPut
  rw [if_neg]
  intro hx
  refine e (ix3 (0 : Fin 1) (x 0) (0 : Fin 1)) ?_
  rw [emb_rL, emb_rLh]
  exact congrArg (ix3 t (x 0)) (Fin.ext hx)

/-- Inside the head's block the store leaves the stored block. -/
theorem nPut_in (t : Fin 4) (h : Fin 16) (X : S8x2048.Idx → Elt F .bf16) (hn : S8x2048.numel = S1x8x2048.numel) (hc : S8x128.ShapeCasts S1x8x128)
    (x : S8x2048.Idx) (y : S1x8x128.Idx) (e : (rN t).emb (Shape.reshapeEquiv hn x) = (rNh t h).emb y) :
    nPut m d b h X x = shapeCast S1x8x128 (nHead m d b h) hc y := by
  rw [emb_rN, emb_rNh] at e
  have e1 : x 0 = y 1 := congrFun e 1
  have e2 : (x 1).val = 128 * h.val + (y 2).val := congrArg Fin.val (congrFun e 2)
  have hy : (y 2).val < 128 := (y 2).isLt
  have e3 : laneHead x = h := Fin.ext (show (x 1).val / 128 = h.val by omega)
  have e4 : laneOff x = y 2 := Fin.ext (show (x 1).val % 128 = (y 2).val by omega)
  unfold nPut
  rw [if_pos e3]
  unfold nRow
  rw [e1, e3, e4]
  refine (shapeCast_apply (nHead m d b h) hc y (ix2 (y 1) (y 2)) ?_).symm
  have h0 : (y 0).val = 0 := by have := (y 0).isLt; simp at this; omega
  rw [Shape.rowMajor_val_three, Shape.rowMajor_val_two]
  simp [h0]
/-- Outside the head's block the store changes nothing. -/
theorem nPut_out (t : Fin 4) (h : Fin 16) (X : S8x2048.Idx → Elt F .bf16) (hn : S8x2048.numel = S1x8x2048.numel)
    (x : S8x2048.Idx) (e : ∀ y, (rN t).emb (Shape.reshapeEquiv hn x) ≠ (rNh t h).emb y) : nPut m d b h X x = X x := by
  unfold nPut
  rw [if_neg]
  intro hx
  refine e (ix3 (0 : Fin 1) (x 0) (laneOff x)) ?_
  rw [emb_rN, emb_rNh]
  have e1 : (x 1).val / 128 = h.val := congrArg Fin.val hx
  have : x 1 = ⟨128 * h.val + (laneOff x).val, by have := (laneOff x).isLt; have := h.isLt; show _ < 2048; omega⟩ := Fin.ext (by
    show (x 1).val = 128 * h.val + (x 1).val % 128
    omega)
  exact congrArg (ix3 t (x 0)) this

end Columns

/-! ## The copies of one head -/

section Copies

variable (m : (ℓ : Loc nD τ sig) → Buf (Elt F) ℓ) (d : Dev nD)

/-- The blocks of one head of one batch row of the three arguments. -/
def srcs (b : Fin 8) (h : Fin 16) : sProp 𝕄 :=
  iprop(has d (argQ b h) fullShare (qv m d b h) ∗ has d (argK b h) fullShare (kv m d b h) ∗ has d (argV b h) fullShare (vv m d b h))
/-- One head's staging slots of one parity, idle. -/
def idle (p : Fin 2) (h : Fin 16) : sProp 𝕄 :=
  iprop(any d (bufQ p h) ∗ any d (bufK p h) ∗ any d (bufV p h)
    ∗ semVal ((d : Thread nD τ), .dma (qS p h)) 0 ∗ semVal ((d : Thread nD τ), .dma (kS p h)) 0 ∗ semVal ((d : Thread nD τ), .dma (vS p h)) 0)
/-- One head's three copies in flight. -/
def coming (b : Fin 8) (p : Fin 2) (h : Fin 16) : sProp 𝕄 :=
  iprop(flying d (argQ b h) (bufQ p h) (qS p h) fullShare (qv m d b h) ∗ flying d (argK b h) (bufK p h) (kS p h) fullShare (kv m d b h)
    ∗ flying d (argV b h) (bufV p h) (vS p h) fullShare (vv m d b h))

/-- Starting the three copies of one head. -/
theorem runs_issueHead (p : Fin 2) (b : Fin 8) (h : Fin 16) (Q : PUnit → sProp 𝕄) :
    iprop(emp ∗ (srcs m d b h ∗ idle d p h) ∗ (emp ∗ coming m d b p h -∗ Q ⟨⟩)) ⊢ runs d (issueHead p b h) Q := by
  unfold issueHead srcs idle coming
  simp only [Prog.lift, Prog.bind_op, Prog.bind_ret]
  iintro ⟨-, ⟨⟨Hq, Hk, Hv⟩, Bq, Bk, Bv, Sq, Sk, Sv⟩, HQ⟩
  iapply (runs_copy d (by decide) fullShare (qv m d b h)) $$ [Hq Bq Sq]
  · isplitl [Hq]; · iexact Hq
    isplitl [Bq]; · iexact Bq
    iexact Sq
  iintro Fq
  iapply (runs_copy d (by decide) fullShare (kv m d b h)) $$ [Hk Bk Sk]
  · isplitl [Hk]; · iexact Hk
    isplitl [Bk]; · iexact Bk
    iexact Sk
  iintro Fk
  iapply (runs_copy d (by decide) fullShare (vv m d b h)) $$ [Hv Bv Sv]
  · isplitl [Hv]; · iexact Hv
    isplitl [Bv]; · iexact Bv
    iexact Sv
  iintro Fv
  unfold runs
  rw [wp_ret]
  imodintro
  iapply HQ
  isplitr; · iempintro
  isplitl [Fq]; · iexact Fq
  isplitl [Fk]; · iexact Fk
  iexact Fv

/-- What a row's heads share as they go: the levels, what is owed, and the row's denominators and
    numerators with the heads before `k` done. -/
def running (b : Fin 8) (t : Fin 4) (O : CellTallies nD τ sig Unit) (k : ℕ) : sProp 𝕄 :=
  iprop(levAts L lv ∗ ow d O ∗ (∃ X, ⌜lDone m d b k X⌝ ∗ has d (lloc t) fullShare X) ∗ (∃ X, ⌜nDone m d b k X⌝ ∗ has d (nloc t) fullShare X))

/-- A query copy's semaphore is not a cell of the protocol. -/
theorem lvl_q (p : Fin 2) (h : Fin 16) : decode (.dma (qS p h)) = none := by revert p h; decide +kernel
/-- A key copy's semaphore is not a cell of the protocol. -/
theorem lvl_k (p : Fin 2) (h : Fin 16) : decode (.dma (kS p h)) = none := by revert p h; decide +kernel
/-- A value copy's semaphore is not a cell of the protocol. -/
theorem lvl_v (p : Fin 2) (h : Fin 16) : decode (.dma (vS p h)) = none := by revert p h; decide +kernel

omit [FloatOps F] in
/-- A device may wait for its own copies while it owes only payments at positive levels. -/
theorem mayWait_own (sm : SemLoc sig) (hsm : decode sm = none) (l : List (Dev nD × RK)) (hl : ∀ p ∈ l, 0 < lvl p.2) :
    (levAts L lv : sProp 𝕄) ⊢ MayWait (d : Thread nD τ) sm () (owing l) :=
  mayWait_below d sm l (fun p hp => by rw [hsm]; exact hl p hp)

/-- Two reshapes of a query block that undo each other. -/
theorem cast_rQ (p : Fin 2) (h : Fin 16) (X : FVec F S8x128 .f32) (h₁ : S8x128.ShapeCasts (rQ p h).shape) (h₂ : S1x1x8x128.ShapeCasts S8x128) :
    shapeCast S8x128 (shapeCast (rQ p h).shape X h₁) h₂ = X := shapeCast_shapeCast X h₁ h₂
/-- Two reshapes of a key or value block that undo each other. -/
theorem cast_rKV (p : Fin 2) (h : Fin 16) (X : FVec F S1024x128 .f32) (h₁ : S1024x128.ShapeCasts (rKV p h).shape)
    (h₂ : S1x1x1024x128.ShapeCasts S1024x128) :
    shapeCast S1024x128 (shapeCast (rKV p h).shape X h₁) h₂ = X := shapeCast_shapeCast X h₁ h₂

/-- One head: its copies are waited for, and its denominators and numerators are stored. -/
theorem runs_headStep (p : Fin 2) (b : Fin 8) (t : Fin 4) (l : List (Dev nD × RK)) (hl : ∀ p ∈ l, 0 < lvl p.2) (h : Fin 16) (Q : PUnit → sProp 𝕄) :
    iprop(running m d b t (owing l) h.val ∗ coming m d b p h ∗ (running m d b t (owing l) (h.val + 1) ∗ (srcs m d b h ∗ idle d p h) -∗ Q ⟨⟩))
      ⊢ runs d (headStep p b t h) Q := by
  unfold headStep srcs idle coming running
  simp only [Prog.lift, Prog.bind_op, Prog.bind_ret]
  iintro ⟨⟨#Hlev, HO, ⟨%Xl, %hXl, Hl⟩, ⟨%Xn, %hXn, Hn⟩⟩, ⟨Fq, Fk, Fv⟩, HQ⟩
  ihave Mq := (mayWait_own d (.dma (qS p h)) (lvl_q p h) l hl) $$ Hlev
  iapply (runs_landed d (src := argQ b h) (dst := bufQ p h) (srcw := argQ b h) (dstw := bufQ p h) (sm := qS p h) (hsrc := (View.wordExact_bits rfl).reshape _ _) (hdst := (View.wordExact_bits rfl).reshape _ _) fullShare (qv m d b h) (owing l) rfl) $$ [Fq HO Mq]
  · isplitl [Fq]; · iexact Fq
    isplitl [HO]; · iexact HO
    iexact Mq
  iintro ⟨Bq, Hq, Sq, HO⟩
  ihave Mk := (mayWait_own d (.dma (kS p h)) (lvl_k p h) l hl) $$ Hlev
  iapply (runs_landed d (src := argK b h) (dst := bufK p h) (srcw := argK b h) (dstw := bufK p h) (sm := kS p h) (hsrc := (View.wordExact_bits rfl).reshape _ _) (hdst := (View.wordExact_bits rfl).reshape _ _) fullShare (kv m d b h) (owing l) rfl) $$ [Fk HO Mk]
  · isplitl [Fk]; · iexact Fk
    isplitl [HO]; · iexact HO
    iexact Mk
  iintro ⟨Bk, Hk, Sk, HO⟩
  ihave Mv := (mayWait_own d (.dma (vS p h)) (lvl_v p h) l hl) $$ Hlev
  iapply (runs_landed d (src := argV b h) (dst := bufV p h) (srcw := argV b h) (dstw := bufV p h) (sm := vS p h) (hsrc := (View.wordExact_bits rfl).reshape _ _) (hdst := (View.wordExact_bits rfl).reshape _ _) fullShare (vv m d b h) (owing l) rfl) $$ [Fv HO Mv]
  · isplitl [Fv]; · iexact Fv
    isplitl [HO]; · iexact HO
    iexact Mv
  iintro ⟨Bv, Hv, Sv, HO⟩
  iapply (runs_load d (Memref.whole cc0_scratch0) (rQ p h) (fun _ => rfl) squeezes_S1x1x8x128_S8x128 (M := bufQ p h) rfl fullShare (qv m d b h)) $$ Bq
  iintro Bq
  iapply (runs_load d (Memref.whole cc0_scratch2) (rKV p h) (fun _ => rfl) squeezes_S1x1x1024x128_S1024x128 (M := bufK p h) rfl fullShare (kv m d b h)) $$ Bk
  iintro Bk
  iapply (runs_peek d (Memref.whole cc0_scratch7) (rL t) (fun _ => rfl) squeezes_S1x8x16_S8x16 (M := lloc t) rfl (subL t h) fullShare Xl) $$ Hl
  iintro %_V Hl
  iapply (runs_store d (Memref.whole cc0_scratch7) (rL t) (fun _ => rfl) squeezes_S1x8x16_S8x16 (M := lloc t) rfl (subL t h) Xl (lPut m d b h Xl)
    (fun x y e => by
      rw [cast_rQ, cast_rKV]
      exact lPut_in m d b t h Xl _ _ x y e)
    (fun x e => lPut_out m d b t h Xl _ x e)) $$ Hl
  iintro Hl
  iapply (runs_load d (Memref.whole cc0_scratch3) (rKV p h) (fun _ => rfl) squeezes_S1x1x1024x128_S1024x128 (M := bufV p h) rfl fullShare (vv m d b h)) $$ Bv
  iintro Bv
  iapply (runs_peek d (Memref.whole cc0_scratch6) (rN t) (fun _ => rfl) squeezes_S1x8x2048_S8x2048 (M := nloc t) rfl (subN t h) fullShare Xn) $$ Hn
  iintro %_V' Hn
  iapply (runs_store d (Memref.whole cc0_scratch6) (rN t) (fun _ => rfl) squeezes_S1x8x2048_S8x2048 (M := nloc t) rfl (subN t h) Xn (nPut m d b h Xn)
    (fun x y e => by
      rw [cast_rQ, cast_rKV, cast_rKV]
      exact nPut_in m d b t h Xn _ _ x y e)
    (fun x e => nPut_out m d b t h Xn _ x e)) $$ Hn
  iintro Hn
  unfold runs
  rw [wp_ret]
  imodintro
  iapply HQ
  isplitl [HO Hl Hn]
  · isplitr; · iexact Hlev
    isplitl [HO]; · iexact HO
    isplitl [Hl]
    · iexists _
      isplitr
      rotate_left
      · iexact Hl
      · ipureintro; exact lDone_put m d b h hXl
    · iexists _
      isplitr
      rotate_left
      · iexact Hn
      · ipureintro; exact nDone_put m d b h hXn
  isplitl [Hq Hk Hv]
  · isplitl [Hq]; · iexact Hq
    isplitl [Hk]; · iexact Hk
    iexact Hv
  isplitl [Bq]
  · iapply (any_intro d (bufQ p h) (qv m d b h)) $$ Bq
  isplitl [Bk]
  · iapply (any_intro d (bufK p h) (kv m d b h)) $$ Bk
  isplitl [Bv]
  · iapply (any_intro d (bufV p h) (vv m d b h)) $$ Bv
  isplitl [Sq]; · iexact Sq
  isplitl [Sk]; · iexact Sk
  iexact Sv

end Copies

end FlashDecode

end

end
-- ==== Proof.Rows.lean ====
/-
The exchange of one batch row: the meeting at the barrier, the transfers of the partial results, the
division, the transfer of the finished row, and the waits that close what is open.
-/
module

public import proofs.«01_k».proof.Proof.Heads

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## Tokens, positions, credits -/

/-- The right to pay duty `b` of a cell. -/
abbrev tok (ck : Dev nD × RK) (b : Bool) : sProp 𝕄 := dutyTok ER (kcell ck) 0 b
/-- The right to wait on a cell that has not been waited on. -/
abbrev pos (ck : Dev nD × RK) : sProp 𝕄 := atPos ER (kcell ck) 0 ∅ 0
/-- The credit a transfer cell will be paid. -/
abbrev due (ck : Dev nD × RK) : sProp 𝕄 := cred (tallyAt (kcell ck) () (amt ck.2))
/-- A cell's counter back at zero. -/
abbrev zero (ck : Dev nD × RK) : sProp 𝕄 := semVal (kcell ck) 0

variable (m : (ℓ : Loc nD τ sig) → Buf (Elt F) ℓ) (K : Dev nD × RK → ℕ)

/-- What is known of every cell. -/
def records : sProp 𝕄 := bigSep Finset.univ fun ck : Dev nD × RK => iprop(cellInv ER (sched m) (K ck) (kcell ck) ∗ reached ER (kcell ck) 0)

/-- The records may be used again and again. -/
instance records_persistent : BI.Persistent (records m K) := by unfold records; infer_instance

/-- The record of one cell. -/
theorem record_at (ck : Dev nD × RK) : records m K ⊢ iprop(cellInv ER (sched m) (K ck) (kcell ck) ∗ reached ER (kcell ck) 0) := by
  unfold records
  exact bigSep_elim (Finset.mem_univ ck)

omit [FloatOps F] in
/-- A piece with known contents is two half shares of it. -/
theorem has_halves (d : Dev nD) {sp : Space} {s : Shape} {e : EltTy} (M : Memref sig .tc sp s e) (X : s.Idx → Elt F e) :
    (has d M fullShare X : sProp 𝕄) ⊢ iprop(has d M fullShare.left X ∗ has d M fullShare.right X) := by
  unfold has owns
  iintro ⟨%f, %hf, H⟩
  ihave H2 := (pointsTo_share (PosShare.mem_left_op_right fullShare)).1 $$ H
  icases H2 with ⟨H1, H2⟩
  isplitl [H1]
  · iexists f
    isplitr; · ipureintro; exact hf
    iexact H1
  · iexists f
    isplitr; · ipureintro; exact hf
    iexact H2

omit [FloatOps F] in
/-- Two half shares of a piece with the same contents are the piece. -/
theorem any_of_halves (d : Dev nD) {sp : Space} {s : Shape} {e : EltTy} (M : Memref sig .tc sp s e) (X : s.Idx → Elt F e) :
    (iprop(has d M fullShare.left X ∗ has d M fullShare.right X) : sProp 𝕄) ⊢ any d M := by
  unfold any has owns
  iintro ⟨⟨%f, %hf, H1⟩, ⟨%g, %hg, H2⟩⟩
  ihave %hagree := (pointsTo_agree (q₁ := fullShare.left) (q₂ := fullShare.right)) $$ [H1 H2]
  · isplitl [H1]; · iexact H1
    iexact H2
  ihave H2 := (Entails.of_eq (pointsTo_congr (g := f) (fun i hi => (hagree i (Finset.mem_inter.mpr ⟨hi, hi⟩)).1.symm))) $$ H2
  iexists X
  iexists f
  isplitr; · ipureintro; exact hf
  iapply (pointsTo_share (PosShare.mem_left_op_right fullShare)).2
  isplitl [H1]; · iexact H1
  iexact H2

/-! ## One cell's transfer and wait -/

section Cell

variable (d : Dev nD)

/-- Pay a cell of the sender and a cell of the receiver with one transfer. -/
theorem runs_send_cell {sp sp' : Space} {s : Shape} {e : EltTy} {src : Memref sig .tc sp s e} {dst : Memref sig .tc sp' s e}
    (x : Dev nD) (k k' : Fin 6) (j : Fin 4)
    {hsc : (dst : Memref sig (Dev.tc x : Thread nD τ).2.kind sp' s e).view.ref.isScScratch = false}
    {hsrc : src.view.WordExact} {hdst : dst.view.WordExact}
    {hsem : DmaTarget.Typed sp (.dma (dsem k' j)) (.remote (Dev.tc x : Thread nD τ) (dst : Memref sig (Dev.tc x : Thread nD τ).2.kind sp' s e) (.dma (dsem k j)) hsc)}
    {kk : PUnit → Act F} {Q : PUnit → sProp 𝕄} (q : PosShare TreeShare) (X : s.Idx → Elt F e) (l : List (Dev nD × RK))
    (hN : dst.view.dmaCredit = amt (some (k', j))) (hkk : amt (some (k, j)) = amt (some (k', j)))
    (hpay₁ : has d src q X ⊢ landing m d k j) (hpay₂ : has x dst fullShare X ⊢ landing m x k' j) :
    iprop(records m K ∗ has d src q X ∗ any x dst ∗ ow d (owing ((x, some (k', j)) :: l)) ∗ tok (d, some (k, j)) false ∗ tok (x, some (k', j)) false)
      ⊢ iprop((iprop(due (d, some (k, j)) ∗ ow d (owing l)) -∗ runs d (kk ⟨⟩) Q)
          -∗ runs d (.op (.enqueueDma src (.remote (Dev.tc x : Thread nD τ) dst (.dma (dsem k j)) hsc) (.dma (dsem k' j)) hsrc hdst hsem) kk) Q) := by
  iintro ⟨#HR, Hs, Hd, HO, T1, T2⟩ Hk
  ihave R1 := (record_at m K (d, some (k, j))) $$ HR
  ihave R2 := (record_at m K (x, some (k', j))) $$ HR
  icases R1 with ⟨I1, G1⟩
  icases R2 with ⟨I2, G2⟩
  iapply (runs_send (sched m) d (x := x) (src := src) (dst := dst) (sS := dsem k j) (sm := dsem k' j) (hsrc := hsrc) (hdst := hdst) (hsem := hsem) (k := kk)
    q X (amt (some (k', j)))
    (by rw [show ((d : Thread nD τ), SemLoc.dma (dsem k j)) = kcell (d, some (k, j)) from rfl, duties_kcell]; exact Finset.mem_singleton_self _)
    (by rw [show ((x : Thread nD τ), SemLoc.dma (dsem k' j)) = kcell (x, some (k', j)) from rfl, duties_kcell]; exact Finset.mem_singleton_self _)
    hN ((amount_kcell m (d, some (k, j)) false).trans hkk) (amount_kcell m (x, some (k', j)) false)
    (owing l) rfl
    (by rw [show ((d : Thread nD τ), SemLoc.dma (dsem k j)) = kcell (d, some (k, j)) from rfl, payload_kcell]; exact hpay₁)
    (by rw [show ((x : Thread nD τ), SemLoc.dma (dsem k' j)) = kcell (x, some (k', j)) from rfl, payload_kcell]; exact hpay₂))
    $$ [I1 I2 G1 G2 Hs Hd HO T1 T2]
  · isplitl [I1]; · iexact I1
    isplitl [I2]; · iexact I2
    isplitl [Hs]; · iexact Hs
    isplitl [Hd]; · iexact Hd
    isplitl [HO]; · iexact HO
    isplitl [T1]; · iexact T1
    isplitl [G1]; · iexact G1
    isplitl [T2]; · iexact T2
    iexact G2
  rw [← hkk]
  iexact Hk

/-- Wait on a cell. -/
theorem runs_take_cell {s₂ : Shape} {e₂ : EltTy} {sp₂ sp₃ : Space} {s₃ : Shape} {e₃ : EltTy} (k : Fin 6) (j : Fin 4)
    {srcw : Memref sig .tc sp₂ s₂ e₂} {dstw : Memref sig .tc sp₃ s₃ e₃}
    {hsrc : srcw.view.WordExact} {hdst : dstw.view.WordExact}
    {kk : PUnit → Act F} {Q : PUnit → sProp 𝕄} (l : List (Dev nD × RK)) (hl : ∀ p ∈ l, lvl (some (k, j)) < lvl p.2)
    (hN : dstw.view.dmaCredit = amt (some (k, j))) :
    iprop(records m K ∗ levAts L lv ∗ ow d (owing l) ∗ due (d, some (k, j)) ∗ pos (d, some (k, j)))
      ⊢ iprop((iprop(landing m d k j ∗ zero (d, some (k, j)) ∗ ow d (owing l)) -∗ runs d (kk ⟨⟩) Q)
          -∗ runs d (.op (.waitDma2 (dsem k j) srcw dstw hsrc hdst) kk) Q) := by
  iintro ⟨#HR, #Hlev, HO, Hc, Ha⟩ Hk
  ihave R1 := (record_at m K (d, some (k, j))) $$ HR
  icases R1 with ⟨I1, G1⟩
  iapply (runs_take (sched m) d (sm := dsem k j) (srcw := srcw) (dstw := dstw) (hsrc := hsrc) (hdst := hdst) (k := kk) (owing l) (amt (some (k, j))) hN
    (by rw [show ((d : Thread nD τ), SemLoc.dma (dsem k j)) = kcell (d, some (k, j)) from rfl, duties_kcell]; rfl)
    (duties_later m _) (amount_kcell m (d, some (k, j)) false) (not_unitless m _)) $$ [I1 HO Hc Ha]
  · isplitl [I1]; · iexact I1
    isplitl [Hc]; · iexact Hc
    isplitl [HO]; · iexact HO
    isplitr
    · iapply (mayWait_below d (.dma (dsem k j)) l (fun p hp => by
        rw [show decode (.dma (dsem k j)) = some (some (k, j)) from decode_csem (some (k, j))]; exact hl p hp))
      iexact Hlev
    iexact Ha
  iintro ⟨Hp, Hz, HO⟩
  iapply Hk
  isplitl [Hp]
  · ihave Hp := (Entails.of_eq (show (sched m).payload ((d : Thread nD τ), .dma (dsem k j)) 0 false = landing m d k j from
      payload_kcell m (d, some (k, j)) false)) $$ Hp
    iexact Hp
  isplitl [Hz]; · iexact Hz
  iexact HO

end Cell

/-! ## What a device holds for one row -/

section Stages

variable (d : Dev nD) (j : Fin 4)

/-- What sending the partial results needs. -/
def sendable : sProp 𝕄 :=
  iprop(tok (d, some (0, j)) false ∗ tok (xn d, some (3, j)) false ∗ any (xn d) (nrem j)
    ∗ tok (d, some (1, j)) false ∗ tok (xn d, some (4, j)) false ∗ any (xn d) (lrem j))
/-- What waiting for the other shard's partial results needs. -/
def awaiting : sProp 𝕄 :=
  iprop(due (d, some (3, j)) ∗ pos (d, some (3, j)) ∗ due (d, some (4, j)) ∗ pos (d, some (4, j)))
/-- What storing and passing on the finished row needs. -/
def passing : sProp 𝕄 :=
  iprop(any d (osnd j) ∗ any d (ostg (ownRow d j)) ∗ any d (outB (ownRow d j)) ∗ semVal ((d : Thread nD τ), .dma (outS 0 j)) 0
    ∗ tok (d, some (2, j)) false ∗ tok (yn d, some (5, j)) false ∗ any (yn d) (orcv j))
/-- What taking in the other half's row needs. -/
def taking : sProp 𝕄 :=
  iprop(due (d, some (5, j)) ∗ pos (d, some (5, j)) ∗ any d (ostg (otherRow d j)) ∗ any d (outB (otherRow d j))
    ∗ semVal ((d : Thread nD τ), .dma (outS 1 j)) 0)
/-- What waiting for the row's own transfers to leave needs, before they start. -/
def leaving : sProp 𝕄 := iprop(pos (d, some (0, j)) ∗ pos (d, some (1, j)) ∗ pos (d, some (2, j)))
/-- The row's transfers of partial results are on their way. -/
def sent : sProp 𝕄 :=
  iprop((due (d, some (0, j)) ∗ has d (nloc j) fullShare.right (nRow m d (ownRow d j)))
    ∗ (due (d, some (1, j)) ∗ has d (lloc j) fullShare.right (lRow m d (ownRow d j))))
/-- The row is divided, stored, and on its way to the result and to the neighbour. -/
def divided : sProp 𝕄 :=
  iprop(any d (nrem j) ∗ any d (lrem j) ∗ zero (d, some (3, j)) ∗ zero (d, some (4, j))
    ∗ flying d (ostg (ownRow d j)) (outB (ownRow d j)) (outS 0 j) fullShare (outOwn m d j) ∗ due (d, some (2, j)))
/-- The other half's row is stored and on its way to the result. -/
def taken : sProp 𝕄 :=
  iprop(any d (orcv j) ∗ zero (d, some (5, j))
    ∗ flying d (ostg (otherRow d j)) (outB (otherRow d j)) (outS 1 j) fullShare (outOther m d j))
/-- The two rows are in the result. -/
def settled : sProp 𝕄 :=
  iprop((has d (outB (ownRow d j)) fullShare (outOwn m d j) ∗ any d (ostg (ownRow d j)) ∗ semVal ((d : Thread nD τ), .dma (outS 0 j)) 0)
    ∗ (has d (outB (otherRow d j)) fullShare (outOther m d j) ∗ any d (ostg (otherRow d j)) ∗ semVal ((d : Thread nD τ), .dma (outS 1 j)) 0))
/-- Everything the row's transfers read is back. -/
def left' : sProp 𝕄 :=
  iprop((any d (nloc j) ∗ zero (d, some (0, j))) ∗ (any d (lloc j) ∗ zero (d, some (1, j))) ∗ (any d (osnd j) ∗ zero (d, some (2, j))))

end Stages

/-! ## The pieces -/

section Run

variable (d : Dev nD) (j : Fin 4)

/-- A row of own numerators is whole words. -/
theorem exactN6 : (nloc j).view.WordExact := ((Memref.isWhole_whole cc0_scratch6).wordExact_slice rfl _ (packedN j).wholeWords).reshape _ _
/-- A row of the neighbour's numerators is whole words. -/
theorem exactN8 : (nrem j).view.WordExact := ((Memref.isWhole_whole cc0_scratch8).wordExact_slice rfl _ (packedN j).wholeWords).reshape _ _
/-- A finished row to send is whole words. -/
theorem exactN10 : (osnd j).view.WordExact := ((Memref.isWhole_whole cc0_scratch10).wordExact_slice rfl _ (packedN j).wholeWords).reshape _ _
/-- A finished row that arrives is whole words. -/
theorem exactN11 : (orcv j).view.WordExact := ((Memref.isWhole_whole cc0_scratch11).wordExact_slice rfl _ (packedN j).wholeWords).reshape _ _
/-- A row of own denominators is whole words. -/
theorem exactL7 : (lloc j).view.WordExact := (View.wordExact_bits rfl).reshape _ _
/-- A row of the neighbour's denominators is whole words. -/
theorem exactL9 : (lrem j).view.WordExact := (View.wordExact_bits rfl).reshape _ _

/-- What a row of numerators pays. -/
theorem credN : ∀ j, (nrem j).view.dmaCredit = nCred := fun _ => rfl
/-- What a row of denominators pays. -/
theorem credL : ∀ j, (lrem j).view.dmaCredit = lCred := fun _ => rfl

/-- The meeting at the barrier: two signals, and a wait for both neighbours. -/
theorem runs_meet (l : List (Dev nD × RK)) (hl : ∀ p ∈ l, 1 < lvl p.2) (Q : PUnit → sProp 𝕄) :
    iprop(records m K ∗ levAts L lv
        ∗ (ow d (owing ((xn d, none) :: (yn d, none) :: l)) ∗ tok (xn d, none) false ∗ tok (yn d, none) true ∗ barX d ∗ barY d
          ∗ cred (tallyAt (kcell (d, none)) () 2) ∗ pos (d, none))
        ∗ ((ow d (owing l) ∗ barX (xn d) ∗ barY (yn d) ∗ zero (d, none)) -∗ Q ⟨⟩))
      ⊢ runs d (meet (xn d) (yn d)) Q := by
  unfold meet
  simp only [semSignalWord, semWaitWord, Prog.lift, Prog.bind_op, Prog.bind_ret]
  iintro ⟨#HR, #Hlev, ⟨HO, T1, T2, BX, BY, Hc, Ha⟩, HQ⟩
  ihave R1 := (record_at m K (xn d, none)) $$ HR
  ihave R2 := (record_at m K (yn d, none)) $$ HR
  ihave R3 := (record_at m K (d, none)) $$ HR
  icases R1 with ⟨I1, G1⟩
  icases R2 with ⟨I2, G2⟩
  icases R3 with ⟨#I3, G3⟩
  have hpx : (sched m).payload ((xn d : Thread nD τ), .reg barS) 0 false = barX d := by
    refine (payload_kcell m (xn d, none) false).trans ?_; show (barX (xn (xn d)) : sProp 𝕄) = barX d; rw [xn_xn]
  have hpy : (sched m).payload ((yn d : Thread nD τ), .reg barS) 0 true = barY d := by
    refine (payload_kcell m (yn d, none) true).trans ?_; show (barY (yn (yn d)) : sProp 𝕄) = barY d; rw [yn_yn]
  have hd : ∀ x b, b ∈ (sched m).duties (kcell (x, none)) 0 := fun x b => by rw [duties_kcell]; exact Finset.mem_univ _
  have ha : ∀ x b, (sched m).amount (kcell (x, none)) 0 b = 1 := fun x b => amount_kcell m (x, none) b
  unfold ow
  icases HO with ⟨%W, HO⟩
  iapply (Rounds.wp_signal 𝒱₀ ER (sched m) (d : Thread nD τ) none (dst := (xn d : Thread nD τ)) (κ := K (xn d, none)) (sem := barS)
      (d := false) (hd _ _) ((ha (xn d) false).trans (by decide)) () (owing ((yn d, none) :: l)) rfl) $$ [HO I1 G1 T1 BX]
  · isplitl [I1]; · iexact I1
    isplitl [HO]; · iexact HO
    isplitl [T1]; · iexact T1
    isplitl [BX]
    · iapply (Entails.of_eq hpx.symm) $$ BX
    iexact G1
  iintro HO
  iapply (Rounds.wp_signal 𝒱₀ ER (sched m) (d : Thread nD τ) none (dst := (yn d : Thread nD τ)) (κ := K (yn d, none)) (sem := barS)
      (d := true) (hd _ _) ((ha (yn d) true).trans (by decide)) () (owing l) rfl) $$ [HO I2 G2 T2 BY]
  · isplitl [I2]; · iexact I2
    isplitl [HO]; · iexact HO
    isplitl [T2]; · iexact T2
    isplitl [BY]
    · iapply (Entails.of_eq hpy.symm) $$ BY
    iexact G2
  iintro HO
  have hexp : (sched m).expect (kcell (d, none)) 0 = 2 := by
    unfold Schedule.expect Schedule.amountOf
    rw [duties_kcell]
    show (Finset.univ : Finset Bool).sum _ = 2
    rw [Finset.sum_congr rfl fun b _ => ha d b, Finset.sum_const, Finset.card_univ, Fintype.card_bool, smul_eq_mul]
  have hrest : bigSep ((sched m).duties (kcell (d, none)) 0 \ ∅) (fun b => (sched m).payload (kcell (d, none)) 0 b)
      = iprop(barX (xn d) ∗ barY (yn d)) := by
    rw [Finset.sdiff_empty, duties_kcell]
    show bigSep (Finset.univ : Finset Bool) _ = _
    rw [bigSep_univ_eq_bigSepL [false, true] (by decide) (by decide), bigSepL_cons_cons, bigSepL_singleton, payload_kcell, payload_kcell]
    rfl
  iapply (Rounds.wp_wait_rest_token 𝒱₀ ER (sched m) (d : Thread nD τ) none (κ := K (d, none))
      (wpE_semWait_eq 𝒱₀ (d : Thread nD τ) none Set.univ) (Set.mem_univ _) () (O := owing l) (W := W) (R := 0) (m := 0) (T := ∅)
      (by rw [show ((d : Thread nD τ), SemLoc.reg barS) = kcell (d, none) from rfl, hexp]; decide)) $$ [Hc HO Ha]
  · isplitr; · iexact I3
    isplitl [Hc]; · iexact Hc
    isplitl [HO]; · iexact HO
    isplitr
    · iapply (mayWait_below d (.reg barS) l (fun p hp => hl p hp))
      iexact Hlev
    iexact Ha
  iintro ⟨HO, Ha, -, Hpay⟩
  imod (Rounds.cell_close ER (sched m) (Set.mem_univ (K (d, none))) (not_unitless m _) (R := 0 + 1) (duties_later m (kcell (d, none)))) $$ [Ha] with Hz
  · isplitr; · iexact I3
    iexact Ha
  ihave Hp := (Entails.of_eq (show bigSep ((sched m).duties ((d : Thread nD τ), .reg barS) 0 \ ∅) (fun b => (sched m).payload ((d : Thread nD τ), .reg barS) 0 b)
      = iprop(barX (xn d) ∗ barY (yn d)) from hrest)) $$ Hpay
  icases Hp with ⟨PX, PY⟩
  rw [wp_ret]
  imodintro
  iapply HQ
  isplitl [HO]; · iexists _; iexact HO
  isplitl [PX]; · iexact PX
  isplitl [PY]; · iexact PY
  iexact Hz

/-- Sending a row of numerators along x. -/
theorem runs_sendN (l : List (Dev nD × RK)) (Q : PUnit → sProp 𝕄) :
    iprop(records m K
        ∗ (ow d (owing ((xn d, some (3, j)) :: l)) ∗ has d (nloc j) fullShare (nRow m d (ownRow d j))
          ∗ tok (d, some (0, j)) false ∗ tok (xn d, some (3, j)) false ∗ any (xn d) (nrem j))
        ∗ ((ow d (owing l) ∗ due (d, some (0, j)) ∗ has d (nloc j) fullShare.right (nRow m d (ownRow d j))) -∗ Q ⟨⟩))
      ⊢ runs d (sendN (xn d) j) Q := by
  unfold sendN
  simp only [Prog.lift]
  iintro ⟨#HR, ⟨HO, Hn, T1, T2, Hr⟩, HQ⟩
  ihave H2 := (has_halves d (nloc j) (nRow m d (ownRow d j))) $$ Hn
  icases H2 with ⟨HL, HRr⟩
  iapply (runs_send_cell m K d (src := nloc j) (dst := nrem j) (xn d) 0 3 j fullShare.left (nRow m d (ownRow d j)) l rfl rfl
    (Idealize.SL.BI.Entails.refl _)
    (by unfold landing; dsimp only; rw [xn_xn, ownRow_xn])) $$ [HL Hr HO T1 T2]
  · isplitr; · iexact HR
    isplitl [HL]; · iexact HL
    isplitl [Hr]; · iexact Hr
    isplitl [HO]; · iexact HO
    isplitl [T1]; · iexact T1
    iexact T2
  iintro ⟨Hc, HO⟩
  unfold runs
  rw [wp_ret]
  imodintro
  iapply HQ
  isplitl [HO]; · iexact HO
  isplitl [Hc]; · iexact Hc
  iexact HRr

/-- Sending a row of denominators along x. -/
theorem runs_sendL (l : List (Dev nD × RK)) (Q : PUnit → sProp 𝕄) :
    iprop(records m K
        ∗ (ow d (owing ((xn d, some (4, j)) :: l)) ∗ has d (lloc j) fullShare (lRow m d (ownRow d j))
          ∗ tok (d, some (1, j)) false ∗ tok (xn d, some (4, j)) false ∗ any (xn d) (lrem j))
        ∗ ((ow d (owing l) ∗ due (d, some (1, j)) ∗ has d (lloc j) fullShare.right (lRow m d (ownRow d j))) -∗ Q ⟨⟩))
      ⊢ runs d (sendL (xn d) j) Q := by
  unfold sendL
  simp only [Prog.lift]
  iintro ⟨#HR, ⟨HO, Hn, T1, T2, Hr⟩, HQ⟩
  ihave H2 := (has_halves d (lloc j) (lRow m d (ownRow d j))) $$ Hn
  icases H2 with ⟨HL, HRr⟩
  iapply (runs_send_cell m K d (src := lloc j) (dst := lrem j) (xn d) 1 4 j fullShare.left (lRow m d (ownRow d j)) l rfl rfl
    (Idealize.SL.BI.Entails.refl _)
    (by unfold landing; dsimp only; rw [xn_xn, ownRow_xn])) $$ [HL Hr HO T1 T2]
  · isplitr; · iexact HR
    isplitl [HL]; · iexact HL
    isplitl [Hr]; · iexact Hr
    isplitl [HO]; · iexact HO
    isplitl [T1]; · iexact T1
    iexact T2
  iintro ⟨Hc, HO⟩
  unfold runs
  rw [wp_ret]
  imodintro
  iapply HQ
  isplitl [HO]; · iexact HO
  isplitl [Hc]; · iexact Hc
  iexact HRr

/-- Two reshapes of a row of numerators that undo each other. -/
theorem cast_rN (X : FVec F S8x2048 .bf16) (h₁ : S8x2048.ShapeCasts (rN j).shape) (h₂ : S1x8x2048.ShapeCasts S8x2048) :
    shapeCast S8x2048 (shapeCast (rN j).shape X h₁) h₂ = X := shapeCast_shapeCast X h₁ h₂
/-- Two reshapes of a row of denominators that undo each other. -/
theorem cast_rL (X : FVec F S8x16 .f32) (h₁ : S8x16.ShapeCasts (rL j).shape) (h₂ : S1x8x16.ShapeCasts S8x16) :
    shapeCast S8x16 (shapeCast (rL j).shape X h₁) h₂ = X := shapeCast_shapeCast X h₁ h₂

/-- The quotient as the body computes it, from what its loads give. -/
abbrev rawQuot : FVec F S8x2048 .f32 :=
  quot (shapeCast S8x2048 (shapeCast (rN j).shape (nRow m d (ownRow d j)) squeezes_S1x8x2048_S8x2048.numel_eq.symm) shapeCasts_S1x8x2048_S8x2048)
    (shapeCast S8x2048 (shapeCast (rN j).shape (nRow m (xn d) (ownRow d j)) squeezes_S1x8x2048_S8x2048.numel_eq.symm) shapeCasts_S1x8x2048_S8x2048)
    (shapeCast S8x16 (shapeCast (rL j).shape (lRow m d (ownRow d j)) squeezes_S1x8x16_S8x16.numel_eq.symm) shapeCasts_S1x8x16_S8x16)
    (shapeCast S8x16 (shapeCast (rL j).shape (lRow m (xn d) (ownRow d j)) squeezes_S1x8x16_S8x16.numel_eq.symm) shapeCasts_S1x8x16_S8x16)
/-- The quotient that the body computes is the finished row. -/
theorem rawQuot_eq : rawQuot m d j = oRow m d j := by
  unfold rawQuot; rw [cast_rN, cast_rN, cast_rL, cast_rL]; rfl

set_option maxHeartbeats 800000 in
/-- One row finished: both partial results have arrived, the quotient is stored, copied to the result and sent along y. -/
theorem runs_combine (l : List (Dev nD × RK)) (hl : ∀ p ∈ (yn d, some (5, j)) :: l, 2 + j.val < lvl p.2) (Q : PUnit → sProp 𝕄) :
    iprop(records m K ∗ levAts L lv
        ∗ (ow d (owing ((yn d, some (5, j)) :: l)) ∗ sent m d j ∗ awaiting d j ∗ passing d j)
        ∗ ((ow d (owing l) ∗ sent m d j ∗ divided m d j) -∗ Q ⟨⟩))
      ⊢ runs d (combine (yn d) (ownRow d j) j) Q := by
  unfold combine sent awaiting passing divided
  simp only [Prog.lift, Prog.bind_op, Prog.bind_ret]
  iintro ⟨#HR, #Hlev, ⟨HO, ⟨⟨D0, N0⟩, ⟨D1, N1⟩⟩, ⟨D3, P3, D4, P4⟩, ⟨Hs, Hg, Ho, Sv, T2, T5, Hr⟩⟩, HQ⟩
  iapply (runs_take_cell m K d 3 j (srcw := nloc j) (dstw := nrem j) (hsrc := exactN6 j) (hdst := exactN8 j)
    ((yn d, some (5, j)) :: l) (fun p hp => by simpa [lvl] using hl p hp) rfl) $$ [HO D3 P3]
  · isplitr; · iexact HR
    isplitr; · iexact Hlev
    isplitl [HO]; · iexact HO
    isplitl [D3]; · iexact D3
    iexact P3
  iintro ⟨N3, Z3, HO⟩
  iapply (runs_take_cell m K d 4 j (srcw := lloc j) (dstw := lrem j) (hsrc := exactL7 j) (hdst := exactL9 j)
    ((yn d, some (5, j)) :: l) (fun p hp => by simpa [lvl] using hl p hp) rfl) $$ [HO D4 P4]
  · isplitr; · iexact HR
    isplitr; · iexact Hlev
    isplitl [HO]; · iexact HO
    isplitl [D4]; · iexact D4
    iexact P4
  iintro ⟨N4, Z4, HO⟩
  ihave N3 := (show landing m d 3 j ⊢ has d (nrem j) fullShare (nRow m (xn d) (ownRow d j)) from .rfl) $$ N3
  ihave N4 := (show landing m d 4 j ⊢ has d (lrem j) fullShare (lRow m (xn d) (ownRow d j)) from .rfl) $$ N4
  iapply (runs_load d (Memref.whole cc0_scratch6) (rN j) (fun _ => rfl) squeezes_S1x8x2048_S8x2048 (M := nloc j) rfl fullShare.right (nRow m d (ownRow d j))) $$ N0
  iintro N0
  iapply (runs_load d (Memref.whole cc0_scratch8) (rN j) (fun _ => rfl) squeezes_S1x8x2048_S8x2048 (M := nrem j) rfl fullShare (nRow m (xn d) (ownRow d j))) $$ N3
  iintro N3
  iapply (runs_load d (Memref.whole cc0_scratch7) (rL j) (fun _ => rfl) squeezes_S1x8x16_S8x16 (M := lloc j) rfl fullShare.right (lRow m d (ownRow d j))) $$ N1
  iintro N1
  iapply (runs_load d (Memref.whole cc0_scratch9) (rL j) (fun _ => rfl) squeezes_S1x8x16_S8x16 (M := lrem j) rfl fullShare (lRow m (xn d) (ownRow d j))) $$ N4
  iintro N4
  ihave Hs := (any_elim d (osnd j)) $$ Hs
  icases Hs with ⟨%Xs, Hs⟩
  ihave Hg := (any_elim d (ostg (ownRow d j))) $$ Hg
  icases Hg with ⟨%Xg, Hg⟩
  iapply (runs_peek d (Memref.whole cc0_scratch10) (rN j) (fun _ => rfl) squeezes_S1x8x2048_S8x2048 (M := osnd j) rfl (Finset.Subset.refl _) fullShare Xs) $$ Hs
  iintro %_V Hs
  iapply (runs_fill d (Memref.whole cc0_scratch10) (rN j) (fun _ => rfl) squeezes_S1x8x2048_S8x2048 (M := osnd j) rfl (X' := truncf .bf16 (rawQuot m d j) bitsLt_bf16_f32) Xs) $$ Hs
  iintro Hs
  ihave Hs := (Entails.of_eq (show has d (osnd j) fullShare (truncf .bf16 (rawQuot m d j) bitsLt_bf16_f32) = has d (osnd j) fullShare (oSent m d j) from by
    rw [rawQuot_eq]; rfl)) $$ Hs
  iapply (runs_peek d (Memref.whole cc0_scratch12) (rO (ownRow d j)) (fun _ => rfl) squeezes_S1x8x16x128_S8x16x128 (M := ostg (ownRow d j)) rfl (Finset.Subset.refl _) fullShare Xg) $$ Hg
  iintro %_V' Hg
  iapply (runs_fill d (Memref.whole cc0_scratch12) (rO (ownRow d j)) (fun _ => rfl) squeezes_S1x8x16x128_S8x16x128 (M := ostg (ownRow d j)) rfl
    (X' := shapeCast S8x16x128 (rawQuot m d j) shapeCasts_S8x2048_S8x16x128) Xg) $$ Hg
  iintro Hg
  ihave Hg := (Entails.of_eq (show has d (ostg (ownRow d j)) fullShare (shapeCast S8x16x128 (rawQuot m d j) shapeCasts_S8x2048_S8x16x128)
      = has d (ostg (ownRow d j)) fullShare (outOwn m d j) from by rw [rawQuot_eq]; rfl)) $$ Hg
  iapply (runs_copy d (by decide) fullShare (outOwn m d j)) $$ [Hg Ho Sv]
  · isplitl [Hg]; · iexact Hg
    isplitl [Ho]; · iexact Ho
    iexact Sv
  iintro HF
  iapply (runs_send_cell m K d (src := osnd j) (dst := orcv j) (yn d) 2 5 j fullShare (oSent m d j) l rfl rfl
    (Idealize.SL.BI.Entails.refl _)
    (by unfold landing; dsimp only; rw [yn_yn])) $$ [Hs Hr HO T2 T5]
  · isplitr; · iexact HR
    isplitl [Hs]; · iexact Hs
    isplitl [Hr]; · iexact Hr
    isplitl [HO]; · iexact HO
    isplitl [T2]; · iexact T2
    iexact T5
  iintro ⟨D2, HO⟩
  unfold runs
  rw [wp_ret]
  imodintro
  iapply HQ
  isplitl [HO]; · iexact HO
  isplitl [D0 N0 D1 N1]
  · isplitl [D0 N0]
    · isplitl [D0]; · iexact D0
      iexact N0
    · isplitl [D1]; · iexact D1
      iexact N1
  isplitl [N3]; · iapply (any_intro d _ _) $$ N3
  isplitl [N4]; · iapply (any_intro d _ _) $$ N4
  isplitl [Z3]; · iexact Z3
  isplitl [Z4]; · iexact Z4
  isplitl [HF]; · iexact HF
  iexact D2

/-- One row of the other half: it arrives, is stored and is copied to the result. -/
theorem runs_gather (Q : PUnit → sProp 𝕄) :
    iprop((records m K ∗ levAts L lv ∗ ow d 0) ∗ taking d j
        ∗ ((records m K ∗ levAts L lv ∗ ow d 0) ∗ taken m d j -∗ Q ⟨⟩))
      ⊢ runs d (gather (otherRow d j) j) Q := by
  unfold gather taking taken
  simp only [Prog.lift, Prog.bind_op, Prog.bind_ret]
  iintro ⟨⟨#HR, #Hlev, HO⟩, ⟨D5, P5, Hg, Ho, Sv⟩, HQ⟩
  iapply (runs_take_cell m K d 5 j (srcw := osnd j) (dstw := orcv j) (hsrc := exactN10 j) (hdst := exactN11 j)
    [] (fun p hp => absurd hp List.not_mem_nil) rfl) $$ [HO D5 P5]
  · isplitr; · iexact HR
    isplitr; · iexact Hlev
    isplitl [HO]; · iexact HO
    isplitl [D5]; · iexact D5
    iexact P5
  iintro ⟨N5, Z5, HO⟩
  ihave N5 := (show landing m d 5 j ⊢ has d (orcv j) fullShare (oSent m (yn d) j) from .rfl) $$ N5
  iapply (runs_load d (Memref.whole cc0_scratch11) (rN j) (fun _ => rfl) squeezes_S1x8x2048_S8x2048 (M := orcv j) rfl fullShare (oSent m (yn d) j)) $$ N5
  iintro N5
  ihave Hg := (any_elim d (ostg (otherRow d j))) $$ Hg
  icases Hg with ⟨%Xg, Hg⟩
  iapply (runs_peek d (Memref.whole cc0_scratch12) (rO (otherRow d j)) (fun _ => rfl) squeezes_S1x8x16x128_S8x16x128 (M := ostg (otherRow d j)) rfl (Finset.Subset.refl _) fullShare Xg) $$ Hg
  iintro %_V' Hg
  rw [cast_rN]
  iapply (runs_fill d (Memref.whole cc0_scratch12) (rO (otherRow d j)) (fun _ => rfl) squeezes_S1x8x16x128_S8x16x128 (M := ostg (otherRow d j)) rfl (X' := outOther m d j) Xg) $$ Hg
  iintro Hg
  iapply (runs_copy d (by decide) fullShare (outOther m d j)) $$ [Hg Ho Sv]
  · isplitl [Hg]; · iexact Hg
    isplitl [Ho]; · iexact Ho
    iexact Sv
  iintro HF
  unfold runs
  rw [wp_ret]
  imodintro
  iapply HQ
  isplitl [HO]
  · isplitr; · iexact HR
    isplitr; · iexact Hlev
    iexact HO
  isplitl [N5]; · iapply (any_intro d _ _) $$ N5
  isplitl [Z5]; · iexact Z5
  iexact HF

/-- Waiting for the two copies to the result. -/
theorem runs_settleOut (Q : PUnit → sProp 𝕄) :
    iprop(ow d 0
        ∗ (flying d (ostg (ownRow d j)) (outB (ownRow d j)) (outS 0 j) fullShare (outOwn m d j)
          ∗ flying d (ostg (otherRow d j)) (outB (otherRow d j)) (outS 1 j) fullShare (outOther m d j))
        ∗ (ow d 0 ∗ settled m d j -∗ Q ⟨⟩))
      ⊢ runs d (settleOut (ownRow d j) (otherRow d j) j) Q := by
  unfold settleOut settled
  simp only [Prog.lift, Prog.bind_op, Prog.bind_ret]
  iintro ⟨HO, ⟨F0, F1⟩, HQ⟩
  iapply (runs_landed d (src := ostg (ownRow d j)) (dst := outB (ownRow d j)) (srcw := ostg (ownRow d j)) (dstw := outB (ownRow d j)) (sm := outS 0 j)
    (hsrc := (View.wordExact_bits rfl).reshape _ _) (hdst := (View.wordExact_bits rfl).reshape _ _) fullShare (outOwn m d j) 0 rfl) $$ [F0 HO]
  · isplitl [F0]; · iexact F0
    isplitl [HO]; · iexact HO
    rw [MayWait_zero]; iempintro
  iintro ⟨B0, G0, S0, HO⟩
  iapply (runs_landed d (src := ostg (otherRow d j)) (dst := outB (otherRow d j)) (srcw := ostg (otherRow d j)) (dstw := outB (otherRow d j)) (sm := outS 1 j)
    (hsrc := (View.wordExact_bits rfl).reshape _ _) (hdst := (View.wordExact_bits rfl).reshape _ _) fullShare (outOther m d j) 0 rfl) $$ [F1 HO]
  · isplitl [F1]; · iexact F1
    isplitl [HO]; · iexact HO
    rw [MayWait_zero]; iempintro
  iintro ⟨B1, G1, S1, HO⟩
  unfold runs
  rw [wp_ret]
  imodintro
  iapply HQ
  isplitl [HO]; · iexact HO
  isplitl [B0 G0 S0]
  · isplitl [B0]; · iexact B0
    isplitl [G0]; · iapply (any_intro d _ _) $$ G0
    iexact S0
  · isplitl [B1]; · iexact B1
    isplitl [G1]; · iapply (any_intro d _ _) $$ G1
    iexact S1

/-- Waiting until the three transfers of a row have left. -/
theorem runs_settleSend (Q : PUnit → sProp 𝕄) :
    iprop((records m K ∗ levAts L lv ∗ ow d 0) ∗ (sent m d j ∗ due (d, some (2, j)) ∗ leaving d j)
        ∗ ((records m K ∗ levAts L lv ∗ ow d 0) ∗ left' d j -∗ Q ⟨⟩))
      ⊢ runs d (settleSend j) Q := by
  unfold settleSend sent leaving left'
  simp only [Prog.lift, Prog.bind_op, Prog.bind_ret]
  iintro ⟨⟨#HR, #Hlev, HO⟩, ⟨⟨⟨D0, N0⟩, ⟨D1, N1⟩⟩, D2, P0, P1, P2⟩, HQ⟩
  iapply (runs_take_cell m K d 0 j (srcw := nrem j) (dstw := nloc j) (hsrc := exactN8 j) (hdst := exactN6 j)
    [] (fun p hp => absurd hp List.not_mem_nil) rfl) $$ [HO D0 P0]
  · isplitr; · iexact HR
    isplitr; · iexact Hlev
    isplitl [HO]; · iexact HO
    isplitl [D0]; · iexact D0
    iexact P0
  iintro ⟨M0, Z0, HO⟩
  iapply (runs_take_cell m K d 1 j (srcw := lrem j) (dstw := lloc j) (hsrc := exactL9 j) (hdst := exactL7 j)
    [] (fun p hp => absurd hp List.not_mem_nil) rfl) $$ [HO D1 P1]
  · isplitr; · iexact HR
    isplitr; · iexact Hlev
    isplitl [HO]; · iexact HO
    isplitl [D1]; · iexact D1
    iexact P1
  iintro ⟨M1, Z1, HO⟩
  iapply (runs_take_cell m K d 2 j (srcw := orcv j) (dstw := osnd j) (hsrc := exactN11 j) (hdst := exactN10 j)
    [] (fun p hp => absurd hp List.not_mem_nil) rfl) $$ [HO D2 P2]
  · isplitr; · iexact HR
    isplitr; · iexact Hlev
    isplitl [HO]; · iexact HO
    isplitl [D2]; · iexact D2
    iexact P2
  iintro ⟨M2, Z2, HO⟩
  ihave M0 := (show landing m d 0 j ⊢ has d (nloc j) fullShare.left (nRow m d (ownRow d j)) from .rfl) $$ M0
  ihave M1 := (show landing m d 1 j ⊢ has d (lloc j) fullShare.left (lRow m d (ownRow d j)) from .rfl) $$ M1
  ihave M2 := (show landing m d 2 j ⊢ has d (osnd j) fullShare (oSent m d j) from .rfl) $$ M2
  unfold runs
  rw [wp_ret]
  imodintro
  iapply HQ
  isplitl [HO]
  · isplitr; · iexact HR
    isplitr; · iexact Hlev
    iexact HO
  isplitl [M0 N0 Z0]
  · isplitl [M0 N0]
    · iapply (any_of_halves d (nloc j) (nRow m d (ownRow d j)))
      isplitl [M0]; · iexact M0
      iexact N0
    iexact Z0
  isplitl [M1 N1 Z1]
  · isplitl [M1 N1]
    · iapply (any_of_halves d (lloc j) (lRow m d (ownRow d j)))
      isplitl [M1]; · iexact M1
      iexact N1
    iexact Z1
  isplitl [M2]; · iapply (any_intro d _ _) $$ M2
  iexact Z2

end Run

end FlashDecode

end

end
-- ==== Proof.Steps.lean ====
/-
The four steps of the kernel: what each one runs, what the device holds between them, and that each
step turns what is held before it into what is held after it.
-/
module

public import proofs.«01_k».proof.Proof.Rows
public import proofs.«01_k».proof.Proof.Gen.KernelIdeal.Launch
public import proofs.«01_k».proof.Proof.Gen.KernelIdeal.Frame

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## What each step runs -/

/-- One row's heads, then the transfers of its partial results, then `k`. -/
def rowThen (d : Dev nD) (p : Fin 2) (t : Fin 4) (k : Act F) : Act F := do
  forFin 16 (headStep p (ownRow d t) t)
  sendN (xn d) t
  sendL (xn d) t
  k

/-- What the body runs at point 0. -/
def step0 (d : Dev nD) : Act F := do
  forFin 16 (issueHead 0 (ownRow d 0))
  forFin 16 (issueHead 1 (ownRow d 1))
  meet (xn d) (yn d)
  rowThen d 0 0 (pure ⟨⟩)
/-- What the body runs at point 1. -/
def step1 (d : Dev nD) : Act F := do
  forFin 16 (issueHead 0 (ownRow d 2))
  rowThen d 1 1 (do
    combine (yn d) (ownRow d 0) 0
    pure ⟨⟩)
/-- What the body runs at point 2. -/
def step2 (d : Dev nD) : Act F := do
  forFin 16 (issueHead 1 (ownRow d 3))
  rowThen d 0 2 (do
    combine (yn d) (ownRow d 1) 1
    pure ⟨⟩)
/-- What the body runs at point 3. -/
def step3 (d : Dev nD) : Act F :=
  rowThen d 1 3 (do
    combine (yn d) (ownRow d 2) 2
    combine (yn d) (ownRow d 3) 3
    finish d)

/-- The target of the body's remote access number 1 is the neighbour along x. -/
theorem dev1_eq (d : Dev nD) (h) : (⟨k0_dev1 d, h⟩ : Dev nD) = xn d := Fin.ext (dev1_val d)
/-- The target of the body's remote access number 2 is the neighbour along y. -/
theorem dev2_eq (d : Dev nD) (h) : (⟨k0_dev2 d, h⟩ : Dev nD) = yn d := Fin.ext (dev2_val d)
/-- The target of the body's remote access number 3 is the neighbour along x. -/
theorem dev3_eq (d : Dev nD) (h) : (⟨k0_dev3 d, h⟩ : Dev nD) = xn d := Fin.ext (dev3_val d)
/-- The target of the body's remote access number 4 is the neighbour along x. -/
theorem dev4_eq (d : Dev nD) (h) : (⟨k0_dev4 d, h⟩ : Dev nD) = xn d := Fin.ext (dev4_val d)
/-- The target of the body's remote access number 5 is the neighbour along y. -/
theorem dev5_eq (d : Dev nD) (h) : (⟨k0_dev5 d, h⟩ : Dev nD) = yn d := Fin.ext (dev5_val d)
/-- The target of the body's remote access number 6 is the neighbour along y. -/
theorem dev6_eq (d : Dev nD) (h) : (⟨k0_dev6 d, h⟩ : Dev nD) = yn d := Fin.ext (dev6_val d)
/-- The target of the body's remote access number 7 is the neighbour along y. -/
theorem dev7_eq (d : Dev nD) (h) : (⟨k0_dev7 d, h⟩ : Dev nD) = yn d := Fin.ext (dev7_val d)
/-- The target of the body's remote access number 8 is the neighbour along y. -/
theorem dev8_eq (d : Dev nD) (h) : (⟨k0_dev8 d, h⟩ : Dev nD) = yn d := Fin.ext (dev8_val d)

/-- The number of each point. -/
theorem stepOf_at : stepOf (grid0.coords t0_0) = 0 ∧ stepOf (grid0.coords t0_1) = 1 ∧ stepOf (grid0.coords t0_2) = 2 ∧ stepOf (grid0.coords t0_3) = 3 := by
  decide +kernel
/-- The buffer half of each point. -/
theorem parOf_at : parOf (grid0.coords t0_0) = 0 ∧ parOf (grid0.coords t0_1) = 1 ∧ parOf (grid0.coords t0_2) = 0 ∧ parOf (grid0.coords t0_3) = 1 := by
  decide +kernel
/-- The buffer half of each next point. -/
theorem parNext_at : parNext (grid0.coords t0_0) = 1 ∧ parNext (grid0.coords t0_1) = 0 ∧ parNext (grid0.coords t0_2) = 1 := by
  decide +kernel
/-- The batch row of each next point. -/
theorem rowNext_at (d : Dev nD) : (∀ h, rowNext (grid0.coords t0_0) d h = ownRow d 1) ∧ (∀ h, rowNext (grid0.coords t0_1) d h = ownRow d 2)
    ∧ (∀ h, rowNext (grid0.coords t0_2) d h = ownRow d 3) := by
  revert d; decide +kernel

/-- The body at point 0 is that step. -/
theorem tidy_0 : (tidy (grid0.coords t0_0) : Act F) = Prog.lift .deviceId >>= step0 := by
  unfold tidy
  refine congrArg _ (funext fun d => ?_)
  unfold open1 open2 open3 close4 close5 close6 close7 step0 rowThen
  rw [dif_pos (by decide +kernel), dif_pos (by decide +kernel), dif_pos (by decide +kernel), dif_neg (by decide +kernel),
    dif_neg (by decide +kernel), dif_neg (by decide +kernel), dif_neg (by decide +kernel),
    rowOf_eq, stepOf_at.1, parOf_at.1, parNext_at.1, (rowNext_at d).1, dev1_eq, dev2_eq, dev3_eq, dev4_eq]
  rfl
/-- The body at point 1 is that step. -/
theorem tidy_1 : (tidy (grid0.coords t0_1) : Act F) = Prog.lift .deviceId >>= step1 := by
  unfold tidy
  refine congrArg _ (funext fun d => ?_)
  unfold open1 open2 open3 close4 close5 close6 close7 step1 rowThen
  rw [dif_neg (by decide +kernel), dif_pos (by decide +kernel), dif_neg (by decide +kernel), dif_pos (by decide +kernel),
    dif_neg (by decide +kernel), dif_neg (by decide +kernel), dif_neg (by decide +kernel),
    rowOf_eq, stepOf_at.2.1, parOf_at.2.1, parNext_at.2.1, (rowNext_at d).2.1, dev3_eq, dev4_eq, dev5_eq]
  rfl
/-- The body at point 2 is that step. -/
theorem tidy_2 : (tidy (grid0.coords t0_2) : Act F) = Prog.lift .deviceId >>= step2 := by
  unfold tidy
  refine congrArg _ (funext fun d => ?_)
  unfold open1 open2 open3 close4 close5 close6 close7 step2 rowThen
  rw [dif_neg (by decide +kernel), dif_pos (by decide +kernel), dif_neg (by decide +kernel), dif_neg (by decide +kernel),
    dif_pos (by decide +kernel), dif_neg (by decide +kernel), dif_neg (by decide +kernel),
    rowOf_eq, stepOf_at.2.2.1, parOf_at.2.2.1, parNext_at.2.2, (rowNext_at d).2.2, dev3_eq, dev4_eq, dev6_eq]
  rfl
/-- The body at point 3 is that step. -/
theorem tidy_3 : (tidy (grid0.coords t0_3) : Act F) = Prog.lift .deviceId >>= step3 := by
  unfold tidy
  refine congrArg _ (funext fun d => ?_)
  unfold open1 open2 open3 close4 close5 close6 close7 step3 rowThen
  rw [dif_neg (by decide +kernel), dif_neg (by decide +kernel), dif_neg (by decide +kernel), dif_neg (by decide +kernel),
    dif_neg (by decide +kernel), dif_pos (by decide +kernel), dif_pos (by decide +kernel),
    rowOf_eq, stepOf_at.2.2.2, parOf_at.2.2.2, dev3_eq, dev4_eq, dev7_eq, dev8_eq]
  rfl

end FlashDecode

end

end
-- ==== Proof.Phases.lean ====
/-
What a device holds between the steps of the kernel, and that each step turns what is held before it
into what is held after it.
-/
module

public import proofs.«01_k».proof.Proof.Steps

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

omit [FloatOps F] in
/-- A separating conjunction over four, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

section Held

variable (m : (ℓ : Loc nD τ sig) → Buf (Elt F) ℓ) (d : Dev nD)

/-! ## What is held -/

/-- The staging slots of one parity, idle. -/
def idles (p : Fin 2) : sProp 𝕄 := bigSep Finset.univ fun h : Fin 16 => idle d p h
/-- The blocks of one row of the device's half of the arguments. -/
def source (j : Fin 4) : sProp 𝕄 := bigSep Finset.univ fun h : Fin 16 => srcs m d (ownRow d j) h
/-- The blocks of one row of the other half. -/
def source' (j : Fin 4) : sProp 𝕄 := bigSep Finset.univ fun h : Fin 16 => srcs m d (otherRow d j) h
/-- The copies of one row in flight. -/
def arriving (j : Fin 4) (p : Fin 2) : sProp 𝕄 := bigSep Finset.univ fun h : Fin 16 => coming m d (ownRow d j) p h

/-- A row whose partial results are not yet computed, where they go not yet known. -/
def rowStart (j : Fin 4) : sProp 𝕄 :=
  iprop(any d (nloc j) ∗ any d (lloc j)
    ∗ (tok (d, some (0, j)) false ∗ tok (xn d, some (3, j)) false ∗ tok (d, some (1, j)) false ∗ tok (xn d, some (4, j)) false)
    ∗ awaiting d j
    ∗ (any d (osnd j) ∗ any d (ostg (ownRow d j)) ∗ any d (outB (ownRow d j)) ∗ semVal ((d : Thread nD τ), .dma (outS 0 j)) 0
      ∗ tok (d, some (2, j)) false ∗ tok (yn d, some (5, j)) false)
    ∗ taking d j ∗ leaving d j)
/-- A row whose partial results are not yet computed. -/
def rowNew (j : Fin 4) : sProp 𝕄 :=
  iprop((any d (nloc j) ∗ any d (lloc j) ∗ sendable d j) ∗ awaiting d j ∗ passing d j ∗ taking d j ∗ leaving d j)
/-- A row whose partial results are on their way. -/
def rowSent (j : Fin 4) : sProp 𝕄 := iprop(sent m d j ∗ awaiting d j ∗ passing d j ∗ taking d j ∗ leaving d j)
/-- A row divided and on its way to the result. -/
def rowDone (j : Fin 4) : sProp 𝕄 := iprop(sent m d j ∗ divided m d j ∗ taking d j ∗ leaving d j)
/-- A row in the result, and the other half's row with it. -/
def rowEnd (j : Fin 4) : sProp 𝕄 :=
  iprop((any d (nrem j) ∗ any d (lrem j) ∗ zero (d, some (3, j)) ∗ zero (d, some (4, j)))
    ∗ (any d (orcv j) ∗ zero (d, some (5, j))) ∗ settled m d j ∗ left' d j)

omit [FloatOps F] in
/-- A row whose partial results are not yet computed, once it is known where they go. -/
theorem rowNew_intro (j : Fin 4) :
    (iprop(rowStart d j ∗ (any (xn d) (nrem j) ∗ any (xn d) (lrem j)) ∗ any (yn d) (orcv j)) : sProp 𝕄) ⊢ rowNew d j := by
  unfold rowStart rowNew sendable passing
  iintro ⟨⟨Hn, Hl, ⟨T0, T3, T1, T4⟩, Hw, ⟨Hs, Hg, Ho, Sv, T2, T5⟩, Ht, Hv⟩, ⟨Rn, Rl⟩, Ro⟩
  isplitl [Hn Hl T0 T3 T1 T4 Rn Rl]
  · isplitl [Hn]; · iexact Hn
    isplitl [Hl]; · iexact Hl
    isplitl [T0]; · iexact T0
    isplitl [T3]; · iexact T3
    isplitl [Rn]; · iexact Rn
    isplitl [T1]; · iexact T1
    isplitl [T4]; · iexact T4
    iexact Rl
  isplitl [Hw]; · iexact Hw
  isplitl [Hs Hg Ho Sv T2 T5 Ro]
  · isplitl [Hs]; · iexact Hs
    isplitl [Hg]; · iexact Hg
    isplitl [Ho]; · iexact Ho
    isplitl [Sv]; · iexact Sv
    isplitl [T2]; · iexact T2
    isplitl [T5]; · iexact T5
    iexact Ro
  isplitl [Ht] <;> iassumption

end Held

/-! ## Rows -/

section Run

variable (m : (ℓ : Loc nD τ sig) → Buf (Elt F) ℓ) (K : Dev nD × RK → ℕ) (d : Dev nD)

/-- The empty program. -/
theorem runs_done (Q : PUnit → sProp 𝕄) : Q ⟨⟩ ⊢ runs d (pure ⟨⟩ : Act F) Q := by
  rw [Prog.pure_eq_ret]
  unfold runs
  rw [wp_ret]
  iintro H
  imodintro
  iexact H

/-- Starting all copies of one row. -/
theorem runs_issueRow (p : Fin 2) (j : Fin 4) (Q : PUnit → sProp 𝕄) :
    iprop(source m d j ∗ idles d p ∗ (arriving m d j p -∗ Q ⟨⟩)) ⊢ runs d (forFin 16 (issueHead p (ownRow d j))) Q := by
  unfold source idles arriving
  iintro ⟨Hs, Hi, HQ⟩
  iapply (runs_forFin d 16 (issueHead p (ownRow d j)) (fun _ => iprop(emp))
    (fun h => iprop(srcs m d (ownRow d j) h ∗ idle d p h)) (fun h => coming m d (ownRow d j) p h)
    (fun h Q => runs_issueHead m d p (ownRow d j) h Q))
  isplitr; · iempintro
  isplitl [Hs Hi]
  · iapply (Entails.of_eq (bigSep_sep' Finset.univ (fun h : Fin 16 => srcs m d (ownRow d j) h) (fun h => idle d p h)).symm)
    isplitl [Hs] <;> iassumption
  iintro ⟨-, H⟩
  iapply HQ
  iexact H

/-- All heads of one row. -/
theorem runs_headRow (p : Fin 2) (t : Fin 4) (l : List (Dev nD × RK)) (hl : ∀ p ∈ l, 0 < lvl p.2) (Q : PUnit → sProp 𝕄) :
    iprop(levAts L lv ∗ (ow d (owing l) ∗ any d (nloc t) ∗ any d (lloc t) ∗ arriving m d t p)
        ∗ ((ow d (owing l) ∗ has d (nloc t) fullShare (nRow m d (ownRow d t)) ∗ has d (lloc t) fullShare (lRow m d (ownRow d t))
          ∗ source m d t ∗ idles d p) -∗ Q ⟨⟩))
      ⊢ runs d (forFin 16 (headStep p (ownRow d t) t)) Q := by
  unfold source idles arriving
  iintro ⟨#Hlev, ⟨HO, Hn, Hl, Hc⟩, HQ⟩
  iapply (runs_forFin d 16 (headStep p (ownRow d t) t) (fun k => running m d (ownRow d t) t (owing l) k)
    (fun h => coming m d (ownRow d t) p h) (fun h => iprop(srcs m d (ownRow d t) h ∗ idle d p h))
    (fun h Q => runs_headStep m d p (ownRow d t) t l hl h Q))
  unfold running
  isplitl [HO Hn Hl]
  · ihave Hn := (any_elim d (nloc t)) $$ Hn
    ihave Hl := (any_elim d (lloc t)) $$ Hl
    icases Hn with ⟨%Xn, Hn⟩
    icases Hl with ⟨%Xl, Hl⟩
    isplitr; · iexact Hlev
    isplitl [HO]; · iexact HO
    isplitl [Hl]
    · iexists Xl
      isplitr; · ipureintro; exact lDone_zero m d _ Xl
      iexact Hl
    · iexists Xn
      isplitr; · ipureintro; exact nDone_zero m d _ Xn
      iexact Hn
  isplitl [Hc]; · iexact Hc
  iintro ⟨⟨-, HO, ⟨%Xl, %hl', Hl⟩, ⟨%Xn, %hn', Hn⟩⟩, HR⟩
  obtain rfl := lDone_all m d _ hl'
  obtain rfl := nDone_all m d _ hn'
  ihave HR := (Entails.of_eq (bigSep_sep' Finset.univ (fun h : Fin 16 => srcs m d (ownRow d t) h) (fun h => idle d p h))) $$ HR
  icases HR with ⟨Hs, Hi⟩
  iapply HQ
  isplitl [HO]; · iexact HO
  isplitl [Hn]; · iexact Hn
  isplitl [Hl]; · iexact Hl
  isplitl [Hs] <;> iassumption

/-- One row computed and sent along x, before what follows. -/
theorem runs_rowThen (p : Fin 2) (t : Fin 4) (k : Act F) (l : List (Dev nD × RK))
    (hl : ∀ p ∈ (xn d, some (3, t)) :: (xn d, some (4, t)) :: l, 0 < lvl p.2) (Q : PUnit → sProp 𝕄) :
    iprop((records m K ∗ levAts L lv)
        ∗ (ow d (owing ((xn d, some (3, t)) :: (xn d, some (4, t)) :: l)) ∗ arriving m d t p ∗ any d (nloc t) ∗ any d (lloc t) ∗ sendable d t)
        ∗ ((ow d (owing l) ∗ source m d t ∗ idles d p ∗ sent m d t) -∗ runs d k Q))
      ⊢ runs d (rowThen d p t k) Q := by
  unfold rowThen sendable sent
  simp only [wp_bind]
  iintro ⟨⟨#HR, #Hlev⟩, ⟨HO, Hc, Hn, Hl, ⟨T0, T3, Rn, T1, T4, Rl⟩⟩, HQ⟩
  iapply (runs_headRow m d p t _ hl)
  isplitr; · iexact Hlev
  isplitl [HO Hc Hn Hl]
  · isplitl [HO]; · iexact HO
    isplitl [Hn]; · iexact Hn
    isplitl [Hl] <;> iassumption
  iintro ⟨HO, Hn, Hl, Hs, Hi⟩
  iapply (runs_sendN m K d t ((xn d, some (4, t)) :: l))
  isplitr; · iexact HR
  isplitl [HO Hn T0 T3 Rn]
  · isplitl [HO]; · iexact HO
    isplitl [Hn]; · iexact Hn
    isplitl [T0]; · iexact T0
    isplitl [T3] <;> iassumption
  iintro ⟨HO, D0, Hn⟩
  iapply (runs_sendL m K d t l)
  isplitr; · iexact HR
  isplitl [HO Hl T1 T4 Rl]
  · isplitl [HO]; · iexact HO
    isplitl [Hl]; · iexact Hl
    isplitl [T1]; · iexact T1
    isplitl [T4] <;> iassumption
  iintro ⟨HO, D1, Hl⟩
  iapply HQ
  isplitl [HO]; · iexact HO
  isplitl [Hs]; · iexact Hs
  isplitl [Hi]; · iexact Hi
  isplitl [D0 Hn]
  · isplitl [D0] <;> iassumption
  · isplitl [D1] <;> iassumption

/-! ## Steps -/

omit [FloatOps F] in
/-- The landing places the two neighbours give, dealt to the rows. -/
theorem rows_new :
    (iprop((rowStart d 0 ∗ rowStart d 1 ∗ rowStart d 2 ∗ rowStart d 3) ∗ barX (xn d) ∗ barY (yn d)) : sProp 𝕄)
      ⊢ iprop(rowNew d 0 ∗ rowNew d 1 ∗ rowNew d 2 ∗ rowNew d 3) := by
  unfold barX barY
  iintro ⟨⟨R0, R1, R2, R3⟩, HX, HY⟩
  ihave HX := (Entails.of_eq (bigSep_four _)) $$ HX
  ihave HY := (Entails.of_eq (bigSep_four _)) $$ HY
  icases HX with ⟨X0, X1, X2, X3⟩
  icases HY with ⟨Y0, Y1, Y2, Y3⟩
  isplitl [R0 X0 Y0]
  · iapply (rowNew_intro d 0)
    isplitl [R0]; · iexact R0
    isplitl [X0] <;> iassumption
  isplitl [R1 X1 Y1]
  · iapply (rowNew_intro d 1)
    isplitl [R1]; · iexact R1
    isplitl [X1] <;> iassumption
  isplitl [R2 X2 Y2]
  · iapply (rowNew_intro d 2)
    isplitl [R2]; · iexact R2
    isplitl [X2] <;> iassumption
  · iapply (rowNew_intro d 3)
    isplitl [R3]; · iexact R3
    isplitl [X3] <;> iassumption

/-- A row's computation and the start of its transfers. -/
theorem runs_newRow (p : Fin 2) (t : Fin 4) (k : Act F) (l : List (Dev nD × RK))
    (hl : ∀ p ∈ (xn d, some (3, t)) :: (xn d, some (4, t)) :: l, 0 < lvl p.2) (Q : PUnit → sProp 𝕄) :
    iprop((records m K ∗ levAts L lv)
        ∗ (ow d (owing ((xn d, some (3, t)) :: (xn d, some (4, t)) :: l)) ∗ arriving m d t p ∗ rowNew d t)
        ∗ ((ow d (owing l) ∗ source m d t ∗ idles d p ∗ rowSent m d t) -∗ runs d k Q))
      ⊢ runs d (rowThen d p t k) Q := by
  unfold rowNew rowSent
  iintro ⟨HR, ⟨HO, Hc, ⟨Hn, Hl, Hs⟩, Hrest⟩, HQ⟩
  iapply (runs_rowThen m K d p t k l hl)
  isplitl [HR]; · iexact HR
  isplitl [HO Hc Hn Hl Hs]
  · isplitl [HO]; · iexact HO
    isplitl [Hc]; · iexact Hc
    isplitl [Hn]; · iexact Hn
    isplitl [Hl] <;> iassumption
  iintro ⟨HO, Ha, Hi, Hs⟩
  iapply HQ
  isplitl [HO]; · iexact HO
  isplitl [Ha]; · iexact Ha
  isplitl [Hi]; · iexact Hi
  isplitl [Hs] <;> iassumption

/-- Finishing a row. -/
theorem runs_endRow (j : Fin 4) (l : List (Dev nD × RK)) (hl : ∀ p ∈ (yn d, some (5, j)) :: l, 2 + j.val < lvl p.2) (Q : PUnit → sProp 𝕄) :
    iprop((records m K ∗ levAts L lv) ∗ (ow d (owing ((yn d, some (5, j)) :: l)) ∗ rowSent m d j)
        ∗ ((ow d (owing l) ∗ rowDone m d j) -∗ Q ⟨⟩))
      ⊢ runs d (combine (yn d) (ownRow d j) j) Q := by
  unfold rowSent rowDone
  iintro ⟨⟨HR, Hlev⟩, ⟨HO, Hs, Hw, Hp, Hrest⟩, HQ⟩
  iapply (runs_combine m K d j l hl)
  isplitl [HR]; · iexact HR
  isplitl [Hlev]; · iexact Hlev
  isplitl [HO Hs Hw Hp]
  · isplitl [HO]; · iexact HO
    isplitl [Hs]; · iexact Hs
    isplitl [Hw] <;> iassumption
  iintro ⟨HO, Hs, Hd⟩
  iapply HQ
  isplitl [HO]; · iexact HO
  isplitl [Hs]; · iexact Hs
  isplitl [Hd] <;> iassumption

/-- The first point. -/
theorem runs_step0 (Q : PUnit → sProp 𝕄) :
    iprop((records m K ∗ levAts L lv)
        ∗ (ow d (left d 0) ∗ (source m d 0 ∗ source m d 1) ∗ (idles d 0 ∗ idles d 1) ∗ (rowStart d 0 ∗ rowStart d 1 ∗ rowStart d 2 ∗ rowStart d 3)
          ∗ (tok (xn d, none) false ∗ tok (yn d, none) true ∗ barX d ∗ barY d ∗ cred (tallyAt (kcell (d, none)) () 2) ∗ pos (d, none)))
        ∗ ((ow d (left d 4) ∗ source m d 0 ∗ arriving m d 1 1 ∗ idles d 0 ∗ (rowSent m d 0 ∗ rowNew d 1 ∗ rowNew d 2 ∗ rowNew d 3)
          ∗ zero (d, none)) -∗ Q ⟨⟩))
      ⊢ runs d (step0 d) Q := by
  unfold step0
  simp only [wp_bind]
  iintro ⟨⟨#HR, #Hlev⟩, ⟨HO, ⟨S0, S1⟩, ⟨I0, I1⟩, Hrows, T1, T2, BX, BY, Hc, Ha⟩, HQ⟩
  iapply (runs_issueRow m d 0 0)
  isplitl [S0]; · iexact S0
  isplitl [I0]; · iexact I0
  iintro A0
  iapply (runs_issueRow m d 1 1)
  isplitl [S1]; · iexact S1
  isplitl [I1]; · iexact I1
  iintro A1
  iapply (runs_meet m K d ((payList d).drop 2) (by revert d; decide))
  isplitr; · iexact HR
  isplitr; · iexact Hlev
  isplitl [HO T1 T2 BX BY Hc Ha]
  · isplitl [HO]; · iexact HO
    isplitl [T1]; · iexact T1
    isplitl [T2]; · iexact T2
    isplitl [BX]; · iexact BX
    isplitl [BY]; · iexact BY
    isplitl [Hc] <;> iassumption
  iintro ⟨HO, BX, BY, Hz⟩
  ihave Hrows := (rows_new d) $$ [Hrows BX BY]
  · isplitl [Hrows]; · iexact Hrows
    isplitl [BX] <;> iassumption
  icases Hrows with ⟨R0, R1, R2, R3⟩
  iapply (runs_newRow m K d 0 0 _ ((payList d).drop 4) (by revert d; decide))
  isplitr
  · isplitr; · iexact HR
    iexact Hlev
  isplitl [HO A0 R0]
  · isplitl [HO]; · iexact HO
    isplitl [A0] <;> iassumption
  iintro ⟨HO, S0, I0, R0⟩
  iapply (runs_done d)
  iapply HQ
  isplitl [HO]; · iexact HO
  isplitl [S0]; · iexact S0
  isplitl [A1]; · iexact A1
  isplitl [I0]; · iexact I0
  isplitl [R0 R1 R2 R3]
  · isplitl [R0]; · iexact R0
    isplitl [R1]; · iexact R1
    isplitl [R2] <;> iassumption
  iexact Hz

/-- A middle step: start the next row's copies, compute this row, finish the row before it. -/
theorem runs_mid (p p' : Fin 2) (u t s : Fin 4) (l : List (Dev nD × RK))
    (hl : ∀ p ∈ (xn d, some (3, t)) :: (xn d, some (4, t)) :: (yn d, some (5, s)) :: l, 0 < lvl p.2)
    (hs : ∀ p ∈ (yn d, some (5, s)) :: l, 2 + s.val < lvl p.2) (Q : PUnit → sProp 𝕄) :
    iprop((records m K ∗ levAts L lv)
        ∗ (ow d (owing ((xn d, some (3, t)) :: (xn d, some (4, t)) :: (yn d, some (5, s)) :: l))
          ∗ source m d u ∗ arriving m d t p ∗ idles d p' ∗ rowSent m d s ∗ rowNew d t)
        ∗ ((ow d (owing l) ∗ source m d t ∗ arriving m d u p' ∗ idles d p ∗ rowDone m d s ∗ rowSent m d t) -∗ Q ⟨⟩))
      ⊢ runs d (do
          forFin 16 (issueHead p' (ownRow d u))
          rowThen d p t (do
            combine (yn d) (ownRow d s) s
            pure ⟨⟩)) Q := by
  unfold runs
  rw [wp_bind]
  iintro ⟨⟨#HR, #Hlev⟩, ⟨HO, Su, At, Ip', Rs, Rt⟩, HQ⟩
  iapply (runs_issueRow m d p' u)
  isplitl [Su]; · iexact Su
  isplitl [Ip']; · iexact Ip'
  iintro Au
  iapply (runs_newRow m K d p t _ ((yn d, some (5, s)) :: l) hl)
  isplitr
  · isplitr; · iexact HR
    iexact Hlev
  isplitl [HO At Rt]
  · isplitl [HO]; · iexact HO
    isplitl [At] <;> iassumption
  iintro ⟨HO, St, Ip, Rt⟩
  unfold runs
  rw [wp_bind]
  iapply (runs_endRow m K d s l hs)
  isplitr
  · isplitr; · iexact HR
    iexact Hlev
  isplitl [HO Rs]
  · isplitl [HO]; · iexact HO
    iassumption
  iintro ⟨HO, Rs⟩
  iapply (runs_done d)
  iapply HQ
  isplitl [HO]; · iexact HO
  isplitl [St]; · iexact St
  isplitl [Au]; · iexact Au
  isplitl [Ip]; · iexact Ip
  isplitl [Rs] <;> iassumption

/-- The second point. -/
theorem runs_step1 (Q : PUnit → sProp 𝕄) :
    iprop((records m K ∗ levAts L lv)
        ∗ (ow d (left d 4) ∗ source m d 2 ∗ arriving m d 1 1 ∗ idles d 0 ∗ rowSent m d 0 ∗ rowNew d 1)
        ∗ ((ow d (left d 7) ∗ source m d 1 ∗ arriving m d 2 0 ∗ idles d 1 ∗ rowDone m d 0 ∗ rowSent m d 1) -∗ Q ⟨⟩))
      ⊢ runs d (step1 d) Q := by
  have h := runs_mid m K d 1 0 2 1 0 ((payList d).drop 7) (by revert d; decide) (by revert d; decide) Q
  rw [show left d 4 = owing ((xn d, some (3, 1)) :: (xn d, some (4, 1)) :: (yn d, some (5, 0)) :: (payList d).drop 7) from rfl]
  unfold step1
  with_reducible exact h

/-- The third point. -/
theorem runs_step2 (Q : PUnit → sProp 𝕄) :
    iprop((records m K ∗ levAts L lv)
        ∗ (ow d (left d 7) ∗ source m d 3 ∗ arriving m d 2 0 ∗ idles d 1 ∗ rowSent m d 1 ∗ rowNew d 2)
        ∗ ((ow d (left d 10) ∗ source m d 2 ∗ arriving m d 3 1 ∗ idles d 0 ∗ rowDone m d 1 ∗ rowSent m d 2) -∗ Q ⟨⟩))
      ⊢ runs d (step2 d) Q := by
  have h := runs_mid m K d 0 1 3 2 1 ((payList d).drop 10) (by revert d; decide) (by revert d; decide) Q
  rw [show left d 7 = owing ((xn d, some (3, 2)) :: (xn d, some (4, 2)) :: (yn d, some (5, 1)) :: (payList d).drop 10) from rfl]
  unfold step2
  with_reducible exact h

/-- A finished row, as the parts that the last waits take. -/
theorem rowDone_split (j : Fin 4) : rowDone m d j ⊢ iprop(taking d j
    ∗ flying d (ostg (ownRow d j)) (outB (ownRow d j)) (outS 0 j) fullShare (outOwn m d j)
    ∗ (sent m d j ∗ due (d, some (2, j)) ∗ leaving d j)
    ∗ (any d (nrem j) ∗ any d (lrem j) ∗ zero (d, some (3, j)) ∗ zero (d, some (4, j)))) := by
  unfold rowDone divided
  iintro ⟨Hs, ⟨Rn, Rl, Z3, Z4, Fl, D2⟩, Ht, Hv⟩
  isplitl [Ht]; · iexact Ht
  isplitl [Fl]; · iexact Fl
  isplitl [Hs D2 Hv]
  · isplitl [Hs]; · iexact Hs
    isplitl [D2] <;> iassumption
  isplitl [Rn]; · iexact Rn
  isplitl [Rl]; · iexact Rl
  isplitl [Z3] <;> iassumption

/-- A row whose other half has arrived, as its parts. -/
theorem taken_split (j : Fin 4) : taken m d j ⊢ iprop((any d (orcv j) ∗ zero (d, some (5, j)))
    ∗ flying d (ostg (otherRow d j)) (outB (otherRow d j)) (outS 1 j) fullShare (outOther m d j)) := by
  unfold taken
  iintro ⟨Ro, Z5, Fl⟩
  isplitl [Ro Z5]
  · isplitl [Ro] <;> iassumption
  iexact Fl

/-- All finished rows, part by part. -/
theorem rowsDone_split : (bigSep Finset.univ (rowDone m d) : sProp 𝕄)
    ⊢ iprop((bigSep Finset.univ (taking d))
      ∗ (bigSep Finset.univ fun j => flying d (ostg (ownRow d j)) (outB (ownRow d j)) (outS 0 j) fullShare (outOwn m d j))
      ∗ (bigSep Finset.univ fun j => iprop(sent m d j ∗ due (d, some (2, j)) ∗ leaving d j))
      ∗ (bigSep Finset.univ fun j => iprop(any d (nrem j) ∗ any d (lrem j) ∗ zero (d, some (3, j)) ∗ zero (d, some (4, j))))) := by
  rw [← bigSep_sep', ← bigSep_sep', ← bigSep_sep']
  exact bigSep_mono fun j _ => rowDone_split m d j

/-- All rows whose other halves have arrived, part by part. -/
theorem rowsTaken_split : (bigSep Finset.univ (taken m d) : sProp 𝕄)
    ⊢ iprop((bigSep Finset.univ fun j => iprop(any d (orcv j) ∗ zero (d, some (5, j))))
      ∗ (bigSep Finset.univ fun j => flying d (ostg (otherRow d j)) (outB (otherRow d j)) (outS 1 j) fullShare (outOther m d j))) := by
  rw [← bigSep_sep']
  exact bigSep_mono fun j _ => taken_split m d j

/-- The parts that are left make the ends of all rows. -/
theorem rowsEnd_join : (iprop((bigSep Finset.univ fun j => iprop(any d (nrem j) ∗ any d (lrem j) ∗ zero (d, some (3, j)) ∗ zero (d, some (4, j))))
      ∗ (bigSep Finset.univ fun j => iprop(any d (orcv j) ∗ zero (d, some (5, j))))
      ∗ bigSep Finset.univ (settled m d) ∗ bigSep Finset.univ (left' d)) : sProp 𝕄)
    ⊢ bigSep Finset.univ (rowEnd m d) := by
  rw [← bigSep_sep', ← bigSep_sep', ← bigSep_sep']
  exact Entails.of_eq (bigSep_congr fun j _ => rfl)

/-- The last waits: each row ends in the result, and everything it used is back. -/
theorem runs_finish (Q : PUnit → sProp 𝕄) :
    iprop((records m K ∗ levAts L lv) ∗ (ow d 0 ∗ bigSep Finset.univ (rowDone m d))
        ∗ ((ow d 0 ∗ bigSep Finset.univ (rowEnd m d)) -∗ Q ⟨⟩))
      ⊢ runs d (finish d) Q := by
  unfold finish
  simp only [wp_bind]
  iintro ⟨⟨#HR, #Hlev⟩, ⟨HO, Hd⟩, HQ⟩
  ihave Hd := (rowsDone_split m d) $$ Hd
  icases Hd with ⟨Ht, F0, Hs, Hr⟩
  iapply (runs_forFin d 4 (fun j => gather (otherRow d j) j) (fun _ => iprop(records m K ∗ levAts L lv ∗ ow d 0)) (taking d) (taken m d)
    (fun j Q => runs_gather m K d j Q))
  isplitl [HO]
  · isplitr; · iexact HR
    isplitr; · iexact Hlev
    iexact HO
  isplitl [Ht]; · iexact Ht
  iintro ⟨⟨-, -, HO⟩, Ht⟩
  ihave Ht := (rowsTaken_split m d) $$ Ht
  icases Ht with ⟨Ho, F1⟩
  iapply (runs_forFin d 4 (fun j => settleOut (ownRow d j) (otherRow d j) j) (fun _ => ow d 0)
    (fun j => iprop(flying d (ostg (ownRow d j)) (outB (ownRow d j)) (outS 0 j) fullShare (outOwn m d j)
          ∗ flying d (ostg (otherRow d j)) (outB (otherRow d j)) (outS 1 j) fullShare (outOther m d j))) (settled m d)
    (fun j Q => runs_settleOut m d j Q))
  isplitl [HO]; · iexact HO
  isplitl [F0 F1]
  · iapply (Entails.of_eq (bigSep_sep' Finset.univ _ _).symm)
    isplitl [F0] <;> iassumption
  iintro ⟨HO, Hse⟩
  iapply (runs_forFin d 4 settleSend (fun _ => iprop(records m K ∗ levAts L lv ∗ ow d 0))
    (fun j => iprop(sent m d j ∗ due (d, some (2, j)) ∗ leaving d j)) (left' d)
    (fun j Q => runs_settleSend m K d j Q))
  isplitl [HO]
  · isplitr; · iexact HR
    isplitr; · iexact Hlev
    iexact HO
  isplitl [Hs]; · iexact Hs
  iintro ⟨⟨-, -, HO⟩, Hl⟩
  iapply HQ
  isplitl [HO]; · iexact HO
  iapply (rowsEnd_join m d)
  isplitl [Hr]; · iexact Hr
  isplitl [Ho]; · iexact Ho
  isplitl [Hse] <;> iassumption

/-- The last point. -/
theorem runs_step3 (Q : PUnit → sProp 𝕄) :
    iprop((records m K ∗ levAts L lv)
        ∗ (ow d (left d 10) ∗ arriving m d 3 1 ∗ rowDone m d 0 ∗ rowDone m d 1 ∗ rowSent m d 2 ∗ rowNew d 3)
        ∗ ((ow d (left d 14) ∗ source m d 3 ∗ idles d 1 ∗ bigSep Finset.univ (rowEnd m d)) -∗ Q ⟨⟩))
      ⊢ runs d (step3 d) Q := by
  unfold step3
  iintro ⟨⟨#HR, #Hlev⟩, ⟨HO, A3, R0, R1, R2, R3⟩, HQ⟩
  iapply (runs_newRow m K d 1 3 _ ((payList d).drop 12) (by revert d; decide))
  isplitr
  · isplitr; · iexact HR
    iexact Hlev
  isplitl [HO A3 R3]
  · isplitl [HO]; · iexact HO
    isplitl [A3] <;> iassumption
  iintro ⟨HO, S3, I1, R3⟩
  unfold runs
  simp only [wp_bind]
  iapply (runs_endRow m K d 2 ((payList d).drop 13) (by revert d; decide))
  isplitr
  · isplitr; · iexact HR
    iexact Hlev
  isplitl [HO R2]
  · isplitl [HO]; · iexact HO
    iassumption
  iintro ⟨HO, R2⟩
  iapply (runs_endRow m K d 3 ((payList d).drop 14) (by revert d; decide))
  isplitr
  · isplitr; · iexact HR
    iexact Hlev
  isplitl [HO R3]
  · isplitl [HO]; · iexact HO
    iassumption
  iintro ⟨HO, R3⟩
  iapply (runs_finish m K d)
  isplitr
  · isplitr; · iexact HR
    iexact Hlev
  isplitl [HO R0 R1 R2 R3]
  · isplitl [HO]; · iexact HO
    iapply (Entails.of_eq (bigSep_four (rowDone m d)).symm)
    isplitl [R0]; · iexact R0
    isplitl [R1]; · iexact R1
    isplitl [R2] <;> iassumption
  iintro ⟨HO, HE⟩
  iapply HQ
  isplitl [HO]; · iexact HO
  isplitl [S3]; · iexact S3
  isplitl [I1] <;> iassumption

end Run

end FlashDecode

end

end
-- ==== Proof.Body.lean ====
/-
The printed body is the body written once per head, per batch row and per transfer.

The two differ in how their steps are grouped only: the small lemmas here regroup a program's steps, and
`body_eq` puts them together.
-/
module

public import proofs.«01_k».proof.Proof.Tidy

@[expose] public section

noncomputable section

namespace FlashDecode

open Idealize.ShloMosaic Idealize.SL.Sem
open Cert.KernelIdeal Cert.KernelIdeal.Gen

universe v

variable {F : FTy → Type} [FloatOps F]

/-- The printed body at the kernel's own buffers. -/
abbrev printed (i : grid0.Coords) : Act F :=
  cc0__fused_body i (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) cc0_scratch1 (Memref.whole cc0_scratch2) (Memref.isWhole_whole _) (Memref.whole cc0_scratch3) (Memref.isWhole_whole _) cc0_scratch4 cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19

/-- A conditional piece whose continuation stands in both branches is the piece followed by the continuation. -/
theorem dite_join {E : Type → Type v} {β : Type} {c : Prop} {_ : Decidable c} {P : c → Prog E β} {B : c → Prog E PUnit}
    {R : Prog E β} {K : PUnit → Prog E β} (hR : R = K ⟨⟩) (hP : ∀ h, P h = B h >>= fun _ => R) :
    dite c P (fun _ => R) = (dite c B (fun _ => pure ⟨⟩) >>= K) := by
  subst hR
  by_cases h : c
  · rw [dif_pos h, dif_pos h, hP h]
  · rw [dif_neg h, dif_neg h]; rfl

/-- An effect followed by equal continuations. -/
theorem lift_join {E : Type → Type v} {α β : Type} {e : E α} {k k' : α → Prog E β} (hk : ∀ a, k a = k' a) :
    (Prog.lift e >>= k) = Prog.op e k' := congrArg (Prog.op e) (funext hk)

/-- The same with the effect's continuation under a further continuation. -/
theorem op_join {E : Type → Type v} {α β γ : Type} {e : E α} {c : α → Prog E β} {k : β → Prog E γ} {k' : α → Prog E γ}
    (hk : ∀ a, (c a >>= k) = k' a) : (Prog.op e c >>= k) = (Prog.lift e >>= k') := congrArg (Prog.op e) (funext hk)

/-- Two programs that begin alike, the first with its end grouped apart. -/
theorem assoc_join {E : Type → Type v} {α β γ : Type} {x : Prog E α} {c : α → Prog E β} {k : β → Prog E γ} {k' : α → Prog E γ}
    (hk : ∀ a, (c a >>= k) = k' a) : (x >>= c >>= k) = (x >>= k') := by
  rw [Prog.bind_assoc]; exact congrArg _ (funext hk)

/-- Two programs that begin alike and continue alike. -/
theorem same_join {E : Type → Type v} {α β : Type} {x : Prog E α} {c c' : α → Prog E β}
    (hk : ∀ a, c a = c' a) : (x >>= c) = (x >>= c') := congrArg _ (funext hk)

/-- Conditional pieces whose branches are alike. -/
theorem dite_pure {E : Type → Type v} {β : Type} {c : Prop} {_ : Decidable c} {P B : c → Prog E β} {N : ¬ c → Prog E β}
    (hP : ∀ h, P h = B h) : dite c P N = dite c B N := congrArg (fun P => dite c P N) (funext hP)

/-- The first part of the printed body: its three conditional pieces and the first wait. -/
theorem part45_eq (i : grid0.Coords) : (k0_part45 (F := F) i (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) cc0_scratch1 (Memref.whole cc0_scratch2) (Memref.isWhole_whole _) (Memref.whole cc0_scratch3) (Memref.isWhole_whole _) cc0_scratch4 cc0_scratch5 (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19) =
    Prog.op .deviceId (fun d => open1 i d >>= fun _ => open2 i d >>= fun _ => open3 i d >>= fun _ =>
      Prog.op (.waitDma2 (qS (parOf i) 0) (argQ (rowOf i d) 0) (bufQ (parOf i) 0) ((View.wordExact_bits rfl).reshape _ _) ((View.wordExact_bits rfl).reshape _ _))
        fun _ => pure ⟨stepW i, d, Scalar.remsi (Scalar.divsi (Dev.word d) 2#32) 2#32, yW d,
          Scalar.subi 1#32 (Scalar.remsi (Scalar.divsi (Dev.word d) 2#32) 2#32), Scalar.subi 1#32 (yW d),
          Scalar.muli (yW d) 4#32, Scalar.remsi (stepW i) 2#32⟩) := by
  unfold k0_part45
  refine lift_join fun d => ?_
  refine dite_join ?_ ?_
  · refine dite_join ?_ ?_
    · refine dite_join rfl ?_
      intro h; rfl
    · intro h; rfl
  · intro h; rfl

/-- The printed body is the body in the form that the proof works on. -/
theorem body_eq (i : grid0.Coords) : (printed i : Act F) = tidy i := by
  unfold printed tidy cc0__fused_body
  rw [part45_eq]
  refine op_join fun d => assoc_join fun _ => assoc_join fun _ => assoc_join fun _ => ?_
  refine Eq.trans (b := forFin 16 (headStep (parOf i) (rowOf i d) (stepOf i)) >>= fun _ =>
    sendN ⟨k0_dev3 d, k0_dev3_lt d⟩ (stepOf i) >>= fun _ => sendL ⟨k0_dev4 d, k0_dev4_lt d⟩ (stepOf i) >>= fun _ => ?R) ?_ ?_
  rotate_left
  · rfl
  refine same_join fun _ => same_join fun _ => same_join fun _ => ?_
  refine dite_join ?_ ?_
  · refine dite_join ?_ ?_
    · refine dite_join ?_ ?_
      · refine (dite_pure ?_)
        intro h; rfl
      · intro h; rfl
    · intro h; rfl
  · intro h; rfl

end FlashDecode

end

end
-- ==== Proof.Obligation.lean ====
/-
The kernel's body at each grid point: from what the device holds before the point to what it holds
after it.
-/
module

public import proofs.«01_k».proof.Proof.Phases
public import proofs.«01_k».proof.Proof.Body

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (d : Dev nD)

/-- What the meeting with the neighbours needs. -/
def opening : sProp 𝕄 :=
  iprop(tok (xn d, none) false ∗ tok (yn d, none) true ∗ barX d ∗ barY d ∗ cred (tallyAt (kcell (d, none)) () 2) ∗ pos (d, none))

/-- What the device holds before the first point that its steps change. -/
def phase0 : sProp 𝕄 :=
  iprop((source m d 0 ∗ source m d 1 ∗ source m d 2 ∗ source m d 3) ∗ (idles d 0 ∗ idles d 1)
    ∗ (rowStart d 0 ∗ rowStart d 1 ∗ rowStart d 2 ∗ rowStart d 3) ∗ opening d)
/-- Before the second. -/
def phase1 : sProp 𝕄 :=
  iprop((source m d 0 ∗ source m d 2 ∗ source m d 3) ∗ (arriving m d 1 1 ∗ idles d 0)
    ∗ (rowSent m d 0 ∗ rowNew d 1 ∗ rowNew d 2 ∗ rowNew d 3) ∗ zero (d, none))
/-- Before the third. -/
def phase2 : sProp 𝕄 :=
  iprop((source m d 0 ∗ source m d 1 ∗ source m d 3) ∗ (arriving m d 2 0 ∗ idles d 1)
    ∗ (rowDone m d 0 ∗ rowSent m d 1 ∗ rowNew d 2 ∗ rowNew d 3) ∗ zero (d, none))
/-- Before the last. -/
def phase3 : sProp 𝕄 :=
  iprop((source m d 0 ∗ source m d 1 ∗ source m d 2) ∗ (arriving m d 3 1 ∗ idles d 0)
    ∗ (rowDone m d 0 ∗ rowDone m d 1 ∗ rowSent m d 2 ∗ rowNew d 3) ∗ zero (d, none))
/-- At the end. -/
def phase4 : sProp 𝕄 :=
  iprop((source m d 0 ∗ source m d 1 ∗ source m d 2 ∗ source m d 3) ∗ (idles d 0 ∗ idles d 1)
    ∗ bigSep Finset.univ (rowEnd m d) ∗ zero (d, none))
/-- What the device holds before each point that its steps change, and after the last. -/
def phase : ℕ → sProp 𝕄
  | 0 => phase0 m d
  | 1 => phase1 m d
  | 2 => phase2 m d
  | 3 => phase3 m d
  | _ => phase4 m d

/-- How many payments the device has made before each point. -/
def paid : ℕ → ℕ
  | 0 => 0
  | 1 => 4
  | 2 => 7
  | 3 => 10
  | _ => 14

/-- What the device holds before each point, and after the last. -/
def held (t : ℕ) : sProp 𝕄 :=
  iprop((∃ K, records m K) ∗ levAts L lv ∗ bigSep Finset.univ (source' m d) ∗ phase m d t)

section Steps

variable (K : Dev nD × RK → ℕ) (Q : PUnit → sProp 𝕄)

/-- The statement that a program takes the device over one point. -/
abbrev Takes (t : ℕ) (p : Act F) : Prop := ∀ (K : Dev nD × RK → ℕ) (Q : PUnit → sProp 𝕄),
  iprop((records m K ∗ levAts L lv) ∗ (ow d (left d (paid t)) ∗ phase m d t)
    ∗ ((ow d (left d (paid (t + 1))) ∗ phase m d (t + 1)) -∗ Q ⟨⟩)) ⊢ runs d p Q

/-- The body at point 0. -/
theorem takes0 : Takes m d 0 (step0 d) := fun K Q => by
  rw [show phase m d 0 = phase0 m d from rfl, show phase m d (0 + 1) = phase1 m d from rfl]
  unfold phase0 phase1 opening
  iintro ⟨HR, ⟨HO, ⟨S0, S1, S2, S3⟩, HI, Hrows, Hop⟩, HQ⟩
  iapply (runs_step0 m K d Q)
  isplitl [HR]; · iexact HR
  isplitl [HO S0 S1 HI Hrows Hop]
  · isplitl [HO]; · iexact HO
    isplitl [S0 S1]
    · isplitl [S0] <;> iassumption
    isplitl [HI]; · iexact HI
    isplitl [Hrows] <;> iassumption
  iintro ⟨HO, S0, A1, I0, Hrows, Hz⟩
  iapply HQ
  isplitl [HO]; · iexact HO
  isplitl [S0 S2 S3]
  · isplitl [S0]; · iexact S0
    isplitl [S2] <;> iassumption
  isplitl [A1 I0]
  · isplitl [A1] <;> iassumption
  isplitl [Hrows] <;> iassumption

/-- The body at point 1. -/
theorem takes1 : Takes m d 1 (step1 d) := fun K Q => by
  rw [show phase m d 1 = phase1 m d from rfl, show phase m d (1 + 1) = phase2 m d from rfl]
  unfold phase1 phase2
  iintro ⟨HR, ⟨HO, ⟨S0, S2, S3⟩, ⟨A1, I0⟩, ⟨R0, R1, R2, R3⟩, Hz⟩, HQ⟩
  iapply (runs_step1 m K d Q)
  isplitl [HR]; · iexact HR
  isplitl [HO S2 A1 I0 R0 R1]
  · isplitl [HO]; · iexact HO
    isplitl [S2]; · iexact S2
    isplitl [A1]; · iexact A1
    isplitl [I0]; · iexact I0
    isplitl [R0] <;> iassumption
  iintro ⟨HO, S1, A2, I1, R0, R1⟩
  iapply HQ
  isplitl [HO]; · iexact HO
  isplitl [S0 S1 S3]
  · isplitl [S0]; · iexact S0
    isplitl [S1] <;> iassumption
  isplitl [A2 I1]
  · isplitl [A2] <;> iassumption
  isplitl [R0 R1 R2 R3]
  · isplitl [R0]; · iexact R0
    isplitl [R1]; · iexact R1
    isplitl [R2] <;> iassumption
  iexact Hz

/-- The body at point 2. -/
theorem takes2 : Takes m d 2 (step2 d) := fun K Q => by
  rw [show phase m d 2 = phase2 m d from rfl, show phase m d (2 + 1) = phase3 m d from rfl]
  unfold phase2 phase3
  iintro ⟨HR, ⟨HO, ⟨S0, S1, S3⟩, ⟨A2, I1⟩, ⟨R0, R1, R2, R3⟩, Hz⟩, HQ⟩
  iapply (runs_step2 m K d Q)
  isplitl [HR]; · iexact HR
  isplitl [HO S3 A2 I1 R1 R2]
  · isplitl [HO]; · iexact HO
    isplitl [S3]; · iexact S3
    isplitl [A2]; · iexact A2
    isplitl [I1]; · iexact I1
    isplitl [R1] <;> iassumption
  iintro ⟨HO, S2, A3, I0, R1, R2⟩
  iapply HQ
  isplitl [HO]; · iexact HO
  isplitl [S0 S1 S2]
  · isplitl [S0]; · iexact S0
    isplitl [S1] <;> iassumption
  isplitl [A3 I0]
  · isplitl [A3] <;> iassumption
  isplitl [R0 R1 R2 R3]
  · isplitl [R0]; · iexact R0
    isplitl [R1]; · iexact R1
    isplitl [R2] <;> iassumption
  iexact Hz

/-- The body at point 3. -/
theorem takes3 : Takes m d 3 (step3 d) := fun K Q => by
  rw [show phase m d 3 = phase3 m d from rfl, show phase m d (3 + 1) = phase4 m d from rfl]
  unfold phase3 phase4
  iintro ⟨HR, ⟨HO, ⟨S0, S1, S2⟩, ⟨A3, I0⟩, ⟨R0, R1, R2, R3⟩, Hz⟩, HQ⟩
  iapply (runs_step3 m K d Q)
  isplitl [HR]; · iexact HR
  isplitl [HO A3 R0 R1 R2 R3]
  · isplitl [HO]; · iexact HO
    isplitl [A3]; · iexact A3
    isplitl [R0]; · iexact R0
    isplitl [R1]; · iexact R1
    isplitl [R2] <;> iassumption
  iintro ⟨HO, S3, I1, HE⟩
  iapply HQ
  isplitl [HO]; · iexact HO
  isplitl [S0 S1 S2 S3]
  · isplitl [S0]; · iexact S0
    isplitl [S1]; · iexact S1
    isplitl [S2] <;> iassumption
  isplitl [I0 I1]
  · isplitl [I0] <;> iassumption
  isplitl [HE] <;> iassumption

end Steps

/-! ## The obligation -/

/-- The run's proof data: no window, the invariant and the debt of each point. -/
def dats (_ : Fin 1) (c : Dev nD) : Dat τ (Elt F) Unit ℕ UU ℕ cfg0 c where
  A w := w.elim0
  after w _ := w.elim0
  Φ t := held m c t.val
  q _ := fullShare
  owed t := left c (paid t.val)

/-- A point's body, from the invariant and the debt before it to those after it. -/
theorem body_at (t : Fin grid0.N) (p : Dev nD → Act F) (hp : (tidy (grid0.coords t) : Act F) = Prog.lift .deviceId >>= p)
    (n : ℕ) (hn : n = t.val) (ht : Takes m d n (p d)) (E : sProp 𝕄) :
    iprop(held m d t.val ∗ (dats m 0 d).owesAt () t.castSucc ∗ E)
      ⊢ runs d (printed (grid0.coords t)) (fun _ => iprop(held m d (t.val + 1) ∗ (dats m 0 d).owesAt () t.succ ∗ E)) := by
  subst hn
  rw [body_eq, hp]
  simp only [Prog.lift, Prog.bind_op, Prog.bind_ret]
  unfold runs
  rw [wp_deviceId]
  unfold held Dat.owesAt Pipeline.owesWithin
  rw [show (dats m 0 d).owed t.castSucc = left d (paid t.val) from rfl, show (dats m 0 d).owed t.succ = left d (paid (t.val + 1)) from rfl]
  iintro ⟨⟨⟨%K, #HR⟩, #Hlev, Ho, Hp⟩, ⟨%W, -, HO⟩, HE⟩
  iapply (ht K)
  isplitr
  · isplitr; · iexact HR
    iexact Hlev
  isplitl [HO Hp]
  · isplitl [HO]
    · unfold ow; iexists W; iexact HO
    iexact Hp
  iintro ⟨HO, Hp⟩
  unfold ow
  icases HO with ⟨%W', HO⟩
  isplitl [Ho Hp]
  · isplitr; · iexists K; iexact HR
    isplitr; · iexact Hlev
    isplitl [Ho] <;> iassumption
  isplitl [HO]
  · iexists W'
    isplitr; · ipureintro; exact fun _ _ => Or.inl trivial
    iexact HO
  iexact HE

/-- The program of a point. -/
theorem program_at (t : Fin cfg0.N) : (defs₀ (F := F)) .tc cfg0.body (cfg0.bodyArgs t (cfg0.slots t)) = printed (grid0.coords t) := rfl

/-- The body's obligation at every point. -/
theorem body_obligation (c : Dev nD) : BodyObligation (dats (F := F) m 0 c) (defs₀ (F := F)) 𝒱₀ () Set.univ := fun t => by
  rw [show (Finset.univ : Finset (Fin cfg0.W)) = ∅ from Finset.univ_eq_empty, bigSep_empty, bigSep_empty, program_at]
  generalize (BI.emp : sProp 𝕄) = E
  have h0 := body_at m c t0_0 step0 tidy_0 0 rfl (takes0 m c) E
  have h1 := body_at m c t0_1 step1 tidy_1 1 rfl (takes1 m c) E
  have h2 := body_at m c t0_2 step2 tidy_2 2 rfl (takes2 m c) E
  have h3 := body_at m c t0_3 step3 tidy_3 3 rfl (takes3 m c) E
  rw [show (dats m 0 c).Φ t.castSucc = held m c t.val from rfl, show (dats m 0 c).Φ t.succ = held m c (t.val + 1) from rfl]
  rcases fin_N0 t with rfl | rfl | rfl | rfl
  · with_reducible exact h0
  · with_reducible exact h1
  · with_reducible exact h2
  · with_reducible exact h3

end FlashDecode

end

end
-- ==== Proof.Ghost.lean ====
/-
What the launch hands each device: its cells' records, the tokens of the payments it makes, the
positions of the waits it makes, the credits of what it will receive, and its own semaphores.
-/
module

public import proofs.«01_k».proof.Proof.Obligation

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The semaphores a device owns -/

/-- The names of a device's semaphores: the staging copies', the copies' to the result, the transfers'. -/
abbrev OS : Type := ((Fin 2 × Fin 16) ⊕ (Fin 2 × Fin 16) ⊕ (Fin 2 × Fin 16)) ⊕ (Fin 4 ⊕ Fin 4) ⊕ (Fin 6 × Fin 4)

/-- The semaphore of a name. -/
def osem : OS → SemLoc sig
  | .inl (.inl t) => .dma (qS t.1 t.2)
  | .inl (.inr (.inl t)) => .dma (kS t.1 t.2)
  | .inl (.inr (.inr t)) => .dma (vS t.1 t.2)
  | .inr (.inl (.inl j)) => .dma (outS 0 j)
  | .inr (.inl (.inr j)) => .dma (outS 1 j)
  | .inr (.inr t) => .dma (dsem t.1 t.2)

/-- The kernel's own semaphores live as long as the launch. -/
theorem osem_scoped : ∀ k, (osem k).isScoped .tc = true := by decide +kernel
/-- The kernel's own semaphores are distinct. -/
theorem osem_injective : Function.Injective osem := by decide +kernel

/-- What the launch asks of the kernel's own semaphores. -/
theorem ownSemFacts : Pipeline.OwnSemFacts cfg0.spec osem := ⟨osem_scoped, osem_injective, fun _ w => w.elim0⟩

/-- The semaphores of a device's own copies, at zero. -/
def copySems (d : Dev nD) : sProp 𝕄 :=
  iprop(((bigSep Finset.univ fun p => bigSep Finset.univ fun h => semVal ((d : Thread nD τ), .dma (qS p h)) 0)
      ∗ (bigSep Finset.univ fun p => bigSep Finset.univ fun h => semVal ((d : Thread nD τ), .dma (kS p h)) 0)
      ∗ (bigSep Finset.univ fun p => bigSep Finset.univ fun h => semVal ((d : Thread nD τ), .dma (vS p h)) 0))
    ∗ (bigSep Finset.univ fun j => semVal ((d : Thread nD τ), .dma (outS 0 j)) 0)
    ∗ (bigSep Finset.univ fun j => semVal ((d : Thread nD τ), .dma (outS 1 j)) 0))

omit [FloatOps F] in
/-- The kernel's own semaphores at zero, sorted: those of local copies and those of the transfers. -/
theorem ownSems0_split (d : Dev nD) :
    (Pipeline.ownSems0 (Ix := Unit) (Name := ℕ) (U := UU) (Lvl := ℕ) (Val := Elt F) (τ := τ) osem d : sProp 𝕄)
      = iprop(((((bigSep Finset.univ fun p => bigSep Finset.univ fun h => semVal ((d : Thread nD τ), .dma (qS p h)) 0)
      ∗ (bigSep Finset.univ fun p => bigSep Finset.univ fun h => semVal ((d : Thread nD τ), .dma (kS p h)) 0)
      ∗ (bigSep Finset.univ fun p => bigSep Finset.univ fun h => semVal ((d : Thread nD τ), .dma (vS p h)) 0)))
    ∗ ((bigSep Finset.univ fun j => semVal ((d : Thread nD τ), .dma (outS 0 j)) 0)
    ∗ (bigSep Finset.univ fun j => semVal ((d : Thread nD τ), .dma (outS 1 j)) 0)) ∗ bigSep Finset.univ fun t : Fin 6 × Fin 4 => zero (d, some t))) := by
  unfold Pipeline.ownSems0
  rw [bigSep_univ_sum, bigSep_univ_sum, bigSep_univ_sum, bigSep_univ_sum, bigSep_univ_sum, bigSep_univ_prod, bigSep_univ_prod, bigSep_univ_prod]
  rfl

omit [FloatOps F] in
/-- The one semaphore that outlives the launch is the barrier's. -/
theorem unscopedSems0_eq (d : Dev nD) : (unscopedSems0 d : sProp 𝕄) = zero (d, none) := by
  unfold unscopedSems0; rw [bigSep_eq_bigSepL_of_eq [SemLoc.reg barS] (by decide +kernel) (by decide +kernel)]; rfl

omit [FloatOps F] in
/-- A device's cells: the barrier's and the transfers'. -/
theorem cells_split (Φ : RK → sProp 𝕄) : bigSep Finset.univ Φ = iprop(Φ none ∗ bigSep Finset.univ fun t : Fin 6 × Fin 4 => Φ (some t)) := by
  rw [bigSep_univ_equiv (Equiv.optionEquivSumPUnit.{0} (Fin 6 × Fin 4)).symm Φ, bigSep_univ_sum,
    bigSep_univ_of_subsingleton (I := PUnit) PUnit.unit]
  have h (A B : sProp 𝕄) : iprop(A ∗ B) ⊢ iprop(B ∗ A) := by
    iintro ⟨H1, H2⟩
    isplitl [H2] <;> iassumption
  exact BI.equiv_iff.mp ⟨h _ _, h _ _⟩

omit [FloatOps F] in
/-- A separating conjunction over six, written out. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- A separating conjunction over the two duties, written out. -/
theorem bigSep_bool (Φ : Bool → sProp 𝕄) : bigSep Finset.univ Φ = iprop(Φ false ∗ Φ true) :=
  bigSep_univ_eq_bigSepL [false, true] (by decide) (by decide) Φ

/-! ## The tokens -/

/-- The names of the duties of a device's cells. -/
abbrev TK : Type := Bool ⊕ (Fin 6 × Fin 4)

/-- The duty of a name. -/
def tokOf (x : Dev nD × TK) : GSem nD τ sig × ℕ × Bool :=
  x.2.elim (fun b => (kcell (x.1, none), 0, b)) fun t => (kcell (x.1, some t), 0, false)

/-- Distinct payments have distinct tokens. -/
theorem tokOf_injective : Function.Injective tokOf := by
  rintro ⟨c, j⟩ ⟨c', j'⟩ h
  rcases j with b | t <;> rcases j' with b' | t'
  · have h1 := kcell_injective (congrArg Prod.fst h)
    have h2 : b = b' := congrArg (fun x : GSem nD τ sig × ℕ × Bool => x.2.2) h
    obtain rfl : c = c' := (Prod.mk.inj h1).1
    rw [h2]
  · exact absurd (Prod.mk.inj (kcell_injective (congrArg Prod.fst h))).2 (by simp)
  · exact absurd (Prod.mk.inj (kcell_injective (congrArg Prod.fst h))).2 (by simp)
  · have h1 := Prod.mk.inj (kcell_injective (congrArg Prod.fst h))
    obtain rfl : c = c' := h1.1
    rw [Option.some.inj h1.2]

/-- All cells of the protocol. -/
def ourCells : Finset (GSem nD τ sig) := Finset.univ.map ⟨kcell, kcell_injective⟩
/-- All tokens of the protocol. -/
def ourToks : Finset (GSem nD τ sig × ℕ × Bool) := Finset.univ.map ⟨tokOf, tokOf_injective⟩

/-- The launch's ghost state. -/
def u₀ : UU := (initOf (Pipeline.cells cfgs cellOf_inj) (Pipeline.launchToks cfgs cellOf_inj), (initOf ourCells ourToks, 1))

/-- The tokens of a device's own cells. -/
def toks (d : Dev nD) : sProp 𝕄 :=
  iprop((tok (d, none) false ∗ tok (d, none) true)
    ∗ (bigSep Finset.univ fun j => tok (d, some (0, j)) false) ∗ (bigSep Finset.univ fun j => tok (d, some (1, j)) false)
    ∗ (bigSep Finset.univ fun j => tok (d, some (2, j)) false) ∗ (bigSep Finset.univ fun j => tok (d, some (3, j)) false)
    ∗ (bigSep Finset.univ fun j => tok (d, some (4, j)) false) ∗ bigSep Finset.univ fun j => tok (d, some (5, j)) false)

/-- The tokens of the payments a device makes. -/
def payToks (d : Dev nD) : sProp 𝕄 :=
  iprop((tok (xn d, none) false ∗ tok (yn d, none) true)
    ∗ (bigSep Finset.univ fun j => tok (d, some (0, j)) false) ∗ (bigSep Finset.univ fun j => tok (d, some (1, j)) false)
    ∗ (bigSep Finset.univ fun j => tok (d, some (2, j)) false) ∗ (bigSep Finset.univ fun j => tok (xn d, some (3, j)) false)
    ∗ (bigSep Finset.univ fun j => tok (xn d, some (4, j)) false) ∗ bigSep Finset.univ fun j => tok (yn d, some (5, j)) false)

omit [FloatOps F] in
/-- The tokens of a device's own cells, by the names of their duties. -/
theorem toks_eq (d : Dev nD) :
    (bigSep Finset.univ fun x : TK => (dutyTok ER (tokOf (d, x)).1 (tokOf (d, x)).2.1 (tokOf (d, x)).2.2 : sProp 𝕄)) = toks d := by
  rw [bigSep_univ_sum, bigSep_bool, bigSep_univ_prod, bigSep_six]; rfl

omit [FloatOps F] in
/-- Each payment's token goes to the device that pays. -/
theorem toks_around : (bigSep Finset.univ fun d : Dev nD => (toks d : sProp 𝕄)) ⊢ bigSep Finset.univ fun d : Dev nD => payToks d := by
  refine Entails.of_eq ?_
  unfold toks payToks
  simp only [bigSep_sep']
  rw [bigSep_univ_equiv xSwap (fun d : Dev nD => (tok (d, none) false : sProp 𝕄)),
    bigSep_univ_equiv ySwap (fun d : Dev nD => (tok (d, none) true : sProp 𝕄)),
    bigSep_univ_equiv xSwap (fun d : Dev nD => (bigSep Finset.univ fun j => tok (d, some (3, j)) false : sProp 𝕄)),
    bigSep_univ_equiv xSwap (fun d : Dev nD => (bigSep Finset.univ fun j => tok (d, some (4, j)) false : sProp 𝕄)),
    bigSep_univ_equiv ySwap (fun d : Dev nD => (bigSep Finset.univ fun j => tok (d, some (5, j)) false : sProp 𝕄))]
  rfl

/-! ## The global step -/

section Global

variable (m : (ℓ : Loc nD τ sig) → Buf (Elt F) ℓ)

/-- What the launch's ghost state deals a device. -/
def G (d : Dev nD) : sProp 𝕄 :=
  iprop((bigSep Finset.univ fun k : RK => roundState ER (sched m) (kcell (d, k)) 0)
    ∗ (bigSep Finset.univ fun k : RK => pos (d, k)) ∗ (bigSep Finset.univ fun k : RK => reached ER (kcell (d, k)) 0) ∗ toks d)

/-- What a device has of it when all the devices' cells are set up. -/
def G' (d : Dev nD) : sProp 𝕄 :=
  iprop((∃ K, records m K) ∗ (bigSep Finset.univ fun k : RK => pos (d, k)) ∗ payToks d ∗ copySems d)

/-- The initial ghost state gives every device its share. -/
theorem fund_ours : BI.own (ER (initOf ourCells ourToks)) ⊢ (|==> bigSep Finset.univ (G m) : sProp 𝕄) := by
  have hX (Φ : GSem nD τ sig → sProp 𝕄) : bigSep ourCells Φ = bigSep Finset.univ fun d : Dev nD => bigSep Finset.univ fun k : RK => Φ (kcell (d, k)) := by
    unfold ourCells; rw [bigSep_map, bigSep_univ_prod]; rfl
  have hT : bigSep ourToks (fun x => (dutyTok ER x.1 x.2.1 x.2.2 : sProp 𝕄)) = bigSep Finset.univ fun d : Dev nD => toks d := by
    unfold ourToks; rw [bigSep_map, bigSep_univ_prod]
    exact bigSep_congr fun d _ => toks_eq d
  have hG : (bigSep Finset.univ (G m) : sProp 𝕄)
      = iprop((bigSep ourCells fun g => roundState ER (sched m) g 0) ∗ (bigSep ourCells fun g => atPos ER g 0 ∅ 0)
        ∗ (bigSep ourCells fun g => reached ER g 0) ∗ bigSep ourToks fun x => dutyTok ER x.1 x.2.1 x.2.2) := by
    rw [hX, hX, hX, hT]
    unfold G
    simp only [bigSep_sep']
  rw [hG]
  iintro HX
  imod (Rounds.fund ER (sched m) ourCells ourToks) $$ HX with ⟨Hst, Hr, Hat, Htok⟩
  imodintro
  isplitl [Hst]; · iexact Hst
  isplitl [Hat]; · iexact Hat
  isplitl [Hr] <;> iassumption

/-- A device's cells set up. -/
theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : RK => iprop(∃ κ : ℕ, cellInv ER (sched m) κ (kcell (d, k))))
          ∗ (bigSep Finset.univ fun k : RK => pos (d, k)) ∗ (bigSep Finset.univ fun k : RK => reached ER (kcell (d, k)) 0) ∗ toks d ∗ copySems d) := by
  rw [ownSems0_split, unscopedSems0_eq]
  unfold G copySems
  iintro ⟨⟨Hc, Ho, Ht⟩, Hb, Hst, Hat, Hr, Htok⟩
  imod (show iprop((bigSep Finset.univ fun k : RK => zero (d, k)) ∗ bigSep Finset.univ fun k : RK => roundState ER (sched m) (kcell (d, k)) 0)
      ⊢ (|={Set.univ}=> bigSep Finset.univ fun k : RK => iprop(∃ κ : ℕ, cellInv ER (sched m) κ (kcell (d, k))) : sProp 𝕄) from by
        rw [← bigSep_sep']
        exact (bigSep_mono fun k _ => (Rounds.body_intro ER (sched m) (kcell (d, k))).trans inv_alloc).trans (bigSep_fupd _ _)) $$ [Hb Ht Hst] with Hinv
  · rw [cells_split (fun k : RK => (zero (d, k) : sProp 𝕄))]
    isplitr [Hst]
    · isplitl [Hb] <;> iassumption
    · iexact Hst
  imodintro
  isplitl [Hinv]; · iexact Hinv
  isplitl [Hat]; · iexact Hat
  isplitl [Hr]; · iexact Hr
  isplitl [Htok]; · iexact Htok
  isplitl [Hc] <;> iassumption

omit [FloatOps F] in
/-- What is known to all is known with each. -/
theorem share_out {I : Type} [Fintype I] [DecidableEq I] {R : sProp 𝕄} [BI.Persistent R] (Φ : I → sProp 𝕄) :
    iprop(R ∗ bigSep Finset.univ Φ) ⊢ bigSep Finset.univ fun i => iprop(R ∗ Φ i) := by
  rw [bigSep_sep']
  exact sep_mono_left (BI.bigSep_of_persistent Finset.univ R)

/-- What the devices have when each has set up its cells, dealt out anew: the records to all, each token to the device that pays. -/
theorem regroup :
    (bigSep Finset.univ fun d : Dev nD => iprop((bigSep Finset.univ fun k : RK => iprop(∃ κ : ℕ, cellInv ER (sched m) κ (kcell (d, k))))
          ∗ (bigSep Finset.univ fun k : RK => pos (d, k)) ∗ (bigSep Finset.univ fun k : RK => reached ER (kcell (d, k)) 0) ∗ toks d ∗ copySems d) : sProp 𝕄)
      ⊢ bigSep Finset.univ (G' m) := by
  simp only [bigSep_sep']
  rw [← bigSep_univ_prod (fun ck : Dev nD × RK => iprop(∃ κ : ℕ, cellInv ER (sched m) κ (kcell ck))),
    ← bigSep_univ_prod (fun ck : Dev nD × RK => (reached ER (kcell ck) 0 : sProp 𝕄))]
  iintro ⟨HI, Hat, #HR, Htok, Hs⟩
  ihave HK := (BI.bigSep_exists_pi Finset.univ (fun (ck : Dev nD × RK) (κ : ℕ) => (cellInv ER (sched m) κ (kcell ck) : sProp 𝕄))) $$ HI
  icases HK with ⟨%K, #HI⟩
  ihave Htk := (toks_around (F := F)) $$ Htok
  have hG (d : Dev nD) : iprop(records m K ∗ (bigSep Finset.univ fun k : RK => pos (d, k)) ∗ payToks d ∗ copySems d) ⊢ G' m d := by
    unfold G'
    iintro ⟨HR, H⟩
    isplitl [HR]; · iexists K; iexact HR
    iexact H
  iapply (BIBase.Entails.trans (share_out (R := records m K) fun d : Dev nD => iprop((bigSep Finset.univ fun k : RK => pos (d, k)) ∗ payToks d ∗ copySems d))
    (bigSep_mono fun d _ => hG d))
  simp only [bigSep_sep']
  isplitr
  · unfold records; rw [bigSep_sep']
    isplitr; · iexact HI
    iexact HR
  isplitl [Hat]; · iexact Hat
  isplitl [Htk] <;> iassumption

/-- All the devices' cells set up at once. -/
theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-- The launch's ghost state is the pipeline's and a share for every device. -/
theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb _ _ _) $$ HX
  icases H with ⟨HX, -⟩
  imod (fund_ours m) $$ [HX] with HG
  · iexact HX
  imodintro
  isplitl [HP] <;> iassumption

end Global

/-! ## The credits -/

/-- What the devices owe a device's cell in all. -/
theorem owed_all (d : Dev nD) (k : RK) :
    (∑ x : Dev nD, left x 0 (kcell (d, k)) ()) = (∑ x : Dev nD, (payList x).count (d, k)) * amt k := by
  rw [Finset.sum_mul]
  exact Finset.sum_congr rfl fun x _ => owing_apply _ _

/-- Each barrier is owed two units in all. -/
theorem count_bar (d : Dev nD) : (∑ x : Dev nD, (payList x).count (d, none)) = 2 := by revert d; decide +kernel
/-- Each cell of an arrival is owed one transfer in all. -/
theorem count_in (d : Dev nD) (j : Fin 4) : (∑ x : Dev nD, (payList x).count (d, some (3, j))) = 1
    ∧ (∑ x : Dev nD, (payList x).count (d, some (4, j))) = 1 ∧ (∑ x : Dev nD, (payList x).count (d, some (5, j))) = 1 := by revert d j; decide +kernel

/-- The launch's credits at a cell that is owed `n` payments. -/
theorem credit_at (d : Dev nD) (k : RK) (n : ℕ) (h : (∑ x : Dev nD, (payList x).count (d, k)) = n) :
    tallyOn (kcell (d, k)) (launchCredit (Pipeline.owing fun x => left x 0) 0 (kcell (d, k))) = (tallyAt (kcell (d, k)) () (n * amt k) : CellTallies nD τ sig Unit) := by
  unfold tallyAt; refine congrArg _ (Finsupp.ext fun u => ?_); cases u
  rw [Pipeline.launchCredit_owing, Finsupp.single_eq_same, owed_all, h]

/-- The credits of what a device will receive. -/
def credits (d : Dev nD) : sProp 𝕄 :=
  iprop(cred (tallyAt (kcell (d, none)) () 2) ∗ (bigSep Finset.univ fun j => due (d, some (3, j)))
    ∗ (bigSep Finset.univ fun j => due (d, some (4, j))) ∗ bigSep Finset.univ fun j => due (d, some (5, j)))

/-- A cell that is owed one payment gives the credit of one transfer. -/
theorem due_at (d : Dev nD) (k : RK) (h : (∑ x : Dev nD, (payList x).count (d, k)) = 1) :
    (cred (tallyOn (kcell (d, k)) (launchCredit (Pipeline.owing fun x => left x 0) 0 (kcell (d, k)))) : sProp 𝕄) = due (d, k) := by
  rw [credit_at d k 1 h, Nat.one_mul]

/-- The launch's credits of a device are the credits of what it receives. -/
theorem credits_intro (d : Dev nD) : (Pipeline.launchCred (fun x => left x 0) d : sProp 𝕄) ⊢ credits d := by
  have h1 : (Pipeline.launchCred (fun x => left x 0) d : sProp 𝕄)
      ⊢ bigSep Finset.univ fun k : RK => cred (tallyOn (kcell (d, k)) (launchCredit (Pipeline.owing fun x => left x 0) 0 (kcell (d, k)))) := by
    unfold Pipeline.launchCred
    refine BIBase.Entails.trans (bigSep_subset (Finset.subset_univ (Finset.univ.map (⟨csem, csem_injective⟩ : RK ↪ SemLoc sig)))) ?_
    rw [bigSep_map]
    exact Idealize.SL.BI.Entails.refl _
  refine h1.trans ?_
  have e3 := bigSep_congr (M := 𝕄) (s := Finset.univ) fun (j : Fin 4) _ => due_at (F := F) d (some (3, j)) (count_in d j).1
  have e4 := bigSep_congr (M := 𝕄) (s := Finset.univ) fun (j : Fin 4) _ => due_at (F := F) d (some (4, j)) (count_in d j).2.1
  have e5 := bigSep_congr (M := 𝕄) (s := Finset.univ) fun (j : Fin 4) _ => due_at (F := F) d (some (5, j)) (count_in d j).2.2
  rw [cells_split, bigSep_univ_prod, bigSep_six, credit_at d none 2 (count_bar d), e3, e4, e5]
  unfold credits
  iintro ⟨Hb, -, -, -, H3, H4, H5⟩
  isplitl [Hb]; · iexact Hb
  isplitl [H3]; · iexact H3
  isplitl [H4] <;> iassumption

end FlashDecode

end

end
-- ==== Proof.Storage.lean ====
/-
The kernel's buffers cut into their slots before the run and put back together after it.
-/
module

public import proofs.«01_k».proof.Proof.Phases

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## Any buffer -/

section Generic

variable (d : Dev nD) {sp : Space} {s s' : Shape} {e : EltTy} (m : Memref sig .tc sp s e)
  {T : Type} [Fintype T] [DecidableEq T] (r : T → Rect s) (hr : ∀ t a, (r t).stride a = 1)
  (key : s.Idx → T) (hkey : ∀ t x, x ∈ (r t).set ↔ key x = t) (hs : ∀ t, (r t).shape.Squeezes s')

omit [DecidableEq T] [FloatOps F] in
include hkey in
/-- A piece, whatever it holds, is its slots. -/
theorem slots_open (g : m.view.ty.Contents (Elt F)) :
    (m.view.loc (d : Thread nD τ) ↦[m.view.set]{fullShare} g : sProp 𝕄) ⊢ bigSep Finset.univ fun t => any d (slotAt m r hr hs t) :=
  (slots_split d m r hr key hkey hs fullShare g).trans (bigSep_mono fun _ _ => any_intro d _ _)

include hkey in
/-- The slots of a piece are the piece. -/
theorem slots_close :
    (bigSep Finset.univ fun t => any d (slotAt m r hr hs t)) ⊢ (iprop(∃ g, m.view.loc (d : Thread nD τ) ↦[m.view.set]{fullShare} g) : sProp 𝕄) := by
  have h1 : (bigSep Finset.univ fun t => any d (slotAt m r hr hs t) : sProp 𝕄)
      ⊢ bigSep Finset.univ fun t => iprop(∃ X, has d (slotAt m r hr hs t) fullShare X) := bigSep_mono fun _ _ => any_elim d _
  have h2 := bigSep_exists_pi (M := 𝕄) (Y := fun _ : T => s'.Idx → Elt F e) Finset.univ fun t X => has d (slotAt m r hr hs t) fullShare X
  iintro H
  ihave H := h1 $$ H
  ihave H := h2 $$ H
  icases H with ⟨%X, H⟩
  ihave H := (slots_join d m r hr key hkey hs fullShare X) $$ H
  icases H with ⟨%g, -, H⟩
  iexists g
  iexact H

omit [FloatOps F] [Fintype T] [DecidableEq T] in
include hkey in
/-- Contents that agree in every slot agree. -/
theorem slots_ext (f g : m.view.ty.Contents (Elt F))
    (h : ∀ t, (slotAt m r hr hs t).view.read (Elt F) f = (slotAt m r hr hs t).view.read (Elt F) g) :
    m.view.read (Elt F) f = m.view.read (Elt F) g := by
  funext x
  have hx : x ∈ (r (key x)).set := (hkey _ _).2 rfl
  rw [← Rect.map_emb_univ] at hx
  obtain ⟨j, -, hj⟩ := Finset.mem_map.mp hx
  have e1 : ∀ f : m.view.ty.Contents (Elt F), shapeCast (r (key x)).shape ((slotAt m r hr hs (key x)).view.read (Elt F) f) (hs (key x)).numel_eq.symm j
      = m.view.read (Elt F) f ((r (key x)).emb j) := fun f =>
    congrFun (shapeCast_shapeCast (fun j => m.view.read (Elt F) f ((r (key x)).emb j)) (hs (key x)).numel_eq (hs (key x)).numel_eq.symm) j
  rw [← hj, ← e1 f, ← e1 g, h]

end Generic

omit [FloatOps F] in
/-- A whole buffer as a piece. -/
theorem whole_piece (d : Dev nD) (b : Ref sig .tc) (q : PosShare TreeShare) (f : b.ty.Contents (Elt F)) :
    ((Memref.whole b).view.loc (d : Thread nD τ) ↦[(Memref.whole b).view.set]{q} f : sProp 𝕄) = ((d : Thread nD τ).loc b ↦{q} f) := by
  rw [View.set_whole]

/-! ## The keys -/

/-- Which piece a place lies in, of those that are a head's queries. -/
def keyArgQ (x : S8x8x16x128.Idx) : Fin 8 × Fin 16 := (x 0, x 2)
/-- Which piece a place lies in, of those that are a head's keys or values. -/
def keyArgKV (x : S8x1024x16x128.Idx) : Fin 8 × Fin 16 := (x 0, x 2)
/-- Which piece a place lies in, of those that are a slot of the query buffer. -/
def keyQ (x : S2x16x8x128.Idx) : Fin 2 × Fin 16 := (x 0, x 1)
/-- Which piece a place lies in, of those that are a slot of the key and value buffers. -/
def keyKV (x : S2x16x1024x128.Idx) : Fin 2 × Fin 16 := (x 0, x 1)
/-- Which piece a place lies in, of those that are a row of numerators. -/
def keyN (x : S4x8x2048.Idx) : Fin 4 := x 0
/-- Which piece a place lies in, of those that are a row of denominators. -/
def keyL (x : S4x8x16.Idx) : Fin 4 := x 0
/-- Which piece a place lies in, of those that are a row of the result. -/
def keyO (x : S8x8x16x128.Idx) : Fin 8 := x 0

/-- Which places a head's queries has. -/
theorem mem_rArgQ (t : Fin 8 × Fin 16) (x : S8x8x16x128.Idx) : x ∈ (rArgQ t.1 t.2).set ↔ keyArgQ x = t := by
  rw [Rect.mem_set_unit]
  constructor
  · intro h
    have h0 := h 0; have h2 := h 2
    simp at h0 h2
    exact Prod.ext (Fin.ext (by show (x 0).val = _; omega)) (Fin.ext (by show (x 2).val = _; omega))
  · rintro rfl a
    have := (x a).isLt
    fin_cases a <;> simp [keyArgQ] at this ⊢ <;> omega
/-- Which places a head's keys or values has. -/
theorem mem_rArgKV (t : Fin 8 × Fin 16) (x : S8x1024x16x128.Idx) : x ∈ (rArgKV t.1 t.2).set ↔ keyArgKV x = t := by
  rw [Rect.mem_set_unit]
  constructor
  · intro h
    have h0 := h 0; have h2 := h 2
    simp at h0 h2
    exact Prod.ext (Fin.ext (by show (x 0).val = _; omega)) (Fin.ext (by show (x 2).val = _; omega))
  · rintro rfl a
    have := (x a).isLt
    fin_cases a <;> simp [keyArgKV] at this ⊢ <;> omega
/-- Which places a slot of the query buffer has. -/
theorem mem_rQ (t : Fin 2 × Fin 16) (x : S2x16x8x128.Idx) : x ∈ (rQ t.1 t.2).set ↔ keyQ x = t := by
  rw [Rect.mem_set_unit]
  constructor
  · intro h
    have h0 := h 0; have h2 := h 1
    simp at h0 h2
    exact Prod.ext (Fin.ext (by show (x 0).val = _; omega)) (Fin.ext (by show (x 1).val = _; omega))
  · rintro rfl a
    have := (x a).isLt
    fin_cases a <;> simp [keyQ] at this ⊢ <;> omega
/-- Which places a slot of the key and value buffers has. -/
theorem mem_rKV (t : Fin 2 × Fin 16) (x : S2x16x1024x128.Idx) : x ∈ (rKV t.1 t.2).set ↔ keyKV x = t := by
  rw [Rect.mem_set_unit]
  constructor
  · intro h
    have h0 := h 0; have h2 := h 1
    simp at h0 h2
    exact Prod.ext (Fin.ext (by show (x 0).val = _; omega)) (Fin.ext (by show (x 1).val = _; omega))
  · rintro rfl a
    have := (x a).isLt
    fin_cases a <;> simp [keyKV] at this ⊢ <;> omega
/-- Which places a row of numerators has. -/
theorem mem_rN (t : Fin 4) (x : S4x8x2048.Idx) : x ∈ (rN t).set ↔ keyN x = t := by
  rw [Rect.mem_set_unit]
  constructor
  · intro h
    have h0 := h 0
    simp at h0
    exact Fin.ext (by show (x 0).val = _; omega)
  · rintro rfl a
    have := (x a).isLt
    fin_cases a <;> simp [keyN] at this ⊢ <;> omega
/-- Which places a row of denominators has. -/
theorem mem_rL (t : Fin 4) (x : S4x8x16.Idx) : x ∈ (rL t).set ↔ keyL x = t := by
  rw [Rect.mem_set_unit]
  constructor
  · intro h
    have h0 := h 0
    simp at h0
    exact Fin.ext (by show (x 0).val = _; omega)
  · rintro rfl a
    have := (x a).isLt
    fin_cases a <;> simp [keyL] at this ⊢ <;> omega
/-- Which places a row of the result has. -/
theorem mem_rO (t : Fin 8) (x : S8x8x16x128.Idx) : x ∈ (rO t).set ↔ keyO x = t := by
  rw [Rect.mem_set_unit]
  constructor
  · intro h
    have h0 := h 0
    simp at h0
    exact Fin.ext (by show (x 0).val = _; omega)
  · rintro rfl a
    have := (x a).isLt
    fin_cases a <;> simp [keyO] at this ⊢ <;> omega

/-! ## The scratch buffers -/

section Scratch

variable (d : Dev nD)

omit [FloatOps F] in
/-- Cutting a query buffer into its slots. -/
theorem open_pQ {sp : Space} (m : Memref sig .tc sp S2x16x8x128 .f32) (g : m.view.ty.Contents (Elt F)) :
    (m.view.loc (d : Thread nD τ) ↦[m.view.set]{fullShare} g : sProp 𝕄)
      ⊢ bigSep Finset.univ fun t : Fin 2 × Fin 16 => any d ((m.slice (rQ t.1 t.2) (fun _ => rfl)).squeeze S8x128 squeezes_S1x1x8x128_S8x128) :=
  slots_open d m (fun t : Fin 2 × Fin 16 => rQ t.1 t.2) (fun _ _ => rfl) keyQ mem_rQ (fun _ => squeezes_S1x1x8x128_S8x128) g
/-- Putting a query buffer together from its slots. -/
theorem close_pQ {sp : Space} (m : Memref sig .tc sp S2x16x8x128 .f32) :
    (bigSep Finset.univ fun t : Fin 2 × Fin 16 => any d ((m.slice (rQ t.1 t.2) (fun _ => rfl)).squeeze S8x128 squeezes_S1x1x8x128_S8x128))
      ⊢ (iprop(∃ g, m.view.loc (d : Thread nD τ) ↦[m.view.set]{fullShare} g) : sProp 𝕄) :=
  slots_close d m (fun t : Fin 2 × Fin 16 => rQ t.1 t.2) (fun _ _ => rfl) keyQ mem_rQ (fun _ => squeezes_S1x1x8x128_S8x128)
omit [FloatOps F] in
/-- Cutting a key or value buffer into its slots. -/
theorem open_pKV {sp : Space} (m : Memref sig .tc sp S2x16x1024x128 .f32) (g : m.view.ty.Contents (Elt F)) :
    (m.view.loc (d : Thread nD τ) ↦[m.view.set]{fullShare} g : sProp 𝕄)
      ⊢ bigSep Finset.univ fun t : Fin 2 × Fin 16 => any d ((m.slice (rKV t.1 t.2) (fun _ => rfl)).squeeze S1024x128 squeezes_S1x1x1024x128_S1024x128) :=
  slots_open d m (fun t : Fin 2 × Fin 16 => rKV t.1 t.2) (fun _ _ => rfl) keyKV mem_rKV (fun _ => squeezes_S1x1x1024x128_S1024x128) g
/-- Putting a key or value buffer together from its slots. -/
theorem close_pKV {sp : Space} (m : Memref sig .tc sp S2x16x1024x128 .f32) :
    (bigSep Finset.univ fun t : Fin 2 × Fin 16 => any d ((m.slice (rKV t.1 t.2) (fun _ => rfl)).squeeze S1024x128 squeezes_S1x1x1024x128_S1024x128))
      ⊢ (iprop(∃ g, m.view.loc (d : Thread nD τ) ↦[m.view.set]{fullShare} g) : sProp 𝕄) :=
  slots_close d m (fun t : Fin 2 × Fin 16 => rKV t.1 t.2) (fun _ _ => rfl) keyKV mem_rKV (fun _ => squeezes_S1x1x1024x128_S1024x128)
omit [FloatOps F] in
/-- Cutting a buffer of rows of numerators into its slots. -/
theorem open_pN {sp : Space} (m : Memref sig .tc sp S4x8x2048 .bf16) (g : m.view.ty.Contents (Elt F)) :
    (m.view.loc (d : Thread nD τ) ↦[m.view.set]{fullShare} g : sProp 𝕄)
      ⊢ bigSep Finset.univ fun t : Fin 4 => any d ((m.slice (rN t) (fun _ => rfl)).squeeze S8x2048 squeezes_S1x8x2048_S8x2048) :=
  slots_open d m (fun t : Fin 4 => rN t) (fun _ _ => rfl) keyN mem_rN (fun _ => squeezes_S1x8x2048_S8x2048) g
/-- Putting a buffer of rows of numerators together from its slots. -/
theorem close_pN {sp : Space} (m : Memref sig .tc sp S4x8x2048 .bf16) :
    (bigSep Finset.univ fun t : Fin 4 => any d ((m.slice (rN t) (fun _ => rfl)).squeeze S8x2048 squeezes_S1x8x2048_S8x2048))
      ⊢ (iprop(∃ g, m.view.loc (d : Thread nD τ) ↦[m.view.set]{fullShare} g) : sProp 𝕄) :=
  slots_close d m (fun t : Fin 4 => rN t) (fun _ _ => rfl) keyN mem_rN (fun _ => squeezes_S1x8x2048_S8x2048)
omit [FloatOps F] in
/-- Cutting a buffer of rows of denominators into its slots. -/
theorem open_pL {sp : Space} (m : Memref sig .tc sp S4x8x16 .f32) (g : m.view.ty.Contents (Elt F)) :
    (m.view.loc (d : Thread nD τ) ↦[m.view.set]{fullShare} g : sProp 𝕄)
      ⊢ bigSep Finset.univ fun t : Fin 4 => any d ((m.slice (rL t) (fun _ => rfl)).squeeze S8x16 squeezes_S1x8x16_S8x16) :=
  slots_open d m (fun t : Fin 4 => rL t) (fun _ _ => rfl) keyL mem_rL (fun _ => squeezes_S1x8x16_S8x16) g
/-- Putting a buffer of rows of denominators together from its slots. -/
theorem close_pL {sp : Space} (m : Memref sig .tc sp S4x8x16 .f32) :
    (bigSep Finset.univ fun t : Fin 4 => any d ((m.slice (rL t) (fun _ => rfl)).squeeze S8x16 squeezes_S1x8x16_S8x16))
      ⊢ (iprop(∃ g, m.view.loc (d : Thread nD τ) ↦[m.view.set]{fullShare} g) : sProp 𝕄) :=
  slots_close d m (fun t : Fin 4 => rL t) (fun _ _ => rfl) keyL mem_rL (fun _ => squeezes_S1x8x16_S8x16)
omit [FloatOps F] in
/-- Cutting a buffer of rows of results into its slots. -/
theorem open_pO {sp : Space} (m : Memref sig .tc sp S8x8x16x128 .f32) (g : m.view.ty.Contents (Elt F)) :
    (m.view.loc (d : Thread nD τ) ↦[m.view.set]{fullShare} g : sProp 𝕄)
      ⊢ bigSep Finset.univ fun t : Fin 8 => any d ((m.slice (rO t) (fun _ => rfl)).squeeze S8x16x128 squeezes_S1x8x16x128_S8x16x128) :=
  slots_open d m (fun t : Fin 8 => rO t) (fun _ _ => rfl) keyO mem_rO (fun _ => squeezes_S1x8x16x128_S8x16x128) g
/-- Putting a buffer of rows of results together from its slots. -/
theorem close_pO {sp : Space} (m : Memref sig .tc sp S8x8x16x128 .f32) :
    (bigSep Finset.univ fun t : Fin 8 => any d ((m.slice (rO t) (fun _ => rfl)).squeeze S8x16x128 squeezes_S1x8x16x128_S8x16x128))
      ⊢ (iprop(∃ g, m.view.loc (d : Thread nD τ) ↦[m.view.set]{fullShare} g) : sProp 𝕄) :=
  slots_close d m (fun t : Fin 8 => rO t) (fun _ _ => rfl) keyO mem_rO (fun _ => squeezes_S1x8x16x128_S8x16x128)

omit [FloatOps F] in
/-- Cutting the query buffer into its slots. -/
theorem open_bufQ (f : Buf (Elt F) ((d : Thread nD τ).loc cc0_scratch0)) :
    ((d : Thread nD τ).loc cc0_scratch0 ↦{fullShare} f : sProp 𝕄) ⊢ bigSep Finset.univ fun p => bigSep Finset.univ fun h => any d (bufQ p h) := by
  rw [← whole_piece, ← bigSep_univ_prod (fun t : Fin 2 × Fin 16 => (any d (bufQ t.1 t.2) : sProp 𝕄))]
  exact open_pQ d (Memref.whole cc0_scratch0) f
/-- Putting the query buffer together from its slots. -/
theorem close_bufQ : (bigSep Finset.univ fun p => bigSep Finset.univ fun h => any d (bufQ p h))
    ⊢ (iprop(∃ f, (d : Thread nD τ).loc cc0_scratch0 ↦{fullShare} f) : sProp 𝕄) := by
  rw [← bigSep_univ_prod (fun t : Fin 2 × Fin 16 => (any d (bufQ t.1 t.2) : sProp 𝕄))]
  refine BIBase.Entails.trans (close_pQ d (Memref.whole cc0_scratch0)) ?_
  iintro ⟨%g, H⟩
  iexists g
  rw [← whole_piece]
  iexact H
omit [FloatOps F] in
/-- Cutting the key buffer into its slots. -/
theorem open_bufK (f : Buf (Elt F) ((d : Thread nD τ).loc cc0_scratch2)) :
    ((d : Thread nD τ).loc cc0_scratch2 ↦{fullShare} f : sProp 𝕄) ⊢ bigSep Finset.univ fun p => bigSep Finset.univ fun h => any d (bufK p h) := by
  rw [← whole_piece, ← bigSep_univ_prod (fun t : Fin 2 × Fin 16 => (any d (bufK t.1 t.2) : sProp 𝕄))]
  exact open_pKV d (Memref.whole cc0_scratch2) f
/-- Putting the key buffer together from its slots. -/
theorem close_bufK : (bigSep Finset.univ fun p => bigSep Finset.univ fun h => any d (bufK p h))
    ⊢ (iprop(∃ f, (d : Thread nD τ).loc cc0_scratch2 ↦{fullShare} f) : sProp 𝕄) := by
  rw [← bigSep_univ_prod (fun t : Fin 2 × Fin 16 => (any d (bufK t.1 t.2) : sProp 𝕄))]
  refine BIBase.Entails.trans (close_pKV d (Memref.whole cc0_scratch2)) ?_
  iintro ⟨%g, H⟩
  iexists g
  rw [← whole_piece]
  iexact H
omit [FloatOps F] in
/-- Cutting the value buffer into its slots. -/
theorem open_bufV (f : Buf (Elt F) ((d : Thread nD τ).loc cc0_scratch3)) :
    ((d : Thread nD τ).loc cc0_scratch3 ↦{fullShare} f : sProp 𝕄) ⊢ bigSep Finset.univ fun p => bigSep Finset.univ fun h => any d (bufV p h) := by
  rw [← whole_piece, ← bigSep_univ_prod (fun t : Fin 2 × Fin 16 => (any d (bufV t.1 t.2) : sProp 𝕄))]
  exact open_pKV d (Memref.whole cc0_scratch3) f
/-- Putting the value buffer together from its slots. -/
theorem close_bufV : (bigSep Finset.univ fun p => bigSep Finset.univ fun h => any d (bufV p h))
    ⊢ (iprop(∃ f, (d : Thread nD τ).loc cc0_scratch3 ↦{fullShare} f) : sProp 𝕄) := by
  rw [← bigSep_univ_prod (fun t : Fin 2 × Fin 16 => (any d (bufV t.1 t.2) : sProp 𝕄))]
  refine BIBase.Entails.trans (close_pKV d (Memref.whole cc0_scratch3)) ?_
  iintro ⟨%g, H⟩
  iexists g
  rw [← whole_piece]
  iexact H
omit [FloatOps F] in
/-- Cutting the own numerators into its slots. -/
theorem open_nloc (f : Buf (Elt F) ((d : Thread nD τ).loc cc0_scratch6)) :
    ((d : Thread nD τ).loc cc0_scratch6 ↦{fullShare} f : sProp 𝕄) ⊢ bigSep Finset.univ fun j => any d (nloc j) := by
  rw [← whole_piece]
  exact open_pN d (Memref.whole cc0_scratch6) f
/-- Putting the own numerators together from its slots. -/
theorem close_nloc : (bigSep Finset.univ fun j => any d (nloc j))
    ⊢ (iprop(∃ f, (d : Thread nD τ).loc cc0_scratch6 ↦{fullShare} f) : sProp 𝕄) := by
  refine BIBase.Entails.trans (close_pN d (Memref.whole cc0_scratch6)) ?_
  iintro ⟨%g, H⟩
  iexists g
  rw [← whole_piece]
  iexact H
omit [FloatOps F] in
/-- Cutting the own denominators into its slots. -/
theorem open_lloc (f : Buf (Elt F) ((d : Thread nD τ).loc cc0_scratch7)) :
    ((d : Thread nD τ).loc cc0_scratch7 ↦{fullShare} f : sProp 𝕄) ⊢ bigSep Finset.univ fun j => any d (lloc j) := by
  rw [← whole_piece]
  exact open_pL d (Memref.whole cc0_scratch7) f
/-- Putting the own denominators together from its slots. -/
theorem close_lloc : (bigSep Finset.univ fun j => any d (lloc j))
    ⊢ (iprop(∃ f, (d : Thread nD τ).loc cc0_scratch7 ↦{fullShare} f) : sProp 𝕄) := by
  refine BIBase.Entails.trans (close_pL d (Memref.whole cc0_scratch7)) ?_
  iintro ⟨%g, H⟩
  iexists g
  rw [← whole_piece]
  iexact H
omit [FloatOps F] in
/-- Cutting the neighbour's numerators into its slots. -/
theorem open_nrem (f : Buf (Elt F) ((d : Thread nD τ).loc cc0_scratch8)) :
    ((d : Thread nD τ).loc cc0_scratch8 ↦{fullShare} f : sProp 𝕄) ⊢ bigSep Finset.univ fun j => any d (nrem j) := by
  rw [← whole_piece]
  exact open_pN d (Memref.whole cc0_scratch8) f
/-- Putting the neighbour's numerators together from its slots. -/
theorem close_nrem : (bigSep Finset.univ fun j => any d (nrem j))
    ⊢ (iprop(∃ f, (d : Thread nD τ).loc cc0_scratch8 ↦{fullShare} f) : sProp 𝕄) := by
  refine BIBase.Entails.trans (close_pN d (Memref.whole cc0_scratch8)) ?_
  iintro ⟨%g, H⟩
  iexists g
  rw [← whole_piece]
  iexact H
omit [FloatOps F] in
/-- Cutting the neighbour's denominators into its slots. -/
theorem open_lrem (f : Buf (Elt F) ((d : Thread nD τ).loc cc0_scratch9)) :
    ((d : Thread nD τ).loc cc0_scratch9 ↦{fullShare} f : sProp 𝕄) ⊢ bigSep Finset.univ fun j => any d (lrem j) := by
  rw [← whole_piece]
  exact open_pL d (Memref.whole cc0_scratch9) f
/-- Putting the neighbour's denominators together from its slots. -/
theorem close_lrem : (bigSep Finset.univ fun j => any d (lrem j))
    ⊢ (iprop(∃ f, (d : Thread nD τ).loc cc0_scratch9 ↦{fullShare} f) : sProp 𝕄) := by
  refine BIBase.Entails.trans (close_pL d (Memref.whole cc0_scratch9)) ?_
  iintro ⟨%g, H⟩
  iexists g
  rw [← whole_piece]
  iexact H
omit [FloatOps F] in
/-- Cutting the finished rows to send into its slots. -/
theorem open_osnd (f : Buf (Elt F) ((d : Thread nD τ).loc cc0_scratch10)) :
    ((d : Thread nD τ).loc cc0_scratch10 ↦{fullShare} f : sProp 𝕄) ⊢ bigSep Finset.univ fun j => any d (osnd j) := by
  rw [← whole_piece]
  exact open_pN d (Memref.whole cc0_scratch10) f
/-- Putting the finished rows to send together from its slots. -/
theorem close_osnd : (bigSep Finset.univ fun j => any d (osnd j))
    ⊢ (iprop(∃ f, (d : Thread nD τ).loc cc0_scratch10 ↦{fullShare} f) : sProp 𝕄) := by
  refine BIBase.Entails.trans (close_pN d (Memref.whole cc0_scratch10)) ?_
  iintro ⟨%g, H⟩
  iexists g
  rw [← whole_piece]
  iexact H
omit [FloatOps F] in
/-- Cutting the finished rows that arrive into its slots. -/
theorem open_orcv (f : Buf (Elt F) ((d : Thread nD τ).loc cc0_scratch11)) :
    ((d : Thread nD τ).loc cc0_scratch11 ↦{fullShare} f : sProp 𝕄) ⊢ bigSep Finset.univ fun j => any d (orcv j) := by
  rw [← whole_piece]
  exact open_pN d (Memref.whole cc0_scratch11) f
/-- Putting the finished rows that arrive together from its slots. -/
theorem close_orcv : (bigSep Finset.univ fun j => any d (orcv j))
    ⊢ (iprop(∃ f, (d : Thread nD τ).loc cc0_scratch11 ↦{fullShare} f) : sProp 𝕄) := by
  refine BIBase.Entails.trans (close_pN d (Memref.whole cc0_scratch11)) ?_
  iintro ⟨%g, H⟩
  iexists g
  rw [← whole_piece]
  iexact H
omit [FloatOps F] in
/-- Cutting the staging buffer of the result into its slots. -/
theorem open_ostg (f : Buf (Elt F) ((d : Thread nD τ).loc cc0_scratch12)) :
    ((d : Thread nD τ).loc cc0_scratch12 ↦{fullShare} f : sProp 𝕄) ⊢ bigSep Finset.univ fun j => any d (ostg j) := by
  rw [← whole_piece]
  exact open_pO d (Memref.whole cc0_scratch12) f
/-- Putting the staging buffer of the result together from its slots. -/
theorem close_ostg : (bigSep Finset.univ fun j => any d (ostg j))
    ⊢ (iprop(∃ f, (d : Thread nD τ).loc cc0_scratch12 ↦{fullShare} f) : sProp 𝕄) := by
  refine BIBase.Entails.trans (close_pO d (Memref.whole cc0_scratch12)) ?_
  iintro ⟨%g, H⟩
  iexists g
  rw [← whole_piece]
  iexact H
omit [FloatOps F] in
/-- Cutting the result into its slots. -/
theorem open_outB (f : Buf (Elt F) ((d : Thread nD τ).loc main_v1)) :
    ((d : Thread nD τ).loc main_v1 ↦{fullShare} f : sProp 𝕄) ⊢ bigSep Finset.univ fun j => any d (outB j) := by
  rw [← whole_piece]
  exact open_pO d (Memref.whole main_v1) f

end Scratch

/-! ## The arguments -/

section Args

variable (d : Dev nD)

omit [FloatOps F] in
/-- Cutting an argument of queries into the blocks of its heads, the contents kept. -/
theorem split_pArgQ (m : Memref sig .tc .hbm S8x8x16x128 .f32) (g : m.view.ty.Contents (Elt F)) :
    (m.view.loc (d : Thread nD τ) ↦[m.view.set]{fullShare} g : sProp 𝕄)
      ⊢ bigSep Finset.univ fun t : Fin 8 × Fin 16 => has d ((m.slice (rArgQ t.1 t.2) (fun _ => rfl)).squeeze S8x128 squeezes_S1x8x1x128_S8x128) fullShare
          (((m.slice (rArgQ t.1 t.2) (fun _ => rfl)).squeeze S8x128 squeezes_S1x8x1x128_S8x128).view.read (Elt F) g) :=
  slots_split d m (fun t : Fin 8 × Fin 16 => rArgQ t.1 t.2) (fun _ _ => rfl) keyArgQ mem_rArgQ (fun _ => squeezes_S1x8x1x128_S8x128) fullShare g
omit [FloatOps F] in
/-- Cutting an argument of keys or values into the blocks of its heads, the contents kept. -/
theorem split_pArgKV (m : Memref sig .tc .hbm S8x1024x16x128 .f32) (g : m.view.ty.Contents (Elt F)) :
    (m.view.loc (d : Thread nD τ) ↦[m.view.set]{fullShare} g : sProp 𝕄)
      ⊢ bigSep Finset.univ fun t : Fin 8 × Fin 16 => has d ((m.slice (rArgKV t.1 t.2) (fun _ => rfl)).squeeze S1024x128 squeezes_S1x1024x1x128_S1024x128) fullShare
          (((m.slice (rArgKV t.1 t.2) (fun _ => rfl)).squeeze S1024x128 squeezes_S1x1024x1x128_S1024x128).view.read (Elt F) g) :=
  slots_split d m (fun t : Fin 8 × Fin 16 => rArgKV t.1 t.2) (fun _ _ => rfl) keyArgKV mem_rArgKV (fun _ => squeezes_S1x1024x1x128_S1024x128) fullShare g

/-- Putting an argument of queries together from the blocks of its heads, the contents kept. -/
theorem join_pArgQ (m : Memref sig .tc .hbm S8x8x16x128 .f32) (f : m.view.ty.Contents (Elt F)) :
    (bigSep Finset.univ fun t : Fin 8 × Fin 16 => has d ((m.slice (rArgQ t.1 t.2) (fun _ => rfl)).squeeze S8x128 squeezes_S1x8x1x128_S8x128) fullShare
          (((m.slice (rArgQ t.1 t.2) (fun _ => rfl)).squeeze S8x128 squeezes_S1x8x1x128_S8x128).view.read (Elt F) f))
      ⊢ (has d m fullShare (m.view.read (Elt F) f) : sProp 𝕄) := by
  refine BIBase.Entails.trans (slots_join d m (fun t : Fin 8 × Fin 16 => rArgQ t.1 t.2) (fun _ _ => rfl) keyArgQ mem_rArgQ (fun _ => squeezes_S1x8x1x128_S8x128) fullShare
    fun t => ((m.slice (rArgQ t.1 t.2) (fun _ => rfl)).squeeze S8x128 squeezes_S1x8x1x128_S8x128).view.read (Elt F) f) ?_
  unfold has owns
  iintro ⟨%g, %hg, H⟩
  iexists g
  isplitr
  · ipureintro
    exact slots_ext m (fun t : Fin 8 × Fin 16 => rArgQ t.1 t.2) (fun _ _ => rfl) keyArgQ mem_rArgQ (fun _ => squeezes_S1x8x1x128_S8x128) g f hg
  · iexact H
/-- Putting an argument of keys or values together from the blocks of its heads, the contents kept. -/
theorem join_pArgKV (m : Memref sig .tc .hbm S8x1024x16x128 .f32) (f : m.view.ty.Contents (Elt F)) :
    (bigSep Finset.univ fun t : Fin 8 × Fin 16 => has d ((m.slice (rArgKV t.1 t.2) (fun _ => rfl)).squeeze S1024x128 squeezes_S1x1024x1x128_S1024x128) fullShare
          (((m.slice (rArgKV t.1 t.2) (fun _ => rfl)).squeeze S1024x128 squeezes_S1x1024x1x128_S1024x128).view.read (Elt F) f))
      ⊢ (has d m fullShare (m.view.read (Elt F) f) : sProp 𝕄) := by
  refine BIBase.Entails.trans (slots_join d m (fun t : Fin 8 × Fin 16 => rArgKV t.1 t.2) (fun _ _ => rfl) keyArgKV mem_rArgKV (fun _ => squeezes_S1x1024x1x128_S1024x128) fullShare
    fun t => ((m.slice (rArgKV t.1 t.2) (fun _ => rfl)).squeeze S1024x128 squeezes_S1x1024x1x128_S1024x128).view.read (Elt F) f) ?_
  unfold has owns
  iintro ⟨%g, %hg, H⟩
  iexists g
  isplitr
  · ipureintro
    exact slots_ext m (fun t : Fin 8 × Fin 16 => rArgKV t.1 t.2) (fun _ _ => rfl) keyArgKV mem_rArgKV (fun _ => squeezes_S1x1024x1x128_S1024x128) g f hg
  · iexact H

omit [FloatOps F] in
/-- Cutting the queries into the blocks of its heads, the contents kept. -/
theorem split_argQ (m : (ℓ : Loc nD τ sig) → Buf (Elt F) ℓ) :
    ((d : Thread nD τ).loc main_arg0 ↦{fullShare} m ((d : Thread nD τ).loc main_arg0) : sProp 𝕄) ⊢ bigSep Finset.univ fun b => bigSep Finset.univ fun h => has d (argQ b h) fullShare (qv m d b h) := by
  rw [← whole_piece, ← bigSep_univ_prod (fun t : Fin 8 × Fin 16 => (has d (argQ t.1 t.2) fullShare (qv m d t.1 t.2) : sProp 𝕄))]
  exact split_pArgQ d (Memref.whole main_arg0) _
/-- Putting the queries together from the blocks of its heads, the contents kept. -/
theorem join_argQ (m : (ℓ : Loc nD τ sig) → Buf (Elt F) ℓ) :
    (bigSep Finset.univ fun b => bigSep Finset.univ fun h => has d (argQ b h) fullShare (qv m d b h))
      ⊢ ((d : Thread nD τ).loc main_arg0 ↦{fullShare} m ((d : Thread nD τ).loc main_arg0) : sProp 𝕄) := by
  rw [← bigSep_univ_prod (fun t : Fin 8 × Fin 16 => (has d (argQ t.1 t.2) fullShare (qv m d t.1 t.2) : sProp 𝕄))]
  refine BIBase.Entails.trans (join_pArgQ d (Memref.whole main_arg0) (m ((d : Thread nD τ).loc main_arg0))) ?_
  exact Entails.of_eq (owns_whole (d : Thread nD τ) main_arg0 fullShare _)
omit [FloatOps F] in
/-- Cutting the keys into the blocks of its heads, the contents kept. -/
theorem split_argK (m : (ℓ : Loc nD τ sig) → Buf (Elt F) ℓ) :
    ((d : Thread nD τ).loc main_arg1 ↦{fullShare} m ((d : Thread nD τ).loc main_arg1) : sProp 𝕄) ⊢ bigSep Finset.univ fun b => bigSep Finset.univ fun h => has d (argK b h) fullShare (kv m d b h) := by
  rw [← whole_piece, ← bigSep_univ_prod (fun t : Fin 8 × Fin 16 => (has d (argK t.1 t.2) fullShare (kv m d t.1 t.2) : sProp 𝕄))]
  exact split_pArgKV d (Memref.whole main_arg1) _
/-- Putting the keys together from the blocks of its heads, the contents kept. -/
theorem join_argK (m : (ℓ : Loc nD τ sig) → Buf (Elt F) ℓ) :
    (bigSep Finset.univ fun b => bigSep Finset.univ fun h => has d (argK b h) fullShare (kv m d b h))
      ⊢ ((d : Thread nD τ).loc main_arg1 ↦{fullShare} m ((d : Thread nD τ).loc main_arg1) : sProp 𝕄) := by
  rw [← bigSep_univ_prod (fun t : Fin 8 × Fin 16 => (has d (argK t.1 t.2) fullShare (kv m d t.1 t.2) : sProp 𝕄))]
  refine BIBase.Entails.trans (join_pArgKV d (Memref.whole main_arg1) (m ((d : Thread nD τ).loc main_arg1))) ?_
  exact Entails.of_eq (owns_whole (d : Thread nD τ) main_arg1 fullShare _)
omit [FloatOps F] in
/-- Cutting the values into the blocks of its heads, the contents kept. -/
theorem split_argV (m : (ℓ : Loc nD τ sig) → Buf (Elt F) ℓ) :
    ((d : Thread nD τ).loc main_arg2 ↦{fullShare} m ((d : Thread nD τ).loc main_arg2) : sProp 𝕄) ⊢ bigSep Finset.univ fun b => bigSep Finset.univ fun h => has d (argV b h) fullShare (vv m d b h) := by
  rw [← whole_piece, ← bigSep_univ_prod (fun t : Fin 8 × Fin 16 => (has d (argV t.1 t.2) fullShare (vv m d t.1 t.2) : sProp 𝕄))]
  exact split_pArgKV d (Memref.whole main_arg2) _
/-- Putting the values together from the blocks of its heads, the contents kept. -/
theorem join_argV (m : (ℓ : Loc nD τ sig) → Buf (Elt F) ℓ) :
    (bigSep Finset.univ fun b => bigSep Finset.univ fun h => has d (argV b h) fullShare (vv m d b h))
      ⊢ ((d : Thread nD τ).loc main_arg2 ↦{fullShare} m ((d : Thread nD τ).loc main_arg2) : sProp 𝕄) := by
  rw [← bigSep_univ_prod (fun t : Fin 8 × Fin 16 => (has d (argV t.1 t.2) fullShare (vv m d t.1 t.2) : sProp 𝕄))]
  refine BIBase.Entails.trans (join_pArgKV d (Memref.whole main_arg2) (m ((d : Thread nD τ).loc main_arg2))) ?_
  exact Entails.of_eq (owns_whole (d : Thread nD τ) main_arg2 fullShare _)

end Args

/-! ## The result -/

/-- A batch row is a row of the device's half or of the other. -/
def rows (d : Dev nD) : Fin 4 ⊕ Fin 4 ≃ Fin 8 :=
  Equiv.ofBijective (Sum.elim (ownRow d) (otherRow d)) ⟨by revert d; decide +kernel, by revert d; decide +kernel⟩

/-- All batch rows: the device's own and the others. -/
theorem rows_split (d : Dev nD) (Φ : Fin 8 → sProp 𝕄) :
    bigSep Finset.univ Φ = iprop((bigSep Finset.univ fun j => Φ (ownRow d j)) ∗ bigSep Finset.univ fun j => Φ (otherRow d j)) := by
  rw [bigSep_univ_equiv (rows d), bigSep_univ_sum]; rfl

section Result

variable (m : (ℓ : Loc nD τ sig) → Buf (Elt F) ℓ) (d : Dev nD)

/-- A batch row of the result, as the run leaves it. -/
def outRow (b : Fin 8) : FVec F S8x16x128 .f32 := ((rows d).symm b).elim (outOwn m d) (outOther m d)

/-- A row of the device's own half. -/
theorem outRow_own (j : Fin 4) : outRow m d (ownRow d j) = outOwn m d j := by
  unfold outRow; rw [show ownRow d j = rows d (.inl j) from rfl, Equiv.symm_apply_apply]; rfl
/-- A row of the other half. -/
theorem outRow_other (j : Fin 4) : outRow m d (otherRow d j) = outOther m d j := by
  unfold outRow; rw [show otherRow d j = rows d (.inr j) from rfl, Equiv.symm_apply_apply]; rfl

/-- The result's rows put together. -/
theorem join_pO {sp : Space} (M : Memref sig .tc sp S8x8x16x128 .f32) (X : Fin 8 → FVec F S8x16x128 .f32) :
    (bigSep Finset.univ fun b : Fin 8 => has d ((M.slice (rO b) (fun _ => rfl)).squeeze S8x16x128 squeezes_S1x8x16x128_S8x16x128) fullShare (X b))
      ⊢ (iprop(∃ g, ⌜∀ b, ((M.slice (rO b) (fun _ => rfl)).squeeze S8x16x128 squeezes_S1x8x16x128_S8x16x128).view.read (Elt F) g = X b⌝
          ∗ (M.view.loc (d : Thread nD τ) ↦[M.view.set]{fullShare} g)) : sProp 𝕄) :=
  slots_join d M rO (fun _ _ => rfl) keyO mem_rO (fun _ => squeezes_S1x8x16x128_S8x16x128) fullShare X

/-- Putting the result together from its rows, each with its final contents. -/
theorem join_outB :
    (iprop((bigSep Finset.univ fun j => has d (outB (ownRow d j)) fullShare (outOwn m d j))
        ∗ bigSep Finset.univ fun j => has d (outB (otherRow d j)) fullShare (outOther m d j)) : sProp 𝕄)
      ⊢ iprop(∃ g : Buf (Elt F) ((d : Thread nD τ).loc main_v1), ⌜∀ b, (outB b).view.read (Elt F) g = outRow m d b⌝
          ∗ ((d : Thread nD τ).loc main_v1 ↦{fullShare} g)) := by
  have e := rows_split d (fun b => (has d (outB b) fullShare (outRow m d b) : sProp 𝕄))
  simp only [outRow_own, outRow_other] at e
  rw [← e]
  refine BIBase.Entails.trans (join_pO d (Memref.whole main_v1) (outRow m d)) ?_
  iintro ⟨%g, %hg, H⟩
  iexists g
  isplitr; · ipureintro; exact hg
  rw [← whole_piece]
  iexact H

end Result

end FlashDecode

end

end
-- ==== Proof.Entry.lean ====
/-
From the launch's holdings to what a device holds before the first point, and from what it holds after
the last to what the launch takes back.
-/
module

public import proofs.«01_k».proof.Proof.Ghost
public import proofs.«01_k».proof.Proof.Storage

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (d : Dev nD)

/-! ## The arrays -/

/-- The arguments at the launch's contents. -/
def arguments : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (((d : Thread nD τ).loc main_arg2) ↦{fullShare} m ((d : Thread nD τ).loc main_arg2)))

/-- The arguments cut into blocks are the rows of the two halves. -/
theorem sources_eq : (iprop(bigSep Finset.univ (source m d) ∗ bigSep Finset.univ (source' m d)) : sProp 𝕄)
    = iprop((bigSep Finset.univ fun b => bigSep Finset.univ fun h => has d (argQ b h) fullShare (qv m d b h))
      ∗ (bigSep Finset.univ fun b => bigSep Finset.univ fun h => has d (argK b h) fullShare (kv m d b h))
      ∗ (bigSep Finset.univ fun b => bigSep Finset.univ fun h => has d (argV b h) fullShare (vv m d b h))) := by
  have e := rows_split d (fun b => (bigSep Finset.univ fun h : Fin 16 => srcs m d b h : sProp 𝕄))
  have e1 : (iprop(bigSep Finset.univ (source m d) ∗ bigSep Finset.univ (source' m d)) : sProp 𝕄)
    = bigSep Finset.univ fun b => bigSep Finset.univ fun h : Fin 16 => srcs m d b h := e.symm
  rw [e1]
  unfold srcs
  simp only [bigSep_sep']

/-- Cutting the three arguments into the blocks of their heads: the rows of the device's half, and those of the other. -/
theorem arguments_split : (arguments m d : sProp 𝕄) ⊢ iprop(bigSep Finset.univ (source m d) ∗ bigSep Finset.univ (source' m d)) := by
  rw [sources_eq]
  unfold arguments
  iintro ⟨HQ, HK, HV⟩
  isplitl [HQ]; · iapply (split_argQ d m); iexact HQ
  isplitl [HK]; · iapply (split_argK d m); iexact HK
  iapply (split_argV d m); iexact HV

/-- Putting the three arguments together from those blocks. -/
theorem arguments_join : (iprop(bigSep Finset.univ (source m d) ∗ bigSep Finset.univ (source' m d)) : sProp 𝕄) ⊢ arguments m d := by
  rw [sources_eq]
  unfold arguments
  iintro ⟨HQ, HK, HV⟩
  isplitl [HQ]; · iapply (join_argQ d m); iexact HQ
  isplitl [HK]; · iapply (join_argK d m); iexact HK
  iapply (join_argV d m); iexact HV

/-! ## Entry -/

/-- What a device brings to the kernel. -/
def start : sProp 𝕄 :=
  iprop(G' m d ∗ credits d ∗ levAts L lv ∗ arguments m d ∗ ((d : Thread nD τ).loc main_v1 ↦{fullShare} m ((d : Thread nD τ).loc main_v1)))

/-- The positions on a device's cells: the one on the barrier, and six for each row. -/
theorem positions_eq : (bigSep Finset.univ fun k : RK => (pos (d, k) : sProp 𝕄))
    = iprop(pos (d, none) ∗ (bigSep Finset.univ fun j => pos (d, some (0, j))) ∗ (bigSep Finset.univ fun j => pos (d, some (1, j)))
      ∗ (bigSep Finset.univ fun j => pos (d, some (2, j))) ∗ (bigSep Finset.univ fun j => pos (d, some (3, j)))
      ∗ (bigSep Finset.univ fun j => pos (d, some (4, j))) ∗ (bigSep Finset.univ fun j => pos (d, some (5, j)))) := by
  rw [cells_split, bigSep_univ_prod, bigSep_six]

/-- What is held before the first point, piece by piece. -/
theorem phase0_intro :
    iprop(bigSep Finset.univ (source m d) ∗ bigSep Finset.univ (idles d) ∗ bigSep Finset.univ (rowStart d) ∗ opening d) ⊢ phase0 m d := by
  rw [bigSep_four, bigSep_four (rowStart d), bigSep_univ_two]
  exact Idealize.SL.BI.Entails.refl _

/-- The staging slots of both parities with their semaphores at zero are the idle slots of each parity. -/
theorem idles_intro :
    (iprop((bigSep Finset.univ fun p => bigSep Finset.univ fun h => any d (bufQ p h)) ∗ (bigSep Finset.univ fun p => bigSep Finset.univ fun h => any d (bufK p h))
      ∗ (bigSep Finset.univ fun p => bigSep Finset.univ fun h => any d (bufV p h))
      ∗ (bigSep Finset.univ fun p => bigSep Finset.univ fun h => semVal ((d : Thread nD τ), .dma (qS p h)) 0)
      ∗ (bigSep Finset.univ fun p => bigSep Finset.univ fun h => semVal ((d : Thread nD τ), .dma (kS p h)) 0)
      ∗ (bigSep Finset.univ fun p => bigSep Finset.univ fun h => semVal ((d : Thread nD τ), .dma (vS p h)) 0)) : sProp 𝕄)
      = bigSep Finset.univ (idles d) := by
  have e : (bigSep Finset.univ (idles d) : sProp 𝕄) = bigSep Finset.univ fun p => bigSep Finset.univ fun h : Fin 16 => idle d p h := rfl
  rw [e]
  unfold idle
  simp only [bigSep_sep']

/-- The rows before the run, piece by piece. -/
theorem rowStart_eq : (bigSep Finset.univ (rowStart d) : sProp 𝕄)
    = iprop((bigSep Finset.univ fun j => any d (nloc j)) ∗ (bigSep Finset.univ fun j => any d (lloc j))
    ∗ ((bigSep Finset.univ fun j => tok (d, some (0, j)) false) ∗ (bigSep Finset.univ fun j => tok (xn d, some (3, j)) false)
      ∗ (bigSep Finset.univ fun j => tok (d, some (1, j)) false) ∗ (bigSep Finset.univ fun j => tok (xn d, some (4, j)) false))
    ∗ ((bigSep Finset.univ fun j => due (d, some (3, j))) ∗ (bigSep Finset.univ fun j => pos (d, some (3, j)))
      ∗ (bigSep Finset.univ fun j => due (d, some (4, j))) ∗ (bigSep Finset.univ fun j => pos (d, some (4, j))))
    ∗ ((bigSep Finset.univ fun j => any d (osnd j)) ∗ (bigSep Finset.univ fun j => any d (ostg (ownRow d j)))
      ∗ (bigSep Finset.univ fun j => any d (outB (ownRow d j))) ∗ (bigSep Finset.univ fun j => semVal ((d : Thread nD τ), .dma (outS 0 j)) 0)
      ∗ (bigSep Finset.univ fun j => tok (d, some (2, j)) false) ∗ (bigSep Finset.univ fun j => tok (yn d, some (5, j)) false))
    ∗ ((bigSep Finset.univ fun j => due (d, some (5, j))) ∗ (bigSep Finset.univ fun j => pos (d, some (5, j)))
      ∗ (bigSep Finset.univ fun j => any d (ostg (otherRow d j))) ∗ (bigSep Finset.univ fun j => any d (outB (otherRow d j)))
      ∗ (bigSep Finset.univ fun j => semVal ((d : Thread nD τ), .dma (outS 1 j)) 0))
    ∗ (bigSep Finset.univ fun j => pos (d, some (0, j))) ∗ (bigSep Finset.univ fun j => pos (d, some (1, j)))
      ∗ (bigSep Finset.univ fun j => pos (d, some (2, j)))) := by
  have e : (bigSep Finset.univ (rowStart d) : sProp 𝕄) = bigSep Finset.univ fun j : Fin 4 => rowStart d j := rfl
  rw [e]
  unfold rowStart awaiting taking leaving
  simp only [bigSep_sep']

/-- From the launch's holdings to the first point. -/
theorem entry : iprop(start m d ∗ Pipeline.scopedRest cfg0.spec d) ⊢ held m d 0 := by
  rw [scopedRest0_eq]
  unfold start G' payToks credits copySems held
  rw [positions_eq, show phase m d 0 = phase0 m d from rfl]
  iintro ⟨⟨⟨HK, ⟨Pb, P0, P1, P2, P3, P4, P5⟩, ⟨⟨Tb0, Tb1⟩, T0, T1, T2, T3, T4, T5⟩, ⟨Sq, Sk, Sv⟩, So0, So1⟩, ⟨Cb, C3, C4, C5⟩, Hlev, HA, HO⟩,
    ⟨%f0, B0⟩, ⟨%f2, B2⟩, ⟨%f3, B3⟩, ⟨%f6, B6⟩, ⟨%f7, B7⟩, ⟨%f8, B8⟩, ⟨%f9, B9⟩, ⟨%f10, B10⟩, ⟨%f11, B11⟩, ⟨%f12, B12⟩⟩
  ihave HA := (arguments_split m d) $$ HA
  icases HA with ⟨HA, HA'⟩
  ihave HO := (open_outB d _) $$ HO
  ihave HO := (Entails.of_eq (rows_split d (fun b => (any d (outB b) : sProp 𝕄)))) $$ HO
  icases HO with ⟨HO, HO'⟩
  ihave B0 := (open_bufQ d _) $$ B0
  ihave B2 := (open_bufK d _) $$ B2
  ihave B3 := (open_bufV d _) $$ B3
  ihave B6 := (open_nloc d _) $$ B6
  ihave B7 := (open_lloc d _) $$ B7
  ihave B8 := (open_nrem d _) $$ B8
  ihave B9 := (open_lrem d _) $$ B9
  ihave B10 := (open_osnd d _) $$ B10
  ihave B11 := (open_orcv d _) $$ B11
  ihave B12 := (open_ostg d _) $$ B12
  ihave B12 := (Entails.of_eq (rows_split d (fun b => (any d (ostg b) : sProp 𝕄)))) $$ B12
  icases B12 with ⟨B12, B12'⟩
  isplitl [HK]; · iexact HK
  isplitl [Hlev]; · iexact Hlev
  isplitl [HA']; · iexact HA'
  iapply (phase0_intro m d)
  isplitl [HA]; · iexact HA
  isplitl [B0 B2 B3 Sq Sk Sv]
  · rw [← idles_intro]
    isplitl [B0]; · iexact B0
    isplitl [B2]; · iexact B2
    isplitl [B3]; · iexact B3
    isplitl [Sq]; · iexact Sq
    isplitl [Sk]; · iexact Sk
    iexact Sv
  isplitr [Tb0 Tb1 B8 B9 B11 Cb Pb]
  · rw [rowStart_eq]
    isplitl [B6]; · iexact B6
    isplitl [B7]; · iexact B7
    isplitl [T0 T3 T1 T4]
    · isplitl [T0]; · iexact T0
      isplitl [T3]; · iexact T3
      isplitl [T1]; · iexact T1
      iexact T4
    isplitl [C3 P3 C4 P4]
    · isplitl [C3]; · iexact C3
      isplitl [P3]; · iexact P3
      isplitl [C4]; · iexact C4
      iexact P4
    isplitl [B10 B12 HO So0 T2 T5]
    · isplitl [B10]; · iexact B10
      isplitl [B12]; · iexact B12
      isplitl [HO]; · iexact HO
      isplitl [So0]; · iexact So0
      isplitl [T2]; · iexact T2
      iexact T5
    isplitl [C5 P5 B12' HO' So1]
    · isplitl [C5]; · iexact C5
      isplitl [P5]; · iexact P5
      isplitl [B12']; · iexact B12'
      isplitl [HO']; · iexact HO'
      iexact So1
    isplitl [P0]; · iexact P0
    isplitl [P1]; · iexact P1
    iexact P2
  · unfold opening barX barY
    simp only [bigSep_sep']
    isplitl [Tb0]; · iexact Tb0
    isplitl [Tb1]; · iexact Tb1
    isplitl [B8 B9]
    · isplitl [B8]; · iexact B8
      iexact B9
    isplitl [B11]; · iexact B11
    isplitl [Cb]; · iexact Cb
    iexact Pb

/-! ## Exit -/

/-- What a device brings back. -/
def brought : sProp 𝕄 :=
  iprop(arguments m d ∗ (∃ g : Buf (Elt F) ((d : Thread nD τ).loc main_v1), ⌜∀ b, (outB b).view.read (Elt F) g = outRow m d b⌝
      ∗ ((d : Thread nD τ).loc main_v1 ↦{fullShare} g)) ∗ unscopedSems0 d)

/-- The rows after the run, piece by piece. -/
theorem rowEnd_eq : (bigSep Finset.univ (rowEnd m d) : sProp 𝕄)
    = iprop(((bigSep Finset.univ fun j => any d (nrem j)) ∗ (bigSep Finset.univ fun j => any d (lrem j))
      ∗ (bigSep Finset.univ fun j => zero (d, some (3, j))) ∗ (bigSep Finset.univ fun j => zero (d, some (4, j))))
    ∗ ((bigSep Finset.univ fun j => any d (orcv j)) ∗ (bigSep Finset.univ fun j => zero (d, some (5, j))))
    ∗ (((bigSep Finset.univ fun j => has d (outB (ownRow d j)) fullShare (outOwn m d j)) ∗ (bigSep Finset.univ fun j => any d (ostg (ownRow d j)))
        ∗ (bigSep Finset.univ fun j => semVal ((d : Thread nD τ), .dma (outS 0 j)) 0))
      ∗ ((bigSep Finset.univ fun j => has d (outB (otherRow d j)) fullShare (outOther m d j)) ∗ (bigSep Finset.univ fun j => any d (ostg (otherRow d j)))
        ∗ (bigSep Finset.univ fun j => semVal ((d : Thread nD τ), .dma (outS 1 j)) 0)))
    ∗ ((bigSep Finset.univ fun j => any d (nloc j)) ∗ (bigSep Finset.univ fun j => zero (d, some (0, j))))
    ∗ ((bigSep Finset.univ fun j => any d (lloc j)) ∗ (bigSep Finset.univ fun j => zero (d, some (1, j))))
    ∗ (bigSep Finset.univ fun j => any d (osnd j)) ∗ (bigSep Finset.univ fun j => zero (d, some (2, j)))) := by
  have e : (bigSep Finset.univ (rowEnd m d) : sProp 𝕄) = bigSep Finset.univ fun j : Fin 4 => rowEnd m d j := rfl
  rw [e]
  unfold rowEnd settled left'
  simp only [bigSep_sep']

/-- What is held after the last point, piece by piece. -/
theorem phase4_elim :
    phase4 m d ⊢ iprop(bigSep Finset.univ (source m d) ∗ bigSep Finset.univ (idles d) ∗ bigSep Finset.univ (rowEnd m d) ∗ zero (d, none)) := by
  rw [bigSep_four, bigSep_univ_two (idles d)]
  exact Idealize.SL.BI.Entails.refl _

/-- From the last point to what the launch takes back. -/
theorem exit : held m d 4 ⊢ iprop(brought m d ∗ Pipeline.ownSems0 osem d ∗ Pipeline.scopedRest cfg0.spec d) := by
  rw [scopedRest0_eq, ownSems0_split]
  unfold held brought
  rw [unscopedSems0_eq, show phase m d 4 = phase4 m d from rfl]
  iintro ⟨-, -, HA', HP⟩
  ihave HP := (phase4_elim m d) $$ HP
  icases HP with ⟨HA, HI, HR, Hz⟩
  ihave HI := (Entails.of_eq (idles_intro (F := F) d).symm) $$ HI
  icases HI with ⟨B0, B2, B3, Sq, Sk, Sv⟩
  ihave HR := (Entails.of_eq (rowEnd_eq m d)) $$ HR
  icases HR with ⟨⟨B8, B9, Z3, Z4⟩, ⟨B11, Z5⟩, ⟨⟨HO, B12, So0⟩, HO', B12', So1⟩, ⟨B6, Z0⟩, ⟨B7, Z1⟩, B10, Z2⟩
  ihave HA := (arguments_join m d) $$ [HA HA']
  · isplitl [HA]; · iexact HA
    iexact HA'
  ihave HO := (join_outB m d) $$ [HO HO']
  · isplitl [HO]; · iexact HO
    iexact HO'
  isplitl [HA HO Hz]
  · isplitl [HA]; · iexact HA
    isplitl [HO]; · iexact HO
    iexact Hz
  isplitl [Sq Sk Sv So0 So1 Z0 Z1 Z2 Z3 Z4 Z5]
  · isplitl [Sq Sk Sv]
    · isplitl [Sq]; · iexact Sq
      isplitl [Sk] <;> iassumption
    isplitl [So0 So1]
    · isplitl [So0] <;> iassumption
    rw [bigSep_univ_prod, bigSep_six]
    isplitl [Z0]; · iexact Z0
    isplitl [Z1]; · iexact Z1
    isplitl [Z2]; · iexact Z2
    isplitl [Z3]; · iexact Z3
    isplitl [Z4]; · iexact Z4
    iexact Z5
  isplitl [B0]; · iapply (close_bufQ d); iexact B0
  isplitl [B2]; · iapply (close_bufK d); iexact B2
  isplitl [B3]; · iapply (close_bufV d); iexact B3
  isplitl [B6]; · iapply (close_nloc d); iexact B6
  isplitl [B7]; · iapply (close_lloc d); iexact B7
  isplitl [B8]; · iapply (close_nrem d); iexact B8
  isplitl [B9]; · iapply (close_lrem d); iexact B9
  isplitl [B10]; · iapply (close_osnd d); iexact B10
  isplitl [B11]; · iapply (close_orcv d); iexact B11
  iapply (close_ostg d)
  rw [rows_split d (fun b => (any d (ostg b) : sProp 𝕄))]
  isplitl [B12]; · iexact B12
  iexact B12'

end FlashDecode

end

end
-- ==== Proof.Run.lean ====
/-
The run of the whole mesh: from any memory with its counters at zero, every execution ends, with the
arguments as they were, every row of the result at its value, and every counter at zero.
-/
module

public import proofs.«01_k».proof.Proof.Entry
public import Idealize.ShloMosaic.Lib.Pipeline.CollectiveSegs

@[expose] public section

noncomputable section

namespace FlashDecode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device's arrays hold at the end. -/
def Result (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ ∀ b, (outB b).view.read (Elt F) (s.mem ((c : Thread nD τ).loc main_v1)) = outRow m c b

/-- What the launch hands a device is what the first point starts from. -/
theorem start_intro (c : Dev nD) :
    iprop(Pipeline.unscopedRestP Pipeline.Prefetch.none cfg0.spec c (fun b => m ((c : Thread nD τ).loc b)) ∗ levAts L lv
        ∗ Pipeline.launchCred (fun x => left x 0) c ∗ prngReg c (ρ c) ∗ G' m c)
      ⊢ |={Set.univ}=> iprop(start m c ∗ emp) := by
  rw [Pipeline.unscopedRestP_none, unscopedRest0_eq]
  unfold start arguments
  iintro ⟨⟨H0, H1, H2, HO⟩, Hlev, Hcr, -, HG⟩
  ihave Hc := (credits_intro (F := F) c) $$ Hcr
  imodintro
  isplitl
  · isplitl [HG]; · iexact HG
    isplitl [Hc]; · iexact Hc
    isplitl [Hlev]; · iexact Hlev
    isplitr [HO]
    · isplitl [H0]; · iexact H0
      isplitl [H1] <;> iassumption
    · iexact HO
  · iempintro

/-- Entering the kernel. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = held m c 0 from rfl]
  iintro ⟨Hs, -, Hr⟩
  iapply (entry m c)
  isplitl [Hs] <;> iassumption

/-- Leaving the kernel. -/
theorem leave (c : Dev nD) :
    (dats m 0 c).Φ (Fin.last cfg0.N) ⊢ iprop(brought m c ∗ Pipeline.ownSems0 osem c ∗ Pipeline.scopedRest cfg0.spec c) := by
  rw [show (dats m 0 c).Φ (Fin.last cfg0.N) = held m c 4 from rfl]
  exact exit m c

/-- The launch's own waits are allowed. -/
theorem waits (c : Dev nD) : (levAts L lv : sProp 𝕄) ⊢ Pipeline.cellsWaits cfgs (dats m) () 0 c :=
  Pipeline.cellsWaits_intro cfgs (dats m) () 0 c fun w => w.elim0

/-- What a device brings back, read off the memory. -/
theorem read_back (c : Dev nD) (s' : Phys nD τ sig (Elt F)) :
    iprop(brought m c ∗ emp ∗ SI s')
      ⊢ (|={Set.univ}=> iprop(⌜Result m c s'.mem ∧ ∀ sm : SemLoc sig, sm.isScoped .tc = false → s'.mem.sem ((c.tc : Thread nD τ), sm) = 0⌝ ∗ SI s') : sProp 𝕄) := by
  unfold brought arguments
  iintro ⟨⟨⟨H0, H1, H2⟩, ⟨%g, %hg, HO⟩, Hu⟩, -, HSI⟩
  icombine HSI H0 gives %h0
  icombine HSI H1 gives %h1
  icombine HSI H2 gives %h2
  icombine HSI HO gives %hO
  imod (Pipeline.unscopedSems0_read (X := unscopedSems0 c) (c := c) fupd_intro s') $$ [Hu HSI] with ⟨%hs, HSI⟩
  · isplitl [Hu] <;> iassumption
  imodintro
  isplitr
  · ipureintro
    refine ⟨⟨Buf.eq_of_forall_mem_univ h0, Buf.eq_of_forall_mem_univ h1, Buf.eq_of_forall_mem_univ h2, fun b => ?_⟩, hs⟩
    rw [Buf.eq_of_forall_mem_univ hO]
    exact hg b
  · iexact HSI

/-- What every execution ends in. -/
def Ends (r : PUnit × MemSt nD τ sig (Elt F)) : Prop := (∀ c : Dev nD, Result m c r.2) ∧ r.2.sem = fun _ => 0

set_option maxRecDepth 8000 in
/-- The run of the mesh. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun x => left x 0) (howed₀ := fun _ => rfl) (howedN := fun _ => rfl)
    (L := L) (lv := lv) (hL := L_of_ne) (hwaits := waits m)
    (G := G m) (G' := G' m) (u₀ := u₀) (hu₀ := fund m) (hglob := glob m)
    (hA := fun _ w => w.elim0) (hpf := fun _ k => k.elim0)
    (X := start m) (Y := brought m) (Z := fun _ => iprop(emp))
    (hX := start_intro m ρ) (hin := enter m) (hout := leave m)
    (QY := fun c s => Result m c s ∧ ∀ sm : SemLoc sig, sm.isScoped .tc = false → s.sem ((c.tc : Thread nD τ), sm) = 0)
    (hY := read_back m)
    (hQ := fun _ h hs => ⟨fun c => (h c).2.2.1, sem_eq_zero hs fun c => (h c).2.2.2⟩)

end FlashDecode

end

end
-- ==== Proof.Reads.lean ====
/-
The blocks that the kernel copies, read at one index: which element of a device's array each one is.
-/
module

public import proofs.«01_k».proof.Proof.Storage
public import Idealize.ShloMosaic.Lib.Pointwise

@[expose] public section

noncomputable section

namespace FlashDecode

open Idealize.ShloMosaic Idealize.ShloMosaic.TcCoe
open Idealize.SL.Sem
open Cert.KernelIdeal Cert.KernelIdeal.Gen

variable {F : FTy → Type} [FloatOps F]

section Generic

variable {sp : Space} {s s' : Shape} {e : EltTy} (m : Memref sig .tc sp s e) (r : Rect s) (hr : ∀ a, r.stride a = 1)
  (hs : r.shape.Squeezes s')

omit [FloatOps F] in
/-- A squeezed slice read at an index is the buffer read at the index it names. -/
theorem slot_read (f : m.view.ty.Contents (Elt F)) (x : s'.Idx) (y : r.shape.Idx) (z : s.Idx)
    (hxy : (r.shape.rowMajor y : Nat) = s'.rowMajor x) (hz : r.emb y = z) :
    ((m.slice r hr).squeeze s' hs).view.read (Elt F) f x = m.view.read (Elt F) f z := by
  subst hz
  exact shapeCast_apply (fun j => m.view.read (Elt F) f (r.emb j)) hs.numel_eq x y hxy

end Generic

omit [FloatOps F] in
/-- An element of a head's queries is an element of the argument. -/
theorem argQ_read (b : Fin 8) (h : Fin 16) (f : main_arg0.ty.Contents (Elt F)) (i : Fin 8) (e : Fin 128) :
    (argQ b h).view.read (Elt F) f (ix2 i e) = f (ix4 b i h e) := by
  refine slot_read (Memref.whole main_arg0) (rArgQ b h) (fun _ => rfl) squeezes_S1x8x1x128_S8x128 f (ix2 i e)
    (ix4 (0 : Fin 1) i (0 : Fin 1) e) (ix4 b i h e) ?_ ?_
  · show (S1x8x1x128.rowMajor _ : Nat) = _
    rw [Shape.rowMajor_val_four, Shape.rowMajor_val_two]
    show ((0 * 8 + i.val) * 1 + 0) * 128 + e.val = i.val * 128 + e.val
    omega
  · funext a
    match a with
    | ⟨0, _⟩ => exact Fin.ext (show b.val + 1 * 0 = b.val by omega)
    | ⟨1, _⟩ => exact Fin.ext (show 0 + 1 * i.val = i.val by omega)
    | ⟨2, _⟩ => exact Fin.ext (show h.val + 1 * 0 = h.val by omega)
    | ⟨3, _⟩ => exact Fin.ext (show 0 + 1 * e.val = e.val by omega)

/-- The place of a key or value in its slice. -/
theorem rArgKV_emb (b : Fin 8) (h : Fin 16) (t : Fin 1024) (e : Fin 128) :
    (rArgKV b h).emb (ix4 (0 : Fin 1) t (0 : Fin 1) e) = ix4 b t h e := by
  funext a
  match a with
  | ⟨0, _⟩ => exact Fin.ext (show b.val + 1 * 0 = b.val by omega)
  | ⟨1, _⟩ => exact Fin.ext (show 0 + 1 * t.val = t.val by omega)
  | ⟨2, _⟩ => exact Fin.ext (show h.val + 1 * 0 = h.val by omega)
  | ⟨3, _⟩ => exact Fin.ext (show 0 + 1 * e.val = e.val by omega)

/-- The slice and its reshape number their elements alike. -/
theorem rArgKV_row (t : Fin 1024) (e : Fin 128) :
    (S1x1024x1x128.rowMajor (ix4 (0 : Fin 1) t (0 : Fin 1) e) : Nat) = S1024x128.rowMajor (ix2 t e) := by
  rw [Shape.rowMajor_val_four, Shape.rowMajor_val_two]
  show ((0 * 1024 + t.val) * 1 + 0) * 128 + e.val = t.val * 128 + e.val
  omega

omit [FloatOps F] in
/-- An element of a head's keys is an element of the argument. -/
theorem argK_read (b : Fin 8) (h : Fin 16) (f : main_arg1.ty.Contents (Elt F)) (t : Fin 1024) (e : Fin 128) :
    (argK b h).view.read (Elt F) f (ix2 t e) = f (ix4 b t h e) :=
  slot_read (Memref.whole main_arg1) (rArgKV b h) (fun _ => rfl) squeezes_S1x1024x1x128_S1024x128 f (ix2 t e)
    (ix4 (0 : Fin 1) t (0 : Fin 1) e) (ix4 b t h e) (rArgKV_row t e) (rArgKV_emb b h t e)

omit [FloatOps F] in
/-- An element of a head's values is an element of the argument. -/
theorem argV_read (b : Fin 8) (h : Fin 16) (f : main_arg2.ty.Contents (Elt F)) (t : Fin 1024) (e : Fin 128) :
    (argV b h).view.read (Elt F) f (ix2 t e) = f (ix4 b t h e) :=
  slot_read (Memref.whole main_arg2) (rArgKV b h) (fun _ => rfl) squeezes_S1x1024x1x128_S1024x128 f (ix2 t e)
    (ix4 (0 : Fin 1) t (0 : Fin 1) e) (ix4 b t h e) (rArgKV_row t e) (rArgKV_emb b h t e)

omit [FloatOps F] in
/-- An element of a row of the result is an element of the result. -/
theorem outB_read (b : Fin 8) (f : main_v1.ty.Contents (Elt F)) (i : Fin 8) (h : Fin 16) (e : Fin 128) :
    (outB b).view.read (Elt F) f (ix3 i h e) = f (ix4 b i h e) := by
  refine slot_read (Memref.whole main_v1) (rO b) (fun _ => rfl) squeezes_S1x8x16x128_S8x16x128 f (ix3 i h e)
    (ix4 (0 : Fin 1) i h e) (ix4 b i h e) ?_ ?_
  · show (S1x8x16x128.rowMajor _ : Nat) = _
    rw [Shape.rowMajor_val_four, Shape.rowMajor_val_three]
    show ((0 * 8 + i.val) * 16 + h.val) * 128 + e.val = (i.val * 16 + h.val) * 128 + e.val
    omega
  · funext a
    match a with
    | ⟨0, _⟩ => exact Fin.ext (show b.val + 1 * 0 = b.val by omega)
    | ⟨1, _⟩ => exact Fin.ext (show 0 + 1 * i.val = i.val by omega)
    | ⟨2, _⟩ => exact Fin.ext (show 0 + 1 * h.val = h.val by omega)
    | ⟨3, _⟩ => exact Fin.ext (show 0 + 1 * e.val = e.val by omega)

end FlashDecode

end

end
-- ==== Proof.Arith.lean ====
/-
The kernel's vector arithmetic over the extended reals, read at one index.
-/
module

public import proofs.«01_k».proof.Proof.Tidy
public import Idealize.ShloMosaic.Lib.Pointwise
public import Idealize.ShloMosaic.Lib.Pipeline.Value

@[expose] public section

noncomputable section

namespace FlashDecode

open Idealize.ShloMosaic Idealize.SL.Sem
open Cert.KernelIdeal Cert.KernelIdeal.Gen

/-- The factor on the scores, as both programs write it. -/
def factor : EReal := Ideal.ofBits .f32 0x3DB504F3#32

/-- One exponential: of the scaled product of a query with a key. -/
theorem expS_apply (q : FVec Ideal S8x128 .f32) (k : FVec Ideal S1024x128 .f32) (i : Fin 8) (t : Fin 1024) :
    expS q k (ix2 i t) = Ideal.exp ((∑ e : Fin 128, q (ix2 i e) * k (ix2 t e)) * factor) := by
  pointwise [expS, factor]

/-- One denominator: the sum over the keys. -/
theorem rowSum_apply (p : FVec Ideal S8x1024 .f32) (i : Fin 8) :
    rowSum p (ix1 i) = ∑ t : Fin 1024, p (ix2 i t) := by
  pointwise [rowSum]

/-- One numerator: the sum over the keys of the exponential times the value. -/
theorem numer_apply (p : FVec Ideal S8x1024 .f32) (v : FVec Ideal S1024x128 .f32) (i : Fin 8) (e : Fin 128) :
    numer p v (ix2 i e) = ∑ t : Fin 1024, p (ix2 i t) * v (ix2 t e) := by
  pointwise [numer]

/-- A head's lanes all hold its denominator. -/
theorem lanes_apply (l : FVec Ideal S8x16 .f32) (h : Fin 16) (i : Fin 8) (e : Fin 128) :
    lanes l h (ix2 i e) = l (ix2 i h) := by
  pointwise [lanes]

/-- The lane of the packed row that holds place `e` of head `h`. -/
def lane (h : Fin 16) (e : Fin 128) : Fin 2048 := ⟨128 * h.val + e.val, by omega⟩

/-- The heads' lanes, one piece after another. -/
def pieces (l : FVec Ideal S8x16 .f32) : List ((s : Shape) × (s.Idx → Ideal .f32)) :=
  List.ofFn fun h : Fin 16 => ⟨S8x128, lanes l h⟩

/-- The piece at a head's place in the list is that head's. -/
theorem pieces_get (l : FVec Ideal S8x16 .f32) (h : Fin 16) (hk : h.val < (pieces l).length) :
    (pieces l)[h.val] = ⟨S8x128, lanes l h⟩ := by
  simp only [pieces, List.getElem_ofFn]

/-- The pieces before head `h` fill `128 h` lanes. -/
theorem pieces_before (l : FVec Ideal S8x16 .f32) (h : Fin 16) :
    ((((pieces l).take h.val).map (·.1)).map fun s => if e : s.rank = S8x2048.rank then s.size ((1 : Fin S8x2048.rank).cast e.symm) else 0).sum
      = 128 * h.val := by
  have all : (pieces l).map (·.1) = List.replicate 16 S8x128 := rfl
  rw [List.map_take, all, List.take_replicate, List.map_replicate, List.sum_replicate, Nat.min_eq_left h.isLt.le]
  exact Nat.mul_comm _ _

/-- The denominators spread over the lanes: at every lane of a head, that head's denominator. -/
theorem spread_apply (l : FVec Ideal S8x16 .f32) (i : Fin 8) (h : Fin 16) (e : Fin 128) :
    spread l (ix2 i (lane h e)) = l (ix2 i h) := by
  rw [← lanes_apply l h i e]
  refine concatenate_apply_piece (t := S8x2048) 1 (pieces l) _ (ix2 i (lane h e)) h.val (by simp [pieces]) S8x128 (lanes l h)
    (pieces_get l h _) rfl (128 * h.val) (pieces_before l h) (ix2 i e) (fun b hb => ?_) rfl
  match b with
  | ⟨0, _⟩ => rfl
  | ⟨1, _⟩ => exact absurd rfl hb

/-- One lane of the quotient. -/
theorem quot_apply (n n' : FVec Ideal S8x2048 .bf16) (l l' : FVec Ideal S8x16 .f32) (i : Fin 8) (h : Fin 16) (e : Fin 128) :
    quot n n' l l' (ix2 i (lane h e))
      = Ideal.div (n (ix2 i (lane h e)) + n' (ix2 i (lane h e))) (l (ix2 i h) + l' (ix2 i h)) := by
  show Ideal.div (n (ix2 i (lane h e)) + n' (ix2 i (lane h e))) (spread (addf l l') (ix2 i (lane h e))) = _
  rw [spread_apply]
  rfl

/-- A packed row read as heads of lanes. -/
theorem heads_apply (x : FVec Ideal S8x2048 .f32) (i : Fin 8) (h : Fin 16) (e : Fin 128) :
    shapeCast S8x16x128 x shapeCasts_S8x2048_S8x16x128 (ix3 i h e) = x (ix2 i (lane h e)) := by
  refine shapeCast_apply x _ _ _ ?_
  rw [Shape.rowMajor_val_two, Shape.rowMajor_val_three]
  simp [lane]
  omega

end FlashDecode

end

end
-- ==== Proof.Softmax.lean ====
/-
Softmax over the extended reals, in the two forms of this certificate.

The reference subtracts the greatest score from each score, divides each exponential by their sum, and
then weighs the values. The kernel does not subtract, sums the weighted values first, shard by shard, and
divides at the end. For real scores both are the same number, whatever the values are, infinite ones
included: the weight of a value is a positive real, and a real factor moves through a sum.
-/
module

public import Idealize.ShloMosaic.Lib.Pointwise

@[expose] public section

noncomputable section

namespace FlashDecode

open Idealize.ShloMosaic
open scoped BigOperators

/-- A nonnegative real factor on the right moves out of a sum of extended reals. -/
theorem sum_mul_real {ι : Type} (s : Finset ι) (x : ι → EReal) {c : ℝ} (hc : 0 ≤ c) :
    ∑ k ∈ s, x k * (c : EReal) = (∑ k ∈ s, x k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The sum of exponentials of reals is the real sum. -/
theorem sum_exp_real {ι : Type} (s : Finset ι) (x : ι → ℝ) :
    ∑ k ∈ s, Ideal.exp ((x k : ℝ) : EReal) = ((∑ k ∈ s, Real.exp (x k) : ℝ) : EReal) := by
  classical
  induction s using Finset.induction_on with
  | empty => simp
  | insert a s ha ih => rw [Finset.sum_insert ha, Finset.sum_insert ha, ih, EReal.coe_add, Ideal.exp_coe]

/-- The greatest of finitely many reals, at least one, is a real. -/
theorem greatest_real {ι : Type} [Fintype ι] [Nonempty ι] (x : ι → ℝ) :
    ∃ M : ℝ, Finset.univ.fold max (⊥ : EReal) (fun k => ((x k : ℝ) : EReal)) = (M : EReal) := by
  have htop : Finset.univ.fold max (⊥ : EReal) (fun k => ((x k : ℝ) : EReal)) < ⊤ :=
    (Finset.fold_max_lt _).2 ⟨bot_lt_top, fun k _ => EReal.coe_lt_top _⟩
  have hbot : ⊥ < Finset.univ.fold max (⊥ : EReal) (fun k => ((x k : ℝ) : EReal)) :=
    (Finset.lt_fold_max _).2 (.inr ⟨Classical.arbitrary ι, Finset.mem_univ _, EReal.bot_lt_coe _⟩)
  exact ⟨_, (EReal.coe_toReal htop.ne hbot.ne').symm⟩

/-- The weight of one score does not depend on the number that all scores are shifted by. -/
theorem weight_shift {ι : Type} [Fintype ι] [Nonempty ι] (x : ι → ℝ) (M : ℝ) (k : ι) :
    Ideal.div (Ideal.exp ((x k : ℝ) - (M : EReal))) (∑ t, Ideal.exp ((x t : ℝ) - (M : EReal)))
      = Ideal.exp (x k) * ((1 / ∑ t, Real.exp (x t) : ℝ) : EReal) := by
  have hpos : 0 < ∑ t, Real.exp (x t) := Finset.sum_pos (fun t _ => Real.exp_pos _) Finset.univ_nonempty
  have hshift : ∑ t, Real.exp (x t - M) = (∑ t, Real.exp (x t)) * (Real.exp M)⁻¹ := by
    rw [Finset.sum_mul]
    exact Finset.sum_congr rfl fun t _ => by rw [Real.exp_sub, div_eq_mul_inv]
  have hsub : ∀ t, (x t : EReal) - (M : EReal) = ((x t - M : ℝ) : EReal) := fun t => (EReal.coe_sub _ _).symm
  simp only [hsub]
  rw [sum_exp_real, Ideal.exp_coe, Ideal.exp_coe, hshift,
    Ideal.div_coe (mul_pos hpos (inv_pos.2 (Real.exp_pos M))).ne', ← EReal.coe_mul, ← EReal.coe_mul]
  congr 1
  rw [Real.exp_sub]
  field_simp

/-- The two forms agree: dividing the weighted sum by the sum of the exponentials, and weighing by the
    shifted and divided exponentials. -/
theorem softmax_forms {ι : Type} [Fintype ι] [Nonempty ι] (x : ι → ℝ) (v : ι → EReal) :
    Ideal.div (∑ k, Ideal.exp (x k) * v k) (∑ k, Ideal.exp (x k))
      = ∑ k, v k * Ideal.div (Ideal.exp ((x k : ℝ) - Finset.univ.fold max (⊥ : EReal) (fun t => ((x t : ℝ) : EReal))))
          (∑ t, Ideal.exp ((x t : ℝ) - Finset.univ.fold max (⊥ : EReal) (fun t => ((x t : ℝ) : EReal)))) := by
  obtain ⟨M, hM⟩ := greatest_real x
  have hpos : 0 < ∑ t, Real.exp (x t) := Finset.sum_pos (fun t _ => Real.exp_pos _) Finset.univ_nonempty
  rw [hM, sum_exp_real, Ideal.div_coe hpos.ne', ← sum_mul_real _ _ (by positivity)]
  refine Finset.sum_congr rfl fun k _ => ?_
  rw [weight_shift]
  ac_rfl

/-- A sum over all keys is the sum over the keys of the two shards. -/
theorem sum_shards (f : Fin 2048 → EReal) :
    ∑ k, f k = (∑ k : Fin 1024, f (Fin.castAdd 1024 k)) + ∑ k : Fin 1024, f (Fin.natAdd 1024 k) :=
  Fin.sum_univ_add (a := 1024) (b := 1024) f

end FlashDecode

end

end
-- ==== Proof.Whole.lean ====
/-
The reference over the extended reals, read at one index.
-/
module

public import proofs.«01_k».proof.Proof.Gen.ReferenceIdeal
public import Idealize.ShloMosaic.Lib.Pointwise

@[expose] public section

noncomputable section

namespace FlashDecode.Whole

open Idealize.ShloMosaic
open Cert.ReferenceIdeal Cert.ReferenceIdeal.Gen

/-- All scaled scores. -/
def scores (q : FVec Ideal S8x8x16x128 .f32) (k : FVec Ideal S8x2048x16x128 .f32) : FVec Ideal S8x16x8x2048 .f32 :=
  mulf (Host.dotGeneral dot_S8x8x16x128_S8x2048x16x128_S8x16x8x2048_3_3_1_1_02_02 none q k)
    (broadcastInDim S8x16x8x2048 ![] bcast_S_S8x16x8x2048 (constant S_ .f32 0x3DB504F3#32))

/-- A number for each query, repeated for every key. -/
def perKey (x : FVec Ideal S8x16x8 .f32) : FVec Ideal S8x16x8x2048 .f32 :=
  broadcastInDim S8x16x8x2048 ![0, 1, 2, 3] bcast_S8x16x8x1_S8x16x8x2048_0_1_2_3
    (broadcastInDim S8x16x8x1 ![0, 1, 2] bcast_S8x16x8_S8x16x8x1_0_1_2 x)

/-- Each query's greatest score. -/
def greatest (s : FVec Ideal S8x16x8x2048 .f32) : FVec Ideal S8x16x8 .f32 :=
  Host.reduce FloatOps.maximumf s (constant S_ .f32 0xFF800000#32) reducesTo_S8x16x8x2048_S8x16x8_d3 h_S_

/-- The exponentials of the shifted scores. -/
def shifted (s : FVec Ideal S8x16x8x2048 .f32) : FVec Ideal S8x16x8x2048 .f32 :=
  Host.exp (subf s (perKey (greatest s)))

/-- The weights. -/
def weights (s : FVec Ideal S8x16x8x2048 .f32) : FVec Ideal S8x16x8x2048 .f32 :=
  Host.divf (shifted s) (perKey (Host.reduceAdd (shifted s) (constant S_ .f32 0x00000000#32) reducesTo_S8x16x8x2048_S8x16x8_d3 h_S_))

/-- The result. -/
def out (q : FVec Ideal S8x8x16x128 .f32) (k v : FVec Ideal S8x2048x16x128 .f32) : FVec Ideal S8x8x16x128 .f32 :=
  transpose S8x8x16x128 [0, 3, 1, 2]
    (Host.dotGeneral dot_S8x2048x16x128_S8x16x8x2048_S8x16x128x8_1_3_3_2_02_01 none v (weights (scores q k)))
    transposes_S8x16x128x8_S8x8x16x128_0_3_1_2

/-- One score. -/
theorem scores_apply (q : FVec Ideal S8x8x16x128 .f32) (k : FVec Ideal S8x2048x16x128 .f32)
    (b : Fin 8) (h : Fin 16) (i : Fin 8) (t : Fin 2048) :
    scores q k (ix4 b h i t) = (∑ e : Fin 128, q (ix4 b i h e) * k (ix4 b t h e)) * Ideal.ofBits .f32 0x3DB504F3#32 := by
  pointwise [scores]

/-- A number repeated for every key, at one key. -/
theorem perKey_apply (x : FVec Ideal S8x16x8 .f32) (b : Fin 8) (h : Fin 16) (i : Fin 8) (t : Fin 2048) :
    perKey x (ix4 b h i t) = x (ix3 b h i) := by
  pointwise [perKey]

/-- The bit pattern the greatest score starts from is minus infinity. -/
theorem start_bot : Ideal.ofBits .f32 0xFF800000#32 = ⊥ := by
  simp [Ideal.ofBits, Ideal.ieee]

/-- One query's greatest score. -/
theorem greatest_apply (s : FVec Ideal S8x16x8x2048 .f32) (b : Fin 8) (h : Fin 16) (i : Fin 8) :
    greatest s (ix3 b h i) = Finset.univ.fold max (⊥ : EReal) (fun t : Fin 2048 => s (ix4 b h i t)) := by
  pointwise [greatest]
  rw [start_bot]

/-- One exponential. -/
theorem shifted_apply (s : FVec Ideal S8x16x8x2048 .f32) (b : Fin 8) (h : Fin 16) (i : Fin 8) (t : Fin 2048) :
    shifted s (ix4 b h i t) = Ideal.exp (s (ix4 b h i t) - greatest s (ix3 b h i)) := by
  pointwise [shifted, perKey]

/-- One weight. -/
theorem weights_apply (s : FVec Ideal S8x16x8x2048 .f32) (b : Fin 8) (h : Fin 16) (i : Fin 8) (t : Fin 2048) :
    weights s (ix4 b h i t) = Ideal.div (shifted s (ix4 b h i t)) (∑ t' : Fin 2048, shifted s (ix4 b h i t')) := by
  pointwise [weights, perKey]

/-- One element of the result. -/
theorem out_apply (q : FVec Ideal S8x8x16x128 .f32) (k v : FVec Ideal S8x2048x16x128 .f32)
    (b : Fin 8) (i : Fin 8) (h : Fin 16) (e : Fin 128) :
    out q k v (ix4 b i h e) = ∑ t : Fin 2048, v (ix4 b t h e) * weights (scores q k) (ix4 b h i t) := by
  pointwise [out]

end FlashDecode.Whole

end

end
-- ==== Proof.Value.lean ====
/-
What the kernel leaves in the result, over the extended reals, as a function of the whole arrays: on
every device, the reference's result.
-/
module

public import proofs.«01_k».proof.Proof.Reads
public import proofs.«01_k».proof.Proof.Arith
public import proofs.«01_k».proof.Proof.Softmax
public import proofs.«01_k».proof.Proof.Whole

@[expose] public section

noncomputable section

namespace FlashDecode

open Idealize.ShloMosaic Idealize.ShloMosaic.TcCoe
open Idealize.SL.Sem
open Cert.KernelIdeal Cert.KernelIdeal.Gen
open scoped BigOperators

/-- The whole shape of the keys and of the values. -/
abbrev SWhole : Shape := ⟨4, ![8, 2048, 16, 128]⟩

/-- Which of all keys a device's key is. -/
def key (d : Dev nD) (t : Fin 1024) : Fin 2048 := if d.val < 2 then Fin.castAdd 1024 t else Fin.natAdd 1024 t

/-- A device's keys and its neighbour's are all keys. -/
theorem sum_pair (d : Dev nD) (g : Fin 2048 → EReal) :
    (∑ t, g (key d t)) + ∑ t, g (key (xn d) t) = ∑ k, g k := by
  rw [sum_shards]
  fin_cases d
  · exact rfl
  · exact rfl
  · exact add_comm _ _
  · exact add_comm _ _

/-- Every key is on some device. -/
theorem key_surj (t : Fin 2048) : ∃ (d : Dev nD) (t' : Fin 1024), key d t' = t := by
  rcases Nat.lt_or_ge t.val 1024 with h | h
  · exact ⟨0, ⟨t.val, h⟩, rfl⟩
  · refine ⟨2, ⟨t.val - 1024, by omega⟩, Fin.ext ?_⟩
    show 1024 + (t.val - 1024) = t.val
    omega

/-- One score of the whole problem. -/
def score (Q : FVec Ideal S8x8x16x128 .f32) (K : FVec Ideal SWhole .f32) (b : Fin 8) (h : Fin 16) (i : Fin 8) (t : Fin 2048) : EReal :=
  (∑ e : Fin 128, Q (ix4 b i h e) * K (ix4 b t h e)) * factor

section Parts

variable (m : (ℓ : Loc nD τ sig) → Buf (Elt Ideal) ℓ)
  (Q : FVec Ideal S8x8x16x128 .f32) (K V : FVec Ideal SWhole .f32)

/-- The devices hold their parts of the whole arrays. -/
structure Holds : Prop where
  q : ∀ (d : Dev nD) b i h e, (m ((d : Thread nD τ).loc main_arg0) : FVec Ideal S8x8x16x128 .f32) (ix4 b i h e) = Q (ix4 b i h e)
  k : ∀ (d : Dev nD) b t h e, (m ((d : Thread nD τ).loc main_arg1) : FVec Ideal S8x1024x16x128 .f32) (ix4 b t h e) = K (ix4 b (key d t) h e)
  v : ∀ (d : Dev nD) b t h e, (m ((d : Thread nD τ).loc main_arg2) : FVec Ideal S8x1024x16x128 .f32) (ix4 b t h e) = V (ix4 b (key d t) h e)

variable {m Q K V}

/-- One weight before normalising: the exponential of its score. -/
theorem exps_eq (H : Holds m Q K V) (d : Dev nD) (b : Fin 8) (h : Fin 16) (i : Fin 8) (t : Fin 1024) :
    expS (qv m d b h) (kv m d b h) (ix2 i t) = Ideal.exp (score Q K b h i (key d t)) := by
  rw [expS_apply]
  refine congrArg (fun x => Ideal.exp (x * factor)) (Finset.sum_congr rfl fun e _ => ?_)
  rw [← H.q d, ← H.k d]
  exact congrArg₂ (· * ·) (argQ_read b h _ i e) (argK_read b h _ t e)

/-- One denominator of a device: the sum over its keys. -/
theorem lRow_eq (H : Holds m Q K V) (d : Dev nD) (b : Fin 8) (h : Fin 16) (i : Fin 8) :
    lRow m d b (ix2 i h) = ∑ t, Ideal.exp (score Q K b h i (key d t)) := by
  show lHead m d b h (ValueIdx.ix1 i) = _
  rw [← ix1_eq_valueIdx]
  show rowSum (expS (qv m d b h) (kv m d b h)) (ix1 i) = _
  rw [rowSum_apply]
  exact Finset.sum_congr rfl fun t _ => exps_eq H d b h i t

/-- The head of a lane. -/
theorem laneHead_lane (i : Fin 8) (h : Fin 16) (e : Fin 128) : laneHead (ix2 i (lane h e)) = h :=
  Fin.ext (show (128 * h.val + e.val) / 128 = h.val by omega)
/-- The place of a lane in its head. -/
theorem laneOff_lane (i : Fin 8) (h : Fin 16) (e : Fin 128) : laneOff (ix2 i (lane h e)) = e :=
  Fin.ext (show (128 * h.val + e.val) % 128 = e.val by omega)

/-- One numerator of a device: the weighted sum over its keys. -/
theorem nRow_eq (H : Holds m Q K V) (d : Dev nD) (b : Fin 8) (h : Fin 16) (i : Fin 8) (e : Fin 128) :
    nRow m d b (ix2 i (lane h e)) = ∑ t, Ideal.exp (score Q K b h i (key d t)) * V (ix4 b (key d t) h e) := by
  show nHead m d b (laneHead (ix2 i (lane h e))) (ValueIdx.ix2 i (laneOff (ix2 i (lane h e)))) = _
  rw [laneHead_lane, laneOff_lane, ← ix2_eq_valueIdx]
  show numer (expS (qv m d b h) (kv m d b h)) (vv m d b h) (ix2 i e) = _
  rw [numer_apply]
  refine Finset.sum_congr rfl fun t _ => ?_
  rw [exps_eq H, ← H.v d]
  exact congrArg (_ * ·) (argV_read b h _ t e)

/-- One element of a finished row. -/
theorem oRow_eq (H : Holds m Q K V) (d : Dev nD) (j : Fin 4) (i : Fin 8) (h : Fin 16) (e : Fin 128) :
    oRow m d j (ix2 i (lane h e))
      = Ideal.div (∑ k, Ideal.exp (score Q K (ownRow d j) h i k) * V (ix4 (ownRow d j) k h e))
          (∑ k, Ideal.exp (score Q K (ownRow d j) h i k)) := by
  unfold oRow
  rw [quot_apply, nRow_eq H, nRow_eq H, lRow_eq H, lRow_eq H,
    sum_pair d fun k => Ideal.exp (score Q K (ownRow d j) h i k) * V (ix4 (ownRow d j) k h e),
    sum_pair d fun k => Ideal.exp (score Q K (ownRow d j) h i k)]

/-- One element of a row of the result. -/
theorem outRow_eq (H : Holds m Q K V) (c : Dev nD) (b : Fin 8) (i : Fin 8) (h : Fin 16) (e : Fin 128) :
    outRow m c b (ix3 i h e)
      = Ideal.div (∑ k, Ideal.exp (score Q K b h i k) * V (ix4 b k h e)) (∑ k, Ideal.exp (score Q K b h i k)) := by
  obtain ⟨j | j, rfl⟩ := (rows c).surjective b
  · show outRow m c (ownRow c j) _ = Ideal.div (∑ k, Ideal.exp (score Q K (ownRow c j) h i k) * V (ix4 (ownRow c j) k h e)) (∑ k, Ideal.exp (score Q K (ownRow c j) h i k))
    rw [outRow_own]
    unfold outOwn
    rw [heads_apply, oRow_eq H]
  · show outRow m c (otherRow c j) _ = Ideal.div (∑ k, Ideal.exp (score Q K (otherRow c j) h i k) * V (ix4 (otherRow c j) k h e)) (∑ k, Ideal.exp (score Q K (otherRow c j) h i k))
    rw [outRow_other]
    show shapeCast S8x16x128 (oRow m (yn c) j) shapeCasts_S8x2048_S8x16x128 (ix3 i h e) = _
    rw [heads_apply, oRow_eq H, ownRow_yn]

end Parts

/-! ## The scores are real -/

/-- The factor is a real. -/
theorem factor_real : ∃ r : ℝ, factor = (r : EReal) := by
  unfold factor
  simp [Ideal.ofBits, Ideal.ieee]
  exact ⟨_, rfl⟩

/-- An extended real that is not infinite. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals is real. -/
theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih =>
    rw [Finset.sum_insert ha]
    obtain ⟨x, hx⟩ := hf a
    obtain ⟨y, hy⟩ := ih
    exact ⟨x + y, by rw [hx, hy, EReal.coe_add]⟩

/-- With real queries and keys the kernel's form is the reference's. -/
theorem forms_agree (Q : FVec Ideal S8x8x16x128 .f32) (K V : FVec Ideal SWhole .f32)
    (hQ : ∀ b i h e, IsReal (Q (ix4 b i h e))) (hK : ∀ b t h e, IsReal (K (ix4 b t h e)))
    (b : Fin 8) (i : Fin 8) (h : Fin 16) (e : Fin 128) :
    Ideal.div (∑ k, Ideal.exp (score Q K b h i k) * V (ix4 b k h e)) (∑ k, Ideal.exp (score Q K b h i k))
      = Whole.out Q K V (ix4 b i h e) := by
  have hx : ∀ t, ∃ x : ℝ, score Q K b h i t = (x : EReal) := fun t =>
    IsReal.mul (IsReal.sum _ _ fun e => (hQ b i h e).mul (hK b t h e)) factor_real
  choose x hx using hx
  have hs : ∀ t, Whole.scores Q K (ix4 b h i t) = (x t : EReal) := fun t => (Whole.scores_apply Q K b h i t).trans (hx t)
  have hsh : ∀ t, Whole.shifted (Whole.scores Q K) (ix4 b h i t)
      = Ideal.exp ((x t : EReal) - Finset.univ.fold max (⊥ : EReal) (fun k => ((x k : ℝ) : EReal))) := fun t => by
    rw [Whole.shifted_apply, Whole.greatest_apply, hs]
    simp only [hs]
  rw [Whole.out_apply]
  simp only [Whole.weights_apply, hsh, hx]
  exact softmax_forms x fun k => V (ix4 b k h e)

end FlashDecode

end

end
-- ==== Proof.Agree.lean ====
/-
The kernel and the reference side by side, over the extended reals: what the claim assumes of the two
memories, said element by element, and the result that both leave.
-/
module

public import proofs.«01_k».proof.Defs
public import proofs.«01_k».proof.Proof.Value

@[expose] public section

noncomputable section

namespace FlashDecode

open Idealize.ShloMosaic Idealize.ShloMosaic.TcCoe
open Idealize.SL.Sem
open Cert.KernelIdeal Cert.KernelIdeal.Gen

/-- A device's block of the keys or of the values, at one index. -/
theorem block_apply (A : FVec Ideal SWhole .f32) (c : Dev nD) (b : Fin 8) (t : Fin 1024) (h : Fin 16) (e : Fin 128) :
    (Layout.blockN ⟨4, ![8, 1024, 16, 128]⟩ ⟨4, ![8, 2048, 16, 128]⟩ (Layout.meshBlock [2, 2] ![[], [0], [], []] c) A)
      (ix4 b t h e) = A (ix4 b (key c t) h e) := by
  rw [Layout.blockN_apply]
  refine congrArg A (funext fun a => Fin.ext ?_)
  rw [Layout.TilesN.idx_val]
  match a with
  | ⟨0, _⟩ => exact (show 0 * 8 + b.val = b.val by omega)
  | ⟨2, _⟩ => exact (show 0 * 16 + h.val = h.val by omega)
  | ⟨3, _⟩ => exact (show 0 * 128 + e.val = e.val by omega)
  | ⟨1, _⟩ =>
    fin_cases c
    · exact (show 0 * 1024 + t.val = t.val by omega)
    · exact (show 0 * 1024 + t.val = t.val by omega)
    · exact (show 1 * 1024 + t.val = 1024 + t.val by omega)
    · exact (show 1 * 1024 + t.val = 1024 + t.val by omega)

/-- The bit pattern that the precondition compares with is plus infinity. -/
theorem bound_top : Ideal.ofBits .f32 0x7F800000#32 = ⊤ := by
  simp [Ideal.ofBits, Ideal.ieee]

/-- What the precondition tests of one element. -/
theorem real_of_test {x : EReal} (h : BitVec.ofBool (decide (max x (-x) < Ideal.ofBits .f32 0x7F800000#32)) = 1#1) : IsReal x := by
  rw [bound_top] at h
  have hx : max x (-x) < ⊤ := by
    by_contra hn
    rw [decide_eq_false hn] at h
    exact absurd h (by decide)
  have h1 : x ≠ ⊤ := fun e => by simp [e] at hx
  have h2 : x ≠ ⊥ := fun e => by simp [e] at hx
  exact ⟨x.toReal, (EReal.coe_toReal h1 h2).symm⟩

/-- The precondition's first half: every query is real. -/
theorem real_queries [Cert.Pre_finite_KernelIdeal.Facts] {q : FVec Ideal S8x8x16x128 .f32} {k v : FVec Ideal S8x1024x16x128 .f32}
    (h : (Cert.Pre_finite_KernelIdeal.fn (F := Ideal) q k v).1 = fun _ => 1#1) (x : S8x8x16x128.Idx) : IsReal (q x) :=
  real_of_test (congrFun h x)

/-- The precondition's second half: every key of the device is real. -/
theorem real_keys [Cert.Pre_finite_KernelIdeal.Facts] {q : FVec Ideal S8x8x16x128 .f32} {k v : FVec Ideal S8x1024x16x128 .f32}
    (h : (Cert.Pre_finite_KernelIdeal.fn (F := Ideal) q k v).2 = fun _ => 1#1) (x : S8x1024x16x128.Idx) : IsReal (k x) :=
  real_of_test (congrFun h x)

section Both

variable (m : (ℓ : Loc nD τ sig) → Buf (Elt Ideal) ℓ) (Q : FVec Ideal S8x8x16x128 .f32) (K V : FVec Ideal SWhole .f32)

/-- The devices' arrays, by the blocks that the claim names. -/
theorem holds_of_blocks
    (hq : ∀ c : Dev nD, m ((c : Thread nD τ).loc main_arg0) = Q)
    (hk : ∀ c : Dev nD, m ((c : Thread nD τ).loc main_arg1)
      = Layout.blockN ⟨4, ![8, 1024, 16, 128]⟩ ⟨4, ![8, 2048, 16, 128]⟩ (Layout.meshBlock [2, 2] ![[], [0], [], []] c) K)
    (hv : ∀ c : Dev nD, m ((c : Thread nD τ).loc main_arg2)
      = Layout.blockN ⟨4, ![8, 1024, 16, 128]⟩ ⟨4, ![8, 2048, 16, 128]⟩ (Layout.meshBlock [2, 2] ![[], [0], [], []] c) V) :
    Holds m Q K V where
  q d b i h e := congrFun (hq d) (ix4 b i h e)
  k d b t h e := (congrFun (hk d) (ix4 b t h e)).trans (block_apply K d b t h e)
  v d b t h e := (congrFun (hv d) (ix4 b t h e)).trans (block_apply V d b t h e)

variable {m Q K V}

/-- A result whose rows are the kernel's is the reference's result. -/
theorem whole_of_rows (H : Holds m Q K V) (hQ : ∀ b i h e, IsReal (Q (ix4 b i h e))) (hK : ∀ b t h e, IsReal (K (ix4 b t h e)))
    (c : Dev nD) (f : main_v1.ty.Contents (Elt Ideal)) (hf : ∀ b, (outB b).view.read (Elt Ideal) f = outRow m c b) :
    f = Whole.out Q K V := by
  funext x
  obtain ⟨b, i, h, e, rfl⟩ : ∃ (b i : Fin 8) (h : Fin 16) (e : Fin 128), x = ix4 b i h e := ⟨x 0, x 1, x 2, x 3, eq_ix4 x⟩
  rw [← outB_read b f i h e, hf, outRow_eq H, forms_agree Q K V hQ hK]

end Both

end FlashDecode

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at the device's own words. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (FlashDecode.run_main (F := Bits) m ρ)

/-- The kernel, over the reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (FlashDecode.run_main (F := Ideal) m ρ)

/-- The reference, over the reals: it has no semaphore at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The shapes that the precondition on a device's arrays takes. -/
theorem finiteFacts : Cert.Pre_finite_KernelIdeal.Facts where
  bcast_S_S8x8x16x128 := by decide
  bcast_S_S8x1024x16x128 := by decide

/-- The shapes that the same precondition on the whole arrays takes. -/
theorem finiteWholeFacts : Cert.Pre_finite_ReferenceIdeal.Facts where
  bcast_S_S8x8x16x128 := by decide
  bcast_S_S8x2048x16x128 := by decide

open FlashDecode in
/-- The kernel's result on every device is the reference's, when queries and keys are finite. -/
theorem agree : Cert.algebraic_KernelIdeal_ReferenceIdeal_pre_finite_KernelIdeal (hPre_finite_KernelIdeal := finiteFacts) := by
  intro m g m' g' hpre hargs
  have H := holds_of_blocks m _ _ _ (fun c => (hargs c).1) (fun c => (hargs c).2.1) (fun c => (hargs c).2.2)
  refine ⟨Whole.out _ _ _, (θ_run Cert.KernelIdeal.defs _ _).mono (fun _ h c => ⟨?_, (h.1 c).1, (h.1 c).2.1, (h.1 c).2.2.1⟩)
      (run_main (F := Ideal) m g),
    (θ_run Cert.ReferenceIdeal.defs _ _).mono (fun _ h => h 0) (Cert.ReferenceIdeal.Value.run (F := Ideal) m' g')⟩
  refine whole_of_rows H (fun b i h e => ?_) (fun b t h e => ?_) c _ (h.1 c).2.2.2
  · rw [← H.q 0]
    exact @real_queries finiteFacts _ _ _ (hpre 0).1 _
  · obtain ⟨d, t', rfl⟩ := key_surj t
    rw [← H.k d]
    exact @real_keys finiteFacts _ _ _ (hpre d).2 _

/-- All the claims together. -/
theorem claim : Cert.Claim := ⟨Cert.Kernel.Gen.facts, Cert.KernelIdeal.Gen.facts, Cert.ReferenceIdeal.Gen.facts,
  finiteFacts, finiteWholeFacts, frame_kernel, frame_ideal, fun m ρ _ => frame_ideal m ρ trivial,
  frame_reference, fun m ρ _ => frame_reference m ρ trivial, trivial, agree⟩

end Cert.Proof

end
